-- ==== Defs.lean ====
def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Wo (m : (ℓ : Loc Cert.Wo.nD Cert.Wo.τ Cert.Wo.sig) → Buf (Elt Bits) ℓ) : Prop :=
  True

def Pre_WoIdeal (m : (ℓ : Loc Cert.WoIdeal.nD Cert.WoIdeal.τ Cert.WoIdeal.sig) → Buf (Elt Ideal) ℓ) : Prop :=
  True

def Pre_WoRefIdeal (m : (ℓ : Loc Cert.WoRefIdeal.nD Cert.WoRefIdeal.τ Cert.WoRefIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesRefIdeal (m : (ℓ : Loc Cert.GatesRefIdeal.nD Cert.GatesRefIdeal.τ Cert.GatesRefIdeal.sig) → Buf (Elt Ideal) ℓ) : Prop :=
  True

def Pre_Zx (m : (ℓ : Loc Cert.Zx.nD Cert.Zx.τ Cert.Zx.sig) → Buf (Elt Bits) ℓ) : Prop :=
  True

def Pre_ZxIdeal (m : (ℓ : Loc Cert.ZxIdeal.nD Cert.ZxIdeal.τ Cert.ZxIdeal.sig) → Buf (Elt Ideal) ℓ) : Prop :=
  True

def Pre_ZxRefIdeal (m : (ℓ : Loc Cert.ZxRefIdeal.nD Cert.ZxRefIdeal.τ Cert.ZxRefIdeal.sig) → Buf (Elt Ideal) ℓ) : Prop :=
  True

def Pre_Dtr (m : (ℓ : Loc Cert.Dtr.nD Cert.Dtr.τ Cert.Dtr.sig) → Buf (Elt Bits) ℓ) : Prop :=
  True

def Pre_DtrIdeal (m : (ℓ : Loc Cert.DtrIdeal.nD Cert.DtrIdeal.τ Cert.DtrIdeal.sig) → Buf (Elt Ideal) ℓ) : Prop :=
  True

def Pre_DtrRefIdeal (m : (ℓ : Loc Cert.DtrRefIdeal.nD Cert.DtrRefIdeal.τ Cert.DtrRefIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluRefIdeal (m : (ℓ : Loc Cert.GluRefIdeal.nD Cert.GluRefIdeal.τ Cert.GluRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_FinP (m : (ℓ : Loc Cert.FinP.nD Cert.FinP.τ Cert.FinP.sig) → Buf (Elt Bits) ℓ) : Prop :=
  True

def Pre_FinPIdeal (m : (ℓ : Loc Cert.FinPIdeal.nD Cert.FinPIdeal.τ Cert.FinPIdeal.sig) → Buf (Elt Ideal) ℓ) : Prop :=
  True

def Pre_FinPRefIdeal (m : (ℓ : Loc Cert.FinPRefIdeal.nD Cert.FinPRefIdeal.τ Cert.FinPRefIdeal.sig) → Buf (Elt Ideal) ℓ) : Prop :=
  True

def Pre_FinS (m : (ℓ : Loc Cert.FinS.nD Cert.FinS.τ Cert.FinS.sig) → Buf (Elt Bits) ℓ) : Prop :=
  True

def Pre_FinSIdeal (m : (ℓ : Loc Cert.FinSIdeal.nD Cert.FinSIdeal.τ Cert.FinSIdeal.sig) → Buf (Elt Ideal) ℓ) : Prop :=
  True

def Pre_FinSRefIdeal (m : (ℓ : Loc Cert.FinSRefIdeal.nD Cert.FinSRefIdeal.τ Cert.FinSRefIdeal.sig) → Buf (Elt Ideal) ℓ) : Prop :=
  True

def Pre_Ssd (m : (ℓ : Loc Cert.Ssd.nD Cert.Ssd.τ Cert.Ssd.sig) → Buf (Elt Bits) ℓ) : Prop :=
  True

def Pre_SsdIdeal (m : (ℓ : Loc Cert.SsdIdeal.nD Cert.SsdIdeal.τ Cert.SsdIdeal.sig) → Buf (Elt Ideal) ℓ) : Prop :=
  True

def Pre_SsdRefIdeal (m : (ℓ : Loc Cert.SsdRefIdeal.nD Cert.SsdRefIdeal.τ Cert.SsdRefIdeal.sig) → Buf (Elt Ideal) ℓ) : Prop :=
  True

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_Wo [hWo : Cert.Wo.Facts] : Prop :=
  ∀ (m : (ℓ : Loc Cert.Wo.nD Cert.Wo.τ Cert.Wo.sig) → Buf (Elt Bits) ℓ) (g : Dev Cert.Wo.nD → PrngReg), Pre_Wo m →
    θ_run (Cert.Wo.defs (F := Bits)) (onTc (τ := Cert.Wo.τ) (Cert.Wo.main (F := Bits))) ⟨m, fun _ => 0, g⟩ (fun r => (∀ c : Dev Cert.Wo.nD,
      r.2.mem ((c.tc : Thread Cert.Wo.nD Cert.Wo.τ).loc Cert.Wo.main_arg0) = m ((c.tc : Thread Cert.Wo.nD Cert.Wo.τ).loc Cert.Wo.main_arg0)
      ∧ r.2.mem ((c.tc : Thread Cert.Wo.nD Cert.Wo.τ).loc Cert.Wo.main_arg1) = m ((c.tc : Thread Cert.Wo.nD Cert.Wo.τ).loc Cert.Wo.main_arg1)
      ∧ r.2.mem ((c.tc : Thread Cert.Wo.nD Cert.Wo.τ).loc Cert.Wo.main_arg2) = m ((c.tc : Thread Cert.Wo.nD Cert.Wo.τ).loc Cert.Wo.main_arg2))
      ∧ r.2.sem = fun _ => 0)

def quiescent_WoIdeal [hWoIdeal : Cert.WoIdeal.Facts] : Prop :=
  ∀ (m : (ℓ : Loc Cert.WoIdeal.nD Cert.WoIdeal.τ Cert.WoIdeal.sig) → Buf (Elt Ideal) ℓ) (g : Dev Cert.WoIdeal.nD → PrngReg), Pre_WoIdeal m →
    θ_run (Cert.WoIdeal.defs (F := Ideal)) (onTc (τ := Cert.WoIdeal.τ) (Cert.WoIdeal.main (F := Ideal))) ⟨m, fun _ => 0, g⟩ (fun r => (∀ c : Dev Cert.WoIdeal.nD,
      r.2.mem ((c.tc : Thread Cert.WoIdeal.nD Cert.WoIdeal.τ).loc Cert.WoIdeal.main_arg0) = m ((c.tc : Thread Cert.WoIdeal.nD Cert.WoIdeal.τ).loc Cert.WoIdeal.main_arg0)
      ∧ r.2.mem ((c.tc : Thread Cert.WoIdeal.nD Cert.WoIdeal.τ).loc Cert.WoIdeal.main_arg1) = m ((c.tc : Thread Cert.WoIdeal.nD Cert.WoIdeal.τ).loc Cert.WoIdeal.main_arg1)
      ∧ r.2.mem ((c.tc : Thread Cert.WoIdeal.nD Cert.WoIdeal.τ).loc Cert.WoIdeal.main_arg2) = m ((c.tc : Thread Cert.WoIdeal.nD Cert.WoIdeal.τ).loc Cert.WoIdeal.main_arg2))
      ∧ r.2.sem = fun _ => 0)

def quiescent_WoRefIdeal [hWoRefIdeal : Cert.WoRefIdeal.Facts] : Prop :=
  ∀ (m : (ℓ : Loc Cert.WoRefIdeal.nD Cert.WoRefIdeal.τ Cert.WoRefIdeal.sig) → Buf (Elt Ideal) ℓ) (g : Dev Cert.WoRefIdeal.nD → PrngReg), Pre_WoRefIdeal m →
    θ_run (Cert.WoRefIdeal.defs (F := Ideal)) (onTc (τ := Cert.WoRefIdeal.τ) (Cert.WoRefIdeal.main (F := Ideal))) ⟨m, fun _ => 0, g⟩ (fun r => (∀ c : Dev Cert.WoRefIdeal.nD,
      r.2.mem ((c.tc : Thread Cert.WoRefIdeal.nD Cert.WoRefIdeal.τ).loc Cert.WoRefIdeal.main_arg0) = m ((c.tc : Thread Cert.WoRefIdeal.nD Cert.WoRefIdeal.τ).loc Cert.WoRefIdeal.main_arg0)
      ∧ r.2.mem ((c.tc : Thread Cert.WoRefIdeal.nD Cert.WoRefIdeal.τ).loc Cert.WoRefIdeal.main_arg1) = m ((c.tc : Thread Cert.WoRefIdeal.nD Cert.WoRefIdeal.τ).loc Cert.WoRefIdeal.main_arg1)
      ∧ r.2.mem ((c.tc : Thread Cert.WoRefIdeal.nD Cert.WoRefIdeal.τ).loc Cert.WoRefIdeal.main_arg2) = m ((c.tc : Thread Cert.WoRefIdeal.nD Cert.WoRefIdeal.τ).loc Cert.WoRefIdeal.main_arg2))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ r.2.sem = fun _ => 0)

def quiescent_GatesRefIdeal [hGatesRefIdeal : Cert.GatesRefIdeal.Facts] : Prop :=
  ∀ (m : (ℓ : Loc Cert.GatesRefIdeal.nD Cert.GatesRefIdeal.τ Cert.GatesRefIdeal.sig) → Buf (Elt Ideal) ℓ) (g : Dev Cert.GatesRefIdeal.nD → PrngReg), Pre_GatesRefIdeal m →
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0)
      ∧ r.2.mem ((c.tc : Thread Cert.GatesRefIdeal.nD Cert.GatesRefIdeal.τ).loc Cert.GatesRefIdeal.main_arg1) = m ((c.tc : Thread Cert.GatesRefIdeal.nD Cert.GatesRefIdeal.τ).loc Cert.GatesRefIdeal.main_arg1))
      ∧ r.2.sem = fun _ => 0)

def quiescent_Zx [hZx : Cert.Zx.Facts] : Prop :=
  ∀ (m : (ℓ : Loc Cert.Zx.nD Cert.Zx.τ Cert.Zx.sig) → Buf (Elt Bits) ℓ) (g : Dev Cert.Zx.nD → PrngReg), Pre_Zx m →
    θ_run (Cert.Zx.defs (F := Bits)) (onTc (τ := Cert.Zx.τ) (Cert.Zx.main (F := Bits))) ⟨m, fun _ => 0, g⟩ (fun r => (∀ c : Dev Cert.Zx.nD,
      r.2.mem ((c.tc : Thread Cert.Zx.nD Cert.Zx.τ).loc Cert.Zx.main_arg0) = m ((c.tc : Thread Cert.Zx.nD Cert.Zx.τ).loc Cert.Zx.main_arg0)
      ∧ r.2.mem ((c.tc : Thread Cert.Zx.nD Cert.Zx.τ).loc Cert.Zx.main_arg1) = m ((c.tc : Thread Cert.Zx.nD Cert.Zx.τ).loc Cert.Zx.main_arg1))
      ∧ r.2.sem = fun _ => 0)

def quiescent_ZxIdeal [hZxIdeal : Cert.ZxIdeal.Facts] : Prop :=
  ∀ (m : (ℓ : Loc Cert.ZxIdeal.nD Cert.ZxIdeal.τ Cert.ZxIdeal.sig) → Buf (Elt Ideal) ℓ) (g : Dev Cert.ZxIdeal.nD → PrngReg), Pre_ZxIdeal m →
    θ_run (Cert.ZxIdeal.defs (F := Ideal)) (onTc (τ := Cert.ZxIdeal.τ) (Cert.ZxIdeal.main (F := Ideal))) ⟨m, fun _ => 0, g⟩ (fun r => (∀ c : Dev Cert.ZxIdeal.nD,
      r.2.mem ((c.tc : Thread Cert.ZxIdeal.nD Cert.ZxIdeal.τ).loc Cert.ZxIdeal.main_arg0) = m ((c.tc : Thread Cert.ZxIdeal.nD Cert.ZxIdeal.τ).loc Cert.ZxIdeal.main_arg0)
      ∧ r.2.mem ((c.tc : Thread Cert.ZxIdeal.nD Cert.ZxIdeal.τ).loc Cert.ZxIdeal.main_arg1) = m ((c.tc : Thread Cert.ZxIdeal.nD Cert.ZxIdeal.τ).loc Cert.ZxIdeal.main_arg1))
      ∧ r.2.sem = fun _ => 0)

def quiescent_ZxRefIdeal [hZxRefIdeal : Cert.ZxRefIdeal.Facts] : Prop :=
  ∀ (m : (ℓ : Loc Cert.ZxRefIdeal.nD Cert.ZxRefIdeal.τ Cert.ZxRefIdeal.sig) → Buf (Elt Ideal) ℓ) (g : Dev Cert.ZxRefIdeal.nD → PrngReg), Pre_ZxRefIdeal m →
    θ_run (Cert.ZxRefIdeal.defs (F := Ideal)) (onTc (τ := Cert.ZxRefIdeal.τ) (Cert.ZxRefIdeal.main (F := Ideal))) ⟨m, fun _ => 0, g⟩ (fun r => (∀ c : Dev Cert.ZxRefIdeal.nD,
      r.2.mem ((c.tc : Thread Cert.ZxRefIdeal.nD Cert.ZxRefIdeal.τ).loc Cert.ZxRefIdeal.main_arg0) = m ((c.tc : Thread Cert.ZxRefIdeal.nD Cert.ZxRefIdeal.τ).loc Cert.ZxRefIdeal.main_arg0)
      ∧ r.2.mem ((c.tc : Thread Cert.ZxRefIdeal.nD Cert.ZxRefIdeal.τ).loc Cert.ZxRefIdeal.main_arg1) = m ((c.tc : Thread Cert.ZxRefIdeal.nD Cert.ZxRefIdeal.τ).loc Cert.ZxRefIdeal.main_arg1))
      ∧ r.2.sem = fun _ => 0)

def quiescent_Dtr [hDtr : Cert.Dtr.Facts] : Prop :=
  ∀ (m : (ℓ : Loc Cert.Dtr.nD Cert.Dtr.τ Cert.Dtr.sig) → Buf (Elt Bits) ℓ) (g : Dev Cert.Dtr.nD → PrngReg), Pre_Dtr m →
    θ_run (Cert.Dtr.defs (F := Bits)) (onTc (τ := Cert.Dtr.τ) (Cert.Dtr.main (F := Bits))) ⟨m, fun _ => 0, g⟩ (fun r => (∀ c : Dev Cert.Dtr.nD,
      r.2.mem ((c.tc : Thread Cert.Dtr.nD Cert.Dtr.τ).loc Cert.Dtr.main_arg0) = m ((c.tc : Thread Cert.Dtr.nD Cert.Dtr.τ).loc Cert.Dtr.main_arg0)
      ∧ r.2.mem ((c.tc : Thread Cert.Dtr.nD Cert.Dtr.τ).loc Cert.Dtr.main_arg1) = m ((c.tc : Thread Cert.Dtr.nD Cert.Dtr.τ).loc Cert.Dtr.main_arg1))
      ∧ r.2.sem = fun _ => 0)

def quiescent_DtrIdeal [hDtrIdeal : Cert.DtrIdeal.Facts] : Prop :=
  ∀ (m : (ℓ : Loc Cert.DtrIdeal.nD Cert.DtrIdeal.τ Cert.DtrIdeal.sig) → Buf (Elt Ideal) ℓ) (g : Dev Cert.DtrIdeal.nD → PrngReg), Pre_DtrIdeal m →
    θ_run (Cert.DtrIdeal.defs (F := Ideal)) (onTc (τ := Cert.DtrIdeal.τ) (Cert.DtrIdeal.main (F := Ideal))) ⟨m, fun _ => 0, g⟩ (fun r => (∀ c : Dev Cert.DtrIdeal.nD,
      r.2.mem ((c.tc : Thread Cert.DtrIdeal.nD Cert.DtrIdeal.τ).loc Cert.DtrIdeal.main_arg0) = m ((c.tc : Thread Cert.DtrIdeal.nD Cert.DtrIdeal.τ).loc Cert.DtrIdeal.main_arg0)
      ∧ r.2.mem ((c.tc : Thread Cert.DtrIdeal.nD Cert.DtrIdeal.τ).loc Cert.DtrIdeal.main_arg1) = m ((c.tc : Thread Cert.DtrIdeal.nD Cert.DtrIdeal.τ).loc Cert.DtrIdeal.main_arg1))
      ∧ r.2.sem = fun _ => 0)

def quiescent_DtrRefIdeal [hDtrRefIdeal : Cert.DtrRefIdeal.Facts] : Prop :=
  ∀ (m : (ℓ : Loc Cert.DtrRefIdeal.nD Cert.DtrRefIdeal.τ Cert.DtrRefIdeal.sig) → Buf (Elt Ideal) ℓ) (g : Dev Cert.DtrRefIdeal.nD → PrngReg), Pre_DtrRefIdeal m →
    θ_run (Cert.DtrRefIdeal.defs (F := Ideal)) (onTc (τ := Cert.DtrRefIdeal.τ) (Cert.DtrRefIdeal.main (F := Ideal))) ⟨m, fun _ => 0, g⟩ (fun r => (∀ c : Dev Cert.DtrRefIdeal.nD,
      r.2.mem ((c.tc : Thread Cert.DtrRefIdeal.nD Cert.DtrRefIdeal.τ).loc Cert.DtrRefIdeal.main_arg0) = m ((c.tc : Thread Cert.DtrRefIdeal.nD Cert.DtrRefIdeal.τ).loc Cert.DtrRefIdeal.main_arg0)
      ∧ r.2.mem ((c.tc : Thread Cert.DtrRefIdeal.nD Cert.DtrRefIdeal.τ).loc Cert.DtrRefIdeal.main_arg1) = m ((c.tc : Thread Cert.DtrRefIdeal.nD Cert.DtrRefIdeal.τ).loc Cert.DtrRefIdeal.main_arg1))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_FinP [hFinP : Cert.FinP.Facts] : Prop :=
  ∀ (m : (ℓ : Loc Cert.FinP.nD Cert.FinP.τ Cert.FinP.sig) → Buf (Elt Bits) ℓ) (g : Dev Cert.FinP.nD → PrngReg), Pre_FinP m →
    θ_run (Cert.FinP.defs (F := Bits)) (onTc (τ := Cert.FinP.τ) (Cert.FinP.main (F := Bits))) ⟨m, fun _ => 0, g⟩ (fun r => (∀ c : Dev Cert.FinP.nD,
      r.2.mem ((c.tc : Thread Cert.FinP.nD Cert.FinP.τ).loc Cert.FinP.main_arg0) = m ((c.tc : Thread Cert.FinP.nD Cert.FinP.τ).loc Cert.FinP.main_arg0)
      ∧ r.2.mem ((c.tc : Thread Cert.FinP.nD Cert.FinP.τ).loc Cert.FinP.main_arg1) = m ((c.tc : Thread Cert.FinP.nD Cert.FinP.τ).loc Cert.FinP.main_arg1))
      ∧ r.2.sem = fun _ => 0)

def quiescent_FinPIdeal [hFinPIdeal : Cert.FinPIdeal.Facts] : Prop :=
  ∀ (m : (ℓ : Loc Cert.FinPIdeal.nD Cert.FinPIdeal.τ Cert.FinPIdeal.sig) → Buf (Elt Ideal) ℓ) (g : Dev Cert.FinPIdeal.nD → PrngReg), Pre_FinPIdeal m →
    θ_run (Cert.FinPIdeal.defs (F := Ideal)) (onTc (τ := Cert.FinPIdeal.τ) (Cert.FinPIdeal.main (F := Ideal))) ⟨m, fun _ => 0, g⟩ (fun r => (∀ c : Dev Cert.FinPIdeal.nD,
      r.2.mem ((c.tc : Thread Cert.FinPIdeal.nD Cert.FinPIdeal.τ).loc Cert.FinPIdeal.main_arg0) = m ((c.tc : Thread Cert.FinPIdeal.nD Cert.FinPIdeal.τ).loc Cert.FinPIdeal.main_arg0)
      ∧ r.2.mem ((c.tc : Thread Cert.FinPIdeal.nD Cert.FinPIdeal.τ).loc Cert.FinPIdeal.main_arg1) = m ((c.tc : Thread Cert.FinPIdeal.nD Cert.FinPIdeal.τ).loc Cert.FinPIdeal.main_arg1))
      ∧ r.2.sem = fun _ => 0)

def quiescent_FinPRefIdeal [hFinPRefIdeal : Cert.FinPRefIdeal.Facts] : Prop :=
  ∀ (m : (ℓ : Loc Cert.FinPRefIdeal.nD Cert.FinPRefIdeal.τ Cert.FinPRefIdeal.sig) → Buf (Elt Ideal) ℓ) (g : Dev Cert.FinPRefIdeal.nD → PrngReg), Pre_FinPRefIdeal m →
    θ_run (Cert.FinPRefIdeal.defs (F := Ideal)) (onTc (τ := Cert.FinPRefIdeal.τ) (Cert.FinPRefIdeal.main (F := Ideal))) ⟨m, fun _ => 0, g⟩ (fun r => (∀ c : Dev Cert.FinPRefIdeal.nD,
      r.2.mem ((c.tc : Thread Cert.FinPRefIdeal.nD Cert.FinPRefIdeal.τ).loc Cert.FinPRefIdeal.main_arg0) = m ((c.tc : Thread Cert.FinPRefIdeal.nD Cert.FinPRefIdeal.τ).loc Cert.FinPRefIdeal.main_arg0)
      ∧ r.2.mem ((c.tc : Thread Cert.FinPRefIdeal.nD Cert.FinPRefIdeal.τ).loc Cert.FinPRefIdeal.main_arg1) = m ((c.tc : Thread Cert.FinPRefIdeal.nD Cert.FinPRefIdeal.τ).loc Cert.FinPRefIdeal.main_arg1))
      ∧ r.2.sem = fun _ => 0)

def quiescent_FinS [hFinS : Cert.FinS.Facts] : Prop :=
  ∀ (m : (ℓ : Loc Cert.FinS.nD Cert.FinS.τ Cert.FinS.sig) → Buf (Elt Bits) ℓ) (g : Dev Cert.FinS.nD → PrngReg), Pre_FinS m →
    θ_run (Cert.FinS.defs (F := Bits)) (onTc (τ := Cert.FinS.τ) (Cert.FinS.main (F := Bits))) ⟨m, fun _ => 0, g⟩ (fun r => (∀ c : Dev Cert.FinS.nD,
      r.2.mem ((c.tc : Thread Cert.FinS.nD Cert.FinS.τ).loc Cert.FinS.main_arg0) = m ((c.tc : Thread Cert.FinS.nD Cert.FinS.τ).loc Cert.FinS.main_arg0)
      ∧ r.2.mem ((c.tc : Thread Cert.FinS.nD Cert.FinS.τ).loc Cert.FinS.main_arg1) = m ((c.tc : Thread Cert.FinS.nD Cert.FinS.τ).loc Cert.FinS.main_arg1))
      ∧ r.2.sem = fun _ => 0)

def quiescent_FinSIdeal [hFinSIdeal : Cert.FinSIdeal.Facts] : Prop :=
  ∀ (m : (ℓ : Loc Cert.FinSIdeal.nD Cert.FinSIdeal.τ Cert.FinSIdeal.sig) → Buf (Elt Ideal) ℓ) (g : Dev Cert.FinSIdeal.nD → PrngReg), Pre_FinSIdeal m →
    θ_run (Cert.FinSIdeal.defs (F := Ideal)) (onTc (τ := Cert.FinSIdeal.τ) (Cert.FinSIdeal.main (F := Ideal))) ⟨m, fun _ => 0, g⟩ (fun r => (∀ c : Dev Cert.FinSIdeal.nD,
      r.2.mem ((c.tc : Thread Cert.FinSIdeal.nD Cert.FinSIdeal.τ).loc Cert.FinSIdeal.main_arg0) = m ((c.tc : Thread Cert.FinSIdeal.nD Cert.FinSIdeal.τ).loc Cert.FinSIdeal.main_arg0)
      ∧ r.2.mem ((c.tc : Thread Cert.FinSIdeal.nD Cert.FinSIdeal.τ).loc Cert.FinSIdeal.main_arg1) = m ((c.tc : Thread Cert.FinSIdeal.nD Cert.FinSIdeal.τ).loc Cert.FinSIdeal.main_arg1))
      ∧ r.2.sem = fun _ => 0)

def quiescent_FinSRefIdeal [hFinSRefIdeal : Cert.FinSRefIdeal.Facts] : Prop :=
  ∀ (m : (ℓ : Loc Cert.FinSRefIdeal.nD Cert.FinSRefIdeal.τ Cert.FinSRefIdeal.sig) → Buf (Elt Ideal) ℓ) (g : Dev Cert.FinSRefIdeal.nD → PrngReg), Pre_FinSRefIdeal m →
    θ_run (Cert.FinSRefIdeal.defs (F := Ideal)) (onTc (τ := Cert.FinSRefIdeal.τ) (Cert.FinSRefIdeal.main (F := Ideal))) ⟨m, fun _ => 0, g⟩ (fun r => (∀ c : Dev Cert.FinSRefIdeal.nD,
      r.2.mem ((c.tc : Thread Cert.FinSRefIdeal.nD Cert.FinSRefIdeal.τ).loc Cert.FinSRefIdeal.main_arg0) = m ((c.tc : Thread Cert.FinSRefIdeal.nD Cert.FinSRefIdeal.τ).loc Cert.FinSRefIdeal.main_arg0)
      ∧ r.2.mem ((c.tc : Thread Cert.FinSRefIdeal.nD Cert.FinSRefIdeal.τ).loc Cert.FinSRefIdeal.main_arg1) = m ((c.tc : Thread Cert.FinSRefIdeal.nD Cert.FinSRefIdeal.τ).loc Cert.FinSRefIdeal.main_arg1))
      ∧ r.2.sem = fun _ => 0)

def quiescent_Ssd [hSsd : Cert.Ssd.Facts] : Prop :=
  ∀ (m : (ℓ : Loc Cert.Ssd.nD Cert.Ssd.τ Cert.Ssd.sig) → Buf (Elt Bits) ℓ) (g : Dev Cert.Ssd.nD → PrngReg), Pre_Ssd m →
    θ_run (Cert.Ssd.defs (F := Bits)) (onTc (τ := Cert.Ssd.τ) (Cert.Ssd.main (F := Bits))) ⟨m, fun _ => 0, g⟩ (fun r => (∀ c : Dev Cert.Ssd.nD,
      r.2.mem ((c.tc : Thread Cert.Ssd.nD Cert.Ssd.τ).loc Cert.Ssd.main_arg0) = m ((c.tc : Thread Cert.Ssd.nD Cert.Ssd.τ).loc Cert.Ssd.main_arg0)
      ∧ r.2.mem ((c.tc : Thread Cert.Ssd.nD Cert.Ssd.τ).loc Cert.Ssd.main_arg1) = m ((c.tc : Thread Cert.Ssd.nD Cert.Ssd.τ).loc Cert.Ssd.main_arg1)
      ∧ r.2.mem ((c.tc : Thread Cert.Ssd.nD Cert.Ssd.τ).loc Cert.Ssd.main_arg2) = m ((c.tc : Thread Cert.Ssd.nD Cert.Ssd.τ).loc Cert.Ssd.main_arg2)
      ∧ r.2.mem ((c.tc : Thread Cert.Ssd.nD Cert.Ssd.τ).loc Cert.Ssd.main_arg3) = m ((c.tc : Thread Cert.Ssd.nD Cert.Ssd.τ).loc Cert.Ssd.main_arg3)
      ∧ r.2.mem ((c.tc : Thread Cert.Ssd.nD Cert.Ssd.τ).loc Cert.Ssd.main_arg4) = m ((c.tc : Thread Cert.Ssd.nD Cert.Ssd.τ).loc Cert.Ssd.main_arg4)
      ∧ r.2.mem ((c.tc : Thread Cert.Ssd.nD Cert.Ssd.τ).loc Cert.Ssd.main_arg5) = m ((c.tc : Thread Cert.Ssd.nD Cert.Ssd.τ).loc Cert.Ssd.main_arg5)
      ∧ r.2.mem ((c.tc : Thread Cert.Ssd.nD Cert.Ssd.τ).loc Cert.Ssd.main_arg6) = m ((c.tc : Thread Cert.Ssd.nD Cert.Ssd.τ).loc Cert.Ssd.main_arg6)
      ∧ r.2.mem ((c.tc : Thread Cert.Ssd.nD Cert.Ssd.τ).loc Cert.Ssd.main_arg7) = m ((c.tc : Thread Cert.Ssd.nD Cert.Ssd.τ).loc Cert.Ssd.main_arg7))
      ∧ r.2.sem = fun _ => 0)

def quiescent_SsdIdeal [hSsdIdeal : Cert.SsdIdeal.Facts] : Prop :=
  ∀ (m : (ℓ : Loc Cert.SsdIdeal.nD Cert.SsdIdeal.τ Cert.SsdIdeal.sig) → Buf (Elt Ideal) ℓ) (g : Dev Cert.SsdIdeal.nD → PrngReg), Pre_SsdIdeal m →
    θ_run (Cert.SsdIdeal.defs (F := Ideal)) (onTc (τ := Cert.SsdIdeal.τ) (Cert.SsdIdeal.main (F := Ideal))) ⟨m, fun _ => 0, g⟩ (fun r => (∀ c : Dev Cert.SsdIdeal.nD,
      r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
      ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
      ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2)
      ∧ r.2.mem ((c.tc : Thread Cert.SsdIdeal.nD Cert.SsdIdeal.τ).loc Cert.SsdIdeal.main_arg3) = m ((c.tc : Thread Cert.SsdIdeal.nD Cert.SsdIdeal.τ).loc Cert.SsdIdeal.main_arg3)
      ∧ r.2.mem ((c.tc : Thread Cert.SsdIdeal.nD Cert.SsdIdeal.τ).loc Cert.SsdIdeal.main_arg4) = m ((c.tc : Thread Cert.SsdIdeal.nD Cert.SsdIdeal.τ).loc Cert.SsdIdeal.main_arg4)
      ∧ r.2.mem ((c.tc : Thread Cert.SsdIdeal.nD Cert.SsdIdeal.τ).loc Cert.SsdIdeal.main_arg5) = m ((c.tc : Thread Cert.SsdIdeal.nD Cert.SsdIdeal.τ).loc Cert.SsdIdeal.main_arg5)
      ∧ r.2.mem ((c.tc : Thread Cert.SsdIdeal.nD Cert.SsdIdeal.τ).loc Cert.SsdIdeal.main_arg6) = m ((c.tc : Thread Cert.SsdIdeal.nD Cert.SsdIdeal.τ).loc Cert.SsdIdeal.main_arg6)
      ∧ r.2.mem ((c.tc : Thread Cert.SsdIdeal.nD Cert.SsdIdeal.τ).loc Cert.SsdIdeal.main_arg7) = m ((c.tc : Thread Cert.SsdIdeal.nD Cert.SsdIdeal.τ).loc Cert.SsdIdeal.main_arg7))
      ∧ r.2.sem = fun _ => 0)

def quiescent_SsdRefIdeal [hSsdRefIdeal : Cert.SsdRefIdeal.Facts] : Prop :=
  ∀ (m : (ℓ : Loc Cert.SsdRefIdeal.nD Cert.SsdRefIdeal.τ Cert.SsdRefIdeal.sig) → Buf (Elt Ideal) ℓ) (g : Dev Cert.SsdRefIdeal.nD → PrngReg), Pre_SsdRefIdeal m →
    θ_run (Cert.SsdRefIdeal.defs (F := Ideal)) (onTc (τ := Cert.SsdRefIdeal.τ) (Cert.SsdRefIdeal.main (F := Ideal))) ⟨m, fun _ => 0, g⟩ (fun r => (∀ c : Dev Cert.SsdRefIdeal.nD,
      r.2.mem ((c.tc : Thread Cert.SsdRefIdeal.nD Cert.SsdRefIdeal.τ).loc Cert.SsdRefIdeal.main_arg0) = m ((c.tc : Thread Cert.SsdRefIdeal.nD Cert.SsdRefIdeal.τ).loc Cert.SsdRefIdeal.main_arg0)
      ∧ r.2.mem ((c.tc : Thread Cert.SsdRefIdeal.nD Cert.SsdRefIdeal.τ).loc Cert.SsdRefIdeal.main_arg1) = m ((c.tc : Thread Cert.SsdRefIdeal.nD Cert.SsdRefIdeal.τ).loc Cert.SsdRefIdeal.main_arg1)
      ∧ r.2.mem ((c.tc : Thread Cert.SsdRefIdeal.nD Cert.SsdRefIdeal.τ).loc Cert.SsdRefIdeal.main_arg2) = m ((c.tc : Thread Cert.SsdRefIdeal.nD Cert.SsdRefIdeal.τ).loc Cert.SsdRefIdeal.main_arg2)
      ∧ r.2.mem ((c.tc : Thread Cert.SsdRefIdeal.nD Cert.SsdRefIdeal.τ).loc Cert.SsdRefIdeal.main_arg3) = m ((c.tc : Thread Cert.SsdRefIdeal.nD Cert.SsdRefIdeal.τ).loc Cert.SsdRefIdeal.main_arg3)
      ∧ r.2.mem ((c.tc : Thread Cert.SsdRefIdeal.nD Cert.SsdRefIdeal.τ).loc Cert.SsdRefIdeal.main_arg4) = m ((c.tc : Thread Cert.SsdRefIdeal.nD Cert.SsdRefIdeal.τ).loc Cert.SsdRefIdeal.main_arg4)
      ∧ r.2.mem ((c.tc : Thread Cert.SsdRefIdeal.nD Cert.SsdRefIdeal.τ).loc Cert.SsdRefIdeal.main_arg5) = m ((c.tc : Thread Cert.SsdRefIdeal.nD Cert.SsdRefIdeal.τ).loc Cert.SsdRefIdeal.main_arg5)
      ∧ r.2.mem ((c.tc : Thread Cert.SsdRefIdeal.nD Cert.SsdRefIdeal.τ).loc Cert.SsdRefIdeal.main_arg6) = m ((c.tc : Thread Cert.SsdRefIdeal.nD Cert.SsdRefIdeal.τ).loc Cert.SsdRefIdeal.main_arg6)
      ∧ r.2.mem ((c.tc : Thread Cert.SsdRefIdeal.nD Cert.SsdRefIdeal.τ).loc Cert.SsdRefIdeal.main_arg7) = m ((c.tc : Thread Cert.SsdRefIdeal.nD Cert.SsdRefIdeal.τ).loc Cert.SsdRefIdeal.main_arg7))
      ∧ r.2.sem = fun _ => 0)

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v6) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v4) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_Wo_WoIdeal : Prop :=
  True

def algebraic_WoIdeal_WoRefIdeal [hWoIdeal : Cert.WoIdeal.Facts] [hWoRefIdeal : Cert.WoRefIdeal.Facts] : Prop :=
  ∀ (m : (ℓ : Loc Cert.WoIdeal.nD Cert.WoIdeal.τ Cert.WoIdeal.sig) → Buf (Elt Ideal) ℓ) (g : Dev Cert.WoIdeal.nD → PrngReg)
    (m' : (ℓ : Loc Cert.WoRefIdeal.nD Cert.WoRefIdeal.τ Cert.WoRefIdeal.sig) → Buf (Elt Ideal) ℓ) (g' : Dev Cert.WoRefIdeal.nD → PrngReg), Pre_WoIdeal m →
    (∀ c : Dev Cert.WoIdeal.nD,
      m' ((c.tc : Thread Cert.WoRefIdeal.nD Cert.WoRefIdeal.τ).loc Cert.WoRefIdeal.main_arg0) = m ((c.tc : Thread Cert.WoIdeal.nD Cert.WoIdeal.τ).loc Cert.WoIdeal.main_arg0)
      ∧ m' ((c.tc : Thread Cert.WoRefIdeal.nD Cert.WoRefIdeal.τ).loc Cert.WoRefIdeal.main_arg1) = m ((c.tc : Thread Cert.WoIdeal.nD Cert.WoIdeal.τ).loc Cert.WoIdeal.main_arg1)
      ∧ m' ((c.tc : Thread Cert.WoRefIdeal.nD Cert.WoRefIdeal.τ).loc Cert.WoRefIdeal.main_arg2) = m ((c.tc : Thread Cert.WoIdeal.nD Cert.WoIdeal.τ).loc Cert.WoIdeal.main_arg2)) →
    ∃ (v0 : (c : Dev Cert.WoIdeal.nD) → Buf (Elt Ideal) ((c.tc : Thread Cert.WoIdeal.nD Cert.WoIdeal.τ).loc Cert.WoIdeal.main_v0)),
      θ_run (Cert.WoIdeal.defs (F := Ideal)) (onTc (τ := Cert.WoIdeal.τ) (Cert.WoIdeal.main (F := Ideal))) ⟨m, fun _ => 0, g⟩ (fun r => ∀ c : Dev Cert.WoIdeal.nD,
          r.2.mem ((c.tc : Thread Cert.WoIdeal.nD Cert.WoIdeal.τ).loc Cert.WoIdeal.main_v0) = v0 c
          ∧ r.2.mem ((c.tc : Thread Cert.WoIdeal.nD Cert.WoIdeal.τ).loc Cert.WoIdeal.main_arg0) = m ((c.tc : Thread Cert.WoIdeal.nD Cert.WoIdeal.τ).loc Cert.WoIdeal.main_arg0)
          ∧ r.2.mem ((c.tc : Thread Cert.WoIdeal.nD Cert.WoIdeal.τ).loc Cert.WoIdeal.main_arg1) = m ((c.tc : Thread Cert.WoIdeal.nD Cert.WoIdeal.τ).loc Cert.WoIdeal.main_arg1)
          ∧ r.2.mem ((c.tc : Thread Cert.WoIdeal.nD Cert.WoIdeal.τ).loc Cert.WoIdeal.main_arg2) = m ((c.tc : Thread Cert.WoIdeal.nD Cert.WoIdeal.τ).loc Cert.WoIdeal.main_arg2))
      ∧ θ_run (Cert.WoRefIdeal.defs (F := Ideal)) (onTc (τ := Cert.WoRefIdeal.τ) (Cert.WoRefIdeal.main (F := Ideal))) ⟨m', fun _ => 0, g'⟩ (fun r => ∀ c : Dev Cert.WoRefIdeal.nD,
          r.2.mem ((c.tc : Thread Cert.WoRefIdeal.nD Cert.WoRefIdeal.τ).loc Cert.WoRefIdeal.main_v4) = v0 c
          ∧ r.2.mem ((c.tc : Thread Cert.WoRefIdeal.nD Cert.WoRefIdeal.τ).loc Cert.WoRefIdeal.main_arg0) = m' ((c.tc : Thread Cert.WoRefIdeal.nD Cert.WoRefIdeal.τ).loc Cert.WoRefIdeal.main_arg0)
          ∧ r.2.mem ((c.tc : Thread Cert.WoRefIdeal.nD Cert.WoRefIdeal.τ).loc Cert.WoRefIdeal.main_arg1) = m' ((c.tc : Thread Cert.WoRefIdeal.nD Cert.WoRefIdeal.τ).loc Cert.WoRefIdeal.main_arg1)
          ∧ r.2.mem ((c.tc : Thread Cert.WoRefIdeal.nD Cert.WoRefIdeal.τ).loc Cert.WoRefIdeal.main_arg2) = m' ((c.tc : Thread Cert.WoRefIdeal.nD Cert.WoRefIdeal.τ).loc Cert.WoRefIdeal.main_arg2))

def preserves_Gates_GatesIdeal : Prop :=
  True

def algebraic_GatesIdeal_GatesRefIdeal [hGatesIdeal : Cert.GatesIdeal.Facts] [hGatesRefIdeal : Cert.GatesRefIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesRefIdeal.nD Cert.GatesRefIdeal.τ Cert.GatesRefIdeal.sig) → Buf (Elt Ideal) ℓ) (g' : Dev Cert.GatesRefIdeal.nD → PrngReg), Pre_GatesIdeal m →
    (∀ c : Dev Cert.GatesIdeal.nD,
      m' ((c.tc : Thread Cert.GatesRefIdeal.nD Cert.GatesRefIdeal.τ).loc Cert.GatesRefIdeal.main_arg0) = m ((c.tc : Thread Cert.GatesIdeal.nD Cert.GatesIdeal.τ).loc Cert.GatesIdeal.main_arg0)
      ∧ m' ((c.tc : Thread Cert.GatesRefIdeal.nD Cert.GatesRefIdeal.τ).loc Cert.GatesRefIdeal.main_arg1) = m ((c.tc : Thread Cert.GatesIdeal.nD Cert.GatesIdeal.τ).loc Cert.GatesIdeal.main_arg1)) →
    ∃ (v0 : (c : Dev Cert.GatesIdeal.nD) → Buf (Elt Ideal) ((c.tc : Thread Cert.GatesIdeal.nD Cert.GatesIdeal.τ).loc Cert.GatesIdeal.main_v1)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v1) = v0 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ θ_run (Cert.GatesRefIdeal.defs (F := Ideal)) (onTc (τ := Cert.GatesRefIdeal.τ) (Cert.GatesRefIdeal.main (F := Ideal))) ⟨m', fun _ => 0, g'⟩ (fun r => ∀ c : Dev Cert.GatesRefIdeal.nD,
          r.2.mem ((c.tc : Thread Cert.GatesRefIdeal.nD Cert.GatesRefIdeal.τ).loc Cert.GatesRefIdeal.main_v11) = v0 c
          ∧ r.2.mem ((c.tc : Thread Cert.GatesRefIdeal.nD Cert.GatesRefIdeal.τ).loc Cert.GatesRefIdeal.main_arg0) = m' ((c.tc : Thread Cert.GatesRefIdeal.nD Cert.GatesRefIdeal.τ).loc Cert.GatesRefIdeal.main_arg0)
          ∧ r.2.mem ((c.tc : Thread Cert.GatesRefIdeal.nD Cert.GatesRefIdeal.τ).loc Cert.GatesRefIdeal.main_arg1) = m' ((c.tc : Thread Cert.GatesRefIdeal.nD Cert.GatesRefIdeal.τ).loc Cert.GatesRefIdeal.main_arg1))

def preserves_Zx_ZxIdeal : Prop :=
  True

def algebraic_ZxIdeal_ZxRefIdeal [hZxIdeal : Cert.ZxIdeal.Facts] [hZxRefIdeal : Cert.ZxRefIdeal.Facts] : Prop :=
  ∀ (m : (ℓ : Loc Cert.ZxIdeal.nD Cert.ZxIdeal.τ Cert.ZxIdeal.sig) → Buf (Elt Ideal) ℓ) (g : Dev Cert.ZxIdeal.nD → PrngReg)
    (m' : (ℓ : Loc Cert.ZxRefIdeal.nD Cert.ZxRefIdeal.τ Cert.ZxRefIdeal.sig) → Buf (Elt Ideal) ℓ) (g' : Dev Cert.ZxRefIdeal.nD → PrngReg), Pre_ZxIdeal m →
    (∀ c : Dev Cert.ZxIdeal.nD,
      m' ((c.tc : Thread Cert.ZxRefIdeal.nD Cert.ZxRefIdeal.τ).loc Cert.ZxRefIdeal.main_arg0) = m ((c.tc : Thread Cert.ZxIdeal.nD Cert.ZxIdeal.τ).loc Cert.ZxIdeal.main_arg0)
      ∧ m' ((c.tc : Thread Cert.ZxRefIdeal.nD Cert.ZxRefIdeal.τ).loc Cert.ZxRefIdeal.main_arg1) = m ((c.tc : Thread Cert.ZxIdeal.nD Cert.ZxIdeal.τ).loc Cert.ZxIdeal.main_arg1)) →
    ∃ (v0 : (c : Dev Cert.ZxIdeal.nD) → Buf (Elt Ideal) ((c.tc : Thread Cert.ZxIdeal.nD Cert.ZxIdeal.τ).loc Cert.ZxIdeal.main_v1)),
      θ_run (Cert.ZxIdeal.defs (F := Ideal)) (onTc (τ := Cert.ZxIdeal.τ) (Cert.ZxIdeal.main (F := Ideal))) ⟨m, fun _ => 0, g⟩ (fun r => ∀ c : Dev Cert.ZxIdeal.nD,
          r.2.mem ((c.tc : Thread Cert.ZxIdeal.nD Cert.ZxIdeal.τ).loc Cert.ZxIdeal.main_v1) = v0 c
          ∧ r.2.mem ((c.tc : Thread Cert.ZxIdeal.nD Cert.ZxIdeal.τ).loc Cert.ZxIdeal.main_arg0) = m ((c.tc : Thread Cert.ZxIdeal.nD Cert.ZxIdeal.τ).loc Cert.ZxIdeal.main_arg0)
          ∧ r.2.mem ((c.tc : Thread Cert.ZxIdeal.nD Cert.ZxIdeal.τ).loc Cert.ZxIdeal.main_arg1) = m ((c.tc : Thread Cert.ZxIdeal.nD Cert.ZxIdeal.τ).loc Cert.ZxIdeal.main_arg1))
      ∧ θ_run (Cert.ZxRefIdeal.defs (F := Ideal)) (onTc (τ := Cert.ZxRefIdeal.τ) (Cert.ZxRefIdeal.main (F := Ideal))) ⟨m', fun _ => 0, g'⟩ (fun r => ∀ c : Dev Cert.ZxRefIdeal.nD,
          r.2.mem ((c.tc : Thread Cert.ZxRefIdeal.nD Cert.ZxRefIdeal.τ).loc Cert.ZxRefIdeal.main_v4) = v0 c
          ∧ r.2.mem ((c.tc : Thread Cert.ZxRefIdeal.nD Cert.ZxRefIdeal.τ).loc Cert.ZxRefIdeal.main_arg0) = m' ((c.tc : Thread Cert.ZxRefIdeal.nD Cert.ZxRefIdeal.τ).loc Cert.ZxRefIdeal.main_arg0)
          ∧ r.2.mem ((c.tc : Thread Cert.ZxRefIdeal.nD Cert.ZxRefIdeal.τ).loc Cert.ZxRefIdeal.main_arg1) = m' ((c.tc : Thread Cert.ZxRefIdeal.nD Cert.ZxRefIdeal.τ).loc Cert.ZxRefIdeal.main_arg1))

def preserves_Dtr_DtrIdeal : Prop :=
  True

def algebraic_DtrIdeal_DtrRefIdeal [hDtrIdeal : Cert.DtrIdeal.Facts] [hDtrRefIdeal : Cert.DtrRefIdeal.Facts] : Prop :=
  ∀ (m : (ℓ : Loc Cert.DtrIdeal.nD Cert.DtrIdeal.τ Cert.DtrIdeal.sig) → Buf (Elt Ideal) ℓ) (g : Dev Cert.DtrIdeal.nD → PrngReg)
    (m' : (ℓ : Loc Cert.DtrRefIdeal.nD Cert.DtrRefIdeal.τ Cert.DtrRefIdeal.sig) → Buf (Elt Ideal) ℓ) (g' : Dev Cert.DtrRefIdeal.nD → PrngReg), Pre_DtrIdeal m →
    (∀ c : Dev Cert.DtrIdeal.nD,
      m' ((c.tc : Thread Cert.DtrRefIdeal.nD Cert.DtrRefIdeal.τ).loc Cert.DtrRefIdeal.main_arg0) = m ((c.tc : Thread Cert.DtrIdeal.nD Cert.DtrIdeal.τ).loc Cert.DtrIdeal.main_arg0)
      ∧ m' ((c.tc : Thread Cert.DtrRefIdeal.nD Cert.DtrRefIdeal.τ).loc Cert.DtrRefIdeal.main_arg1) = m ((c.tc : Thread Cert.DtrIdeal.nD Cert.DtrIdeal.τ).loc Cert.DtrIdeal.main_arg1)) →
    ∃ (v0 : (c : Dev Cert.DtrIdeal.nD) → Buf (Elt Ideal) ((c.tc : Thread Cert.DtrIdeal.nD Cert.DtrIdeal.τ).loc Cert.DtrIdeal.main_v1)),
      θ_run (Cert.DtrIdeal.defs (F := Ideal)) (onTc (τ := Cert.DtrIdeal.τ) (Cert.DtrIdeal.main (F := Ideal))) ⟨m, fun _ => 0, g⟩ (fun r => ∀ c : Dev Cert.DtrIdeal.nD,
          r.2.mem ((c.tc : Thread Cert.DtrIdeal.nD Cert.DtrIdeal.τ).loc Cert.DtrIdeal.main_v1) = v0 c
          ∧ r.2.mem ((c.tc : Thread Cert.DtrIdeal.nD Cert.DtrIdeal.τ).loc Cert.DtrIdeal.main_arg0) = m ((c.tc : Thread Cert.DtrIdeal.nD Cert.DtrIdeal.τ).loc Cert.DtrIdeal.main_arg0)
          ∧ r.2.mem ((c.tc : Thread Cert.DtrIdeal.nD Cert.DtrIdeal.τ).loc Cert.DtrIdeal.main_arg1) = m ((c.tc : Thread Cert.DtrIdeal.nD Cert.DtrIdeal.τ).loc Cert.DtrIdeal.main_arg1))
      ∧ θ_run (Cert.DtrRefIdeal.defs (F := Ideal)) (onTc (τ := Cert.DtrRefIdeal.τ) (Cert.DtrRefIdeal.main (F := Ideal))) ⟨m', fun _ => 0, g'⟩ (fun r => ∀ c : Dev Cert.DtrRefIdeal.nD,
          r.2.mem ((c.tc : Thread Cert.DtrRefIdeal.nD Cert.DtrRefIdeal.τ).loc Cert.DtrRefIdeal.main_v4) = v0 c
          ∧ r.2.mem ((c.tc : Thread Cert.DtrRefIdeal.nD Cert.DtrRefIdeal.τ).loc Cert.DtrRefIdeal.main_arg0) = m' ((c.tc : Thread Cert.DtrRefIdeal.nD Cert.DtrRefIdeal.τ).loc Cert.DtrRefIdeal.main_arg0)
          ∧ r.2.mem ((c.tc : Thread Cert.DtrRefIdeal.nD Cert.DtrRefIdeal.τ).loc Cert.DtrRefIdeal.main_arg1) = m' ((c.tc : Thread Cert.DtrRefIdeal.nD Cert.DtrRefIdeal.τ).loc Cert.DtrRefIdeal.main_arg1))

def preserves_Glu_GluIdeal : Prop :=
  True

def algebraic_GluIdeal_GluRefIdeal [hGluIdeal : Cert.GluIdeal.Facts] [hGluRefIdeal : Cert.GluRefIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)
      ∧ m' ((c.tc : Thread Cert.GluRefIdeal.nD Cert.GluRefIdeal.τ).loc Cert.GluRefIdeal.main_arg1) = m ((c.tc : Thread Cert.GluIdeal.nD Cert.GluIdeal.τ).loc Cert.GluIdeal.main_arg1)) →
    ∃ (v0 : (c : Dev Cert.GluIdeal.nD) → Buf (Elt Ideal) ((c.tc : Thread Cert.GluIdeal.nD Cert.GluIdeal.τ).loc Cert.GluIdeal.main_v1)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v1) = v0 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v12) = v0 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)) →
    ∃ (v0 : (c : Dev Cert.QkvIdeal.nD) → Buf (Elt Ideal) ((c.tc : Thread Cert.QkvIdeal.nD Cert.QkvIdeal.τ).loc Cert.QkvIdeal.main_v19)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v19) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v71) = v0 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v28) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v13) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_FinP_FinPIdeal : Prop :=
  True

def algebraic_FinPIdeal_FinPRefIdeal [hFinPIdeal : Cert.FinPIdeal.Facts] [hFinPRefIdeal : Cert.FinPRefIdeal.Facts] : Prop :=
  ∀ (m : (ℓ : Loc Cert.FinPIdeal.nD Cert.FinPIdeal.τ Cert.FinPIdeal.sig) → Buf (Elt Ideal) ℓ) (g : Dev Cert.FinPIdeal.nD → PrngReg)
    (m' : (ℓ : Loc Cert.FinPRefIdeal.nD Cert.FinPRefIdeal.τ Cert.FinPRefIdeal.sig) → Buf (Elt Ideal) ℓ) (g' : Dev Cert.FinPRefIdeal.nD → PrngReg), Pre_FinPIdeal m →
    (∀ c : Dev Cert.FinPIdeal.nD,
      m' ((c.tc : Thread Cert.FinPRefIdeal.nD Cert.FinPRefIdeal.τ).loc Cert.FinPRefIdeal.main_arg0) = m ((c.tc : Thread Cert.FinPIdeal.nD Cert.FinPIdeal.τ).loc Cert.FinPIdeal.main_arg0)
      ∧ m' ((c.tc : Thread Cert.FinPRefIdeal.nD Cert.FinPRefIdeal.τ).loc Cert.FinPRefIdeal.main_arg1) = m ((c.tc : Thread Cert.FinPIdeal.nD Cert.FinPIdeal.τ).loc Cert.FinPIdeal.main_arg1)) →
    ∃ (v0 : (c : Dev Cert.FinPIdeal.nD) → Buf (Elt Ideal) ((c.tc : Thread Cert.FinPIdeal.nD Cert.FinPIdeal.τ).loc Cert.FinPIdeal.main_v2)),
      θ_run (Cert.FinPIdeal.defs (F := Ideal)) (onTc (τ := Cert.FinPIdeal.τ) (Cert.FinPIdeal.main (F := Ideal))) ⟨m, fun _ => 0, g⟩ (fun r => ∀ c : Dev Cert.FinPIdeal.nD,
          r.2.mem ((c.tc : Thread Cert.FinPIdeal.nD Cert.FinPIdeal.τ).loc Cert.FinPIdeal.main_v2) = v0 c
          ∧ r.2.mem ((c.tc : Thread Cert.FinPIdeal.nD Cert.FinPIdeal.τ).loc Cert.FinPIdeal.main_arg0) = m ((c.tc : Thread Cert.FinPIdeal.nD Cert.FinPIdeal.τ).loc Cert.FinPIdeal.main_arg0)
          ∧ r.2.mem ((c.tc : Thread Cert.FinPIdeal.nD Cert.FinPIdeal.τ).loc Cert.FinPIdeal.main_arg1) = m ((c.tc : Thread Cert.FinPIdeal.nD Cert.FinPIdeal.τ).loc Cert.FinPIdeal.main_arg1))
      ∧ θ_run (Cert.FinPRefIdeal.defs (F := Ideal)) (onTc (τ := Cert.FinPRefIdeal.τ) (Cert.FinPRefIdeal.main (F := Ideal))) ⟨m', fun _ => 0, g'⟩ (fun r => ∀ c : Dev Cert.FinPRefIdeal.nD,
          r.2.mem ((c.tc : Thread Cert.FinPRefIdeal.nD Cert.FinPRefIdeal.τ).loc Cert.FinPRefIdeal.main_v14) = v0 c
          ∧ r.2.mem ((c.tc : Thread Cert.FinPRefIdeal.nD Cert.FinPRefIdeal.τ).loc Cert.FinPRefIdeal.main_arg0) = m' ((c.tc : Thread Cert.FinPRefIdeal.nD Cert.FinPRefIdeal.τ).loc Cert.FinPRefIdeal.main_arg0)
          ∧ r.2.mem ((c.tc : Thread Cert.FinPRefIdeal.nD Cert.FinPRefIdeal.τ).loc Cert.FinPRefIdeal.main_arg1) = m' ((c.tc : Thread Cert.FinPRefIdeal.nD Cert.FinPRefIdeal.τ).loc Cert.FinPRefIdeal.main_arg1))

def preserves_FinS_FinSIdeal : Prop :=
  True

def algebraic_FinSIdeal_FinSRefIdeal [hFinSIdeal : Cert.FinSIdeal.Facts] [hFinSRefIdeal : Cert.FinSRefIdeal.Facts] : Prop :=
  ∀ (m : (ℓ : Loc Cert.FinSIdeal.nD Cert.FinSIdeal.τ Cert.FinSIdeal.sig) → Buf (Elt Ideal) ℓ) (g : Dev Cert.FinSIdeal.nD → PrngReg)
    (m' : (ℓ : Loc Cert.FinSRefIdeal.nD Cert.FinSRefIdeal.τ Cert.FinSRefIdeal.sig) → Buf (Elt Ideal) ℓ) (g' : Dev Cert.FinSRefIdeal.nD → PrngReg), Pre_FinSIdeal m →
    (∀ c : Dev Cert.FinSIdeal.nD,
      m' ((c.tc : Thread Cert.FinSRefIdeal.nD Cert.FinSRefIdeal.τ).loc Cert.FinSRefIdeal.main_arg0) = m ((c.tc : Thread Cert.FinSIdeal.nD Cert.FinSIdeal.τ).loc Cert.FinSIdeal.main_arg0)
      ∧ m' ((c.tc : Thread Cert.FinSRefIdeal.nD Cert.FinSRefIdeal.τ).loc Cert.FinSRefIdeal.main_arg1) = m ((c.tc : Thread Cert.FinSIdeal.nD Cert.FinSIdeal.τ).loc Cert.FinSIdeal.main_arg1)) →
    ∃ (v0 : (c : Dev Cert.FinSIdeal.nD) → Buf (Elt Ideal) ((c.tc : Thread Cert.FinSIdeal.nD Cert.FinSIdeal.τ).loc Cert.FinSIdeal.main_v2)),
      θ_run (Cert.FinSIdeal.defs (F := Ideal)) (onTc (τ := Cert.FinSIdeal.τ) (Cert.FinSIdeal.main (F := Ideal))) ⟨m, fun _ => 0, g⟩ (fun r => ∀ c : Dev Cert.FinSIdeal.nD,
          r.2.mem ((c.tc : Thread Cert.FinSIdeal.nD Cert.FinSIdeal.τ).loc Cert.FinSIdeal.main_v2) = v0 c
          ∧ r.2.mem ((c.tc : Thread Cert.FinSIdeal.nD Cert.FinSIdeal.τ).loc Cert.FinSIdeal.main_arg0) = m ((c.tc : Thread Cert.FinSIdeal.nD Cert.FinSIdeal.τ).loc Cert.FinSIdeal.main_arg0)
          ∧ r.2.mem ((c.tc : Thread Cert.FinSIdeal.nD Cert.FinSIdeal.τ).loc Cert.FinSIdeal.main_arg1) = m ((c.tc : Thread Cert.FinSIdeal.nD Cert.FinSIdeal.τ).loc Cert.FinSIdeal.main_arg1))
      ∧ θ_run (Cert.FinSRefIdeal.defs (F := Ideal)) (onTc (τ := Cert.FinSRefIdeal.τ) (Cert.FinSRefIdeal.main (F := Ideal))) ⟨m', fun _ => 0, g'⟩ (fun r => ∀ c : Dev Cert.FinSRefIdeal.nD,
          r.2.mem ((c.tc : Thread Cert.FinSRefIdeal.nD Cert.FinSRefIdeal.τ).loc Cert.FinSRefIdeal.main_v14) = v0 c
          ∧ r.2.mem ((c.tc : Thread Cert.FinSRefIdeal.nD Cert.FinSRefIdeal.τ).loc Cert.FinSRefIdeal.main_arg0) = m' ((c.tc : Thread Cert.FinSRefIdeal.nD Cert.FinSRefIdeal.τ).loc Cert.FinSRefIdeal.main_arg0)
          ∧ r.2.mem ((c.tc : Thread Cert.FinSRefIdeal.nD Cert.FinSRefIdeal.τ).loc Cert.FinSRefIdeal.main_arg1) = m' ((c.tc : Thread Cert.FinSRefIdeal.nD Cert.FinSRefIdeal.τ).loc Cert.FinSRefIdeal.main_arg1))

def preserves_Ssd_SsdIdeal : Prop :=
  True

def algebraic_SsdIdeal_SsdRefIdeal [hSsdIdeal : Cert.SsdIdeal.Facts] [hSsdRefIdeal : Cert.SsdRefIdeal.Facts] : Prop :=
  ∀ (m : (ℓ : Loc Cert.SsdIdeal.nD Cert.SsdIdeal.τ Cert.SsdIdeal.sig) → Buf (Elt Ideal) ℓ) (g : Dev Cert.SsdIdeal.nD → PrngReg)
    (m' : (ℓ : Loc Cert.SsdRefIdeal.nD Cert.SsdRefIdeal.τ Cert.SsdRefIdeal.sig) → Buf (Elt Ideal) ℓ) (g' : Dev Cert.SsdRefIdeal.nD → PrngReg), Pre_SsdIdeal m →
    (∀ c : Dev Cert.SsdIdeal.nD,
      m' ((c.tc : Thread Cert.SsdRefIdeal.nD Cert.SsdRefIdeal.τ).loc Cert.SsdRefIdeal.main_arg0) = m ((c.tc : Thread Cert.SsdIdeal.nD Cert.SsdIdeal.τ).loc Cert.SsdIdeal.main_arg0)
      ∧ m' ((c.tc : Thread Cert.SsdRefIdeal.nD Cert.SsdRefIdeal.τ).loc Cert.SsdRefIdeal.main_arg1) = m ((c.tc : Thread Cert.SsdIdeal.nD Cert.SsdIdeal.τ).loc Cert.SsdIdeal.main_arg1)
      ∧ m' ((c.tc : Thread Cert.SsdRefIdeal.nD Cert.SsdRefIdeal.τ).loc Cert.SsdRefIdeal.main_arg2) = m ((c.tc : Thread Cert.SsdIdeal.nD Cert.SsdIdeal.τ).loc Cert.SsdIdeal.main_arg2)
      ∧ m' ((c.tc : Thread Cert.SsdRefIdeal.nD Cert.SsdRefIdeal.τ).loc Cert.SsdRefIdeal.main_arg3) = m ((c.tc : Thread Cert.SsdIdeal.nD Cert.SsdIdeal.τ).loc Cert.SsdIdeal.main_arg3)
      ∧ m' ((c.tc : Thread Cert.SsdRefIdeal.nD Cert.SsdRefIdeal.τ).loc Cert.SsdRefIdeal.main_arg4) = m ((c.tc : Thread Cert.SsdIdeal.nD Cert.SsdIdeal.τ).loc Cert.SsdIdeal.main_arg4)
      ∧ m' ((c.tc : Thread Cert.SsdRefIdeal.nD Cert.SsdRefIdeal.τ).loc Cert.SsdRefIdeal.main_arg5) = m ((c.tc : Thread Cert.SsdIdeal.nD Cert.SsdIdeal.τ).loc Cert.SsdIdeal.main_arg5)
      ∧ m' ((c.tc : Thread Cert.SsdRefIdeal.nD Cert.SsdRefIdeal.τ).loc Cert.SsdRefIdeal.main_arg6) = m ((c.tc : Thread Cert.SsdIdeal.nD Cert.SsdIdeal.τ).loc Cert.SsdIdeal.main_arg6)
      ∧ m' ((c.tc : Thread Cert.SsdRefIdeal.nD Cert.SsdRefIdeal.τ).loc Cert.SsdRefIdeal.main_arg7) = m ((c.tc : Thread Cert.SsdIdeal.nD Cert.SsdIdeal.τ).loc Cert.SsdIdeal.main_arg7)) →
    ∃ (v0 : (c : Dev Cert.SsdIdeal.nD) → Buf (Elt Ideal) ((c.tc : Thread Cert.SsdIdeal.nD Cert.SsdIdeal.τ).loc Cert.SsdIdeal.main_v11_0)) (v1 : (c : Dev Cert.SsdIdeal.nD) → Buf (Elt Ideal) ((c.tc : Thread Cert.SsdIdeal.nD Cert.SsdIdeal.τ).loc Cert.SsdIdeal.main_v11_1)),
      θ_run (Cert.SsdIdeal.defs (F := Ideal)) (onTc (τ := Cert.SsdIdeal.τ) (Cert.SsdIdeal.main (F := Ideal))) ⟨m, fun _ => 0, g⟩ (fun r => ∀ c : Dev Cert.SsdIdeal.nD,
          r.2.mem ((c.tc : Thread Cert.SsdIdeal.nD Cert.SsdIdeal.τ).loc Cert.SsdIdeal.main_v11_0) = v0 c
          ∧ r.2.mem ((c.tc : Thread Cert.SsdIdeal.nD Cert.SsdIdeal.τ).loc Cert.SsdIdeal.main_v11_1) = v1 c
          ∧ r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
          ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
          ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2)
          ∧ r.2.mem ((c.tc : Thread Cert.SsdIdeal.nD Cert.SsdIdeal.τ).loc Cert.SsdIdeal.main_arg3) = m ((c.tc : Thread Cert.SsdIdeal.nD Cert.SsdIdeal.τ).loc Cert.SsdIdeal.main_arg3)
          ∧ r.2.mem ((c.tc : Thread Cert.SsdIdeal.nD Cert.SsdIdeal.τ).loc Cert.SsdIdeal.main_arg4) = m ((c.tc : Thread Cert.SsdIdeal.nD Cert.SsdIdeal.τ).loc Cert.SsdIdeal.main_arg4)
          ∧ r.2.mem ((c.tc : Thread Cert.SsdIdeal.nD Cert.SsdIdeal.τ).loc Cert.SsdIdeal.main_arg5) = m ((c.tc : Thread Cert.SsdIdeal.nD Cert.SsdIdeal.τ).loc Cert.SsdIdeal.main_arg5)
          ∧ r.2.mem ((c.tc : Thread Cert.SsdIdeal.nD Cert.SsdIdeal.τ).loc Cert.SsdIdeal.main_arg6) = m ((c.tc : Thread Cert.SsdIdeal.nD Cert.SsdIdeal.τ).loc Cert.SsdIdeal.main_arg6)
          ∧ r.2.mem ((c.tc : Thread Cert.SsdIdeal.nD Cert.SsdIdeal.τ).loc Cert.SsdIdeal.main_arg7) = m ((c.tc : Thread Cert.SsdIdeal.nD Cert.SsdIdeal.τ).loc Cert.SsdIdeal.main_arg7))
      ∧ θ_run (Cert.SsdRefIdeal.defs (F := Ideal)) (onTc (τ := Cert.SsdRefIdeal.τ) (Cert.SsdRefIdeal.main (F := Ideal))) ⟨m', fun _ => 0, g'⟩ (fun r => ∀ c : Dev Cert.SsdRefIdeal.nD,
          r.2.mem ((c.tc : Thread Cert.SsdRefIdeal.nD Cert.SsdRefIdeal.τ).loc Cert.SsdRefIdeal.main_v272) = v0 c
          ∧ r.2.mem ((c.tc : Thread Cert.SsdRefIdeal.nD Cert.SsdRefIdeal.τ).loc Cert.SsdRefIdeal.main_v273) = v1 c
          ∧ r.2.mem ((c.tc : Thread Cert.SsdRefIdeal.nD Cert.SsdRefIdeal.τ).loc Cert.SsdRefIdeal.main_arg0) = m' ((c.tc : Thread Cert.SsdRefIdeal.nD Cert.SsdRefIdeal.τ).loc Cert.SsdRefIdeal.main_arg0)
          ∧ r.2.mem ((c.tc : Thread Cert.SsdRefIdeal.nD Cert.SsdRefIdeal.τ).loc Cert.SsdRefIdeal.main_arg1) = m' ((c.tc : Thread Cert.SsdRefIdeal.nD Cert.SsdRefIdeal.τ).loc Cert.SsdRefIdeal.main_arg1)
          ∧ r.2.mem ((c.tc : Thread Cert.SsdRefIdeal.nD Cert.SsdRefIdeal.τ).loc Cert.SsdRefIdeal.main_arg2) = m' ((c.tc : Thread Cert.SsdRefIdeal.nD Cert.SsdRefIdeal.τ).loc Cert.SsdRefIdeal.main_arg2)
          ∧ r.2.mem ((c.tc : Thread Cert.SsdRefIdeal.nD Cert.SsdRefIdeal.τ).loc Cert.SsdRefIdeal.main_arg3) = m' ((c.tc : Thread Cert.SsdRefIdeal.nD Cert.SsdRefIdeal.τ).loc Cert.SsdRefIdeal.main_arg3)
          ∧ r.2.mem ((c.tc : Thread Cert.SsdRefIdeal.nD Cert.SsdRefIdeal.τ).loc Cert.SsdRefIdeal.main_arg4) = m' ((c.tc : Thread Cert.SsdRefIdeal.nD Cert.SsdRefIdeal.τ).loc Cert.SsdRefIdeal.main_arg4)
          ∧ r.2.mem ((c.tc : Thread Cert.SsdRefIdeal.nD Cert.SsdRefIdeal.τ).loc Cert.SsdRefIdeal.main_arg5) = m' ((c.tc : Thread Cert.SsdRefIdeal.nD Cert.SsdRefIdeal.τ).loc Cert.SsdRefIdeal.main_arg5)
          ∧ r.2.mem ((c.tc : Thread Cert.SsdRefIdeal.nD Cert.SsdRefIdeal.τ).loc Cert.SsdRefIdeal.main_arg6) = m' ((c.tc : Thread Cert.SsdRefIdeal.nD Cert.SsdRefIdeal.τ).loc Cert.SsdRefIdeal.main_arg6)
          ∧ r.2.mem ((c.tc : Thread Cert.SsdRefIdeal.nD Cert.SsdRefIdeal.τ).loc Cert.SsdRefIdeal.main_arg7) = m' ((c.tc : Thread Cert.SsdRefIdeal.nD Cert.SsdRefIdeal.τ).loc Cert.SsdRefIdeal.main_arg7))

def Claim : Prop :=
  ∃ (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hWo : Cert.Wo.Facts) (hWoIdeal : Cert.WoIdeal.Facts) (hWoRefIdeal : Cert.WoRefIdeal.Facts) (hGates : Cert.Gates.Facts) (hGatesIdeal : Cert.GatesIdeal.Facts) (hGatesRefIdeal : Cert.GatesRefIdeal.Facts) (hZx : Cert.Zx.Facts) (hZxIdeal : Cert.ZxIdeal.Facts) (hZxRefIdeal : Cert.ZxRefIdeal.Facts) (hDtr : Cert.Dtr.Facts) (hDtrIdeal : Cert.DtrIdeal.Facts) (hDtrRefIdeal : Cert.DtrRefIdeal.Facts) (hGlu : Cert.Glu.Facts) (hGluIdeal : Cert.GluIdeal.Facts) (hGluRefIdeal : Cert.GluRefIdeal.Facts) (hQkv : Cert.Qkv.Facts) (hQkvIdeal : Cert.QkvIdeal.Facts) (hQkvRefIdeal : Cert.QkvRefIdeal.Facts) (hMerge : Cert.Merge.Facts) (hMergeIdeal : Cert.MergeIdeal.Facts) (hMergeRefIdeal : Cert.MergeRefIdeal.Facts) (hNorm : Cert.Norm.Facts) (hNormIdeal : Cert.NormIdeal.Facts) (hNormRefIdeal : Cert.NormRefIdeal.Facts) (hFinP : Cert.FinP.Facts) (hFinPIdeal : Cert.FinPIdeal.Facts) (hFinPRefIdeal : Cert.FinPRefIdeal.Facts) (hFinS : Cert.FinS.Facts) (hFinSIdeal : Cert.FinSIdeal.Facts) (hFinSRefIdeal : Cert.FinSRefIdeal.Facts) (hSsd : Cert.Ssd.Facts) (hSsdIdeal : Cert.SsdIdeal.Facts) (hSsdRefIdeal : Cert.SsdRefIdeal.Facts),
    quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_Wo (hWo := hWo)
    ∧ quiescent_WoIdeal (hWoIdeal := hWoIdeal)
    ∧ quiescent_WoRefIdeal (hWoRefIdeal := hWoRefIdeal)
    ∧ quiescent_Gates (hGates := hGates)
    ∧ quiescent_GatesIdeal (hGatesIdeal := hGatesIdeal)
    ∧ quiescent_GatesRefIdeal (hGatesRefIdeal := hGatesRefIdeal)
    ∧ quiescent_Zx (hZx := hZx)
    ∧ quiescent_ZxIdeal (hZxIdeal := hZxIdeal)
    ∧ quiescent_ZxRefIdeal (hZxRefIdeal := hZxRefIdeal)
    ∧ quiescent_Dtr (hDtr := hDtr)
    ∧ quiescent_DtrIdeal (hDtrIdeal := hDtrIdeal)
    ∧ quiescent_DtrRefIdeal (hDtrRefIdeal := hDtrRefIdeal)
    ∧ quiescent_Glu (hGlu := hGlu)
    ∧ quiescent_GluIdeal (hGluIdeal := hGluIdeal)
    ∧ quiescent_GluRefIdeal (hGluRefIdeal := hGluRefIdeal)
    ∧ quiescent_Qkv (hQkv := hQkv)
    ∧ quiescent_QkvIdeal (hQkvIdeal := hQkvIdeal)
    ∧ quiescent_QkvRefIdeal (hQkvRefIdeal := hQkvRefIdeal)
    ∧ quiescent_Merge (hMerge := hMerge)
    ∧ quiescent_MergeIdeal (hMergeIdeal := hMergeIdeal)
    ∧ quiescent_MergeRefIdeal (hMergeRefIdeal := hMergeRefIdeal)
    ∧ quiescent_Norm (hNorm := hNorm)
    ∧ quiescent_NormIdeal (hNormIdeal := hNormIdeal)
    ∧ quiescent_NormRefIdeal (hNormRefIdeal := hNormRefIdeal)
    ∧ quiescent_FinP (hFinP := hFinP)
    ∧ quiescent_FinPIdeal (hFinPIdeal := hFinPIdeal)
    ∧ quiescent_FinPRefIdeal (hFinPRefIdeal := hFinPRefIdeal)
    ∧ quiescent_FinS (hFinS := hFinS)
    ∧ quiescent_FinSIdeal (hFinSIdeal := hFinSIdeal)
    ∧ quiescent_FinSRefIdeal (hFinSRefIdeal := hFinSRefIdeal)
    ∧ quiescent_Ssd (hSsd := hSsd)
    ∧ quiescent_SsdIdeal (hSsdIdeal := hSsdIdeal)
    ∧ quiescent_SsdRefIdeal (hSsdRefIdeal := hSsdRefIdeal)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_Wo_WoIdeal
    ∧ algebraic_WoIdeal_WoRefIdeal (hWoIdeal := hWoIdeal) (hWoRefIdeal := hWoRefIdeal)
    ∧ preserves_Gates_GatesIdeal
    ∧ algebraic_GatesIdeal_GatesRefIdeal (hGatesIdeal := hGatesIdeal) (hGatesRefIdeal := hGatesRefIdeal)
    ∧ preserves_Zx_ZxIdeal
    ∧ algebraic_ZxIdeal_ZxRefIdeal (hZxIdeal := hZxIdeal) (hZxRefIdeal := hZxRefIdeal)
    ∧ preserves_Dtr_DtrIdeal
    ∧ algebraic_DtrIdeal_DtrRefIdeal (hDtrIdeal := hDtrIdeal) (hDtrRefIdeal := hDtrRefIdeal)
    ∧ preserves_Glu_GluIdeal
    ∧ algebraic_GluIdeal_GluRefIdeal (hGluIdeal := hGluIdeal) (hGluRefIdeal := hGluRefIdeal)
    ∧ preserves_Qkv_QkvIdeal
    ∧ algebraic_QkvIdeal_QkvRefIdeal (hQkvIdeal := hQkvIdeal) (hQkvRefIdeal := hQkvRefIdeal)
    ∧ preserves_Merge_MergeIdeal
    ∧ algebraic_MergeIdeal_MergeRefIdeal (hMergeIdeal := hMergeIdeal) (hMergeRefIdeal := hMergeRefIdeal)
    ∧ preserves_Norm_NormIdeal
    ∧ algebraic_NormIdeal_NormRefIdeal (hNormIdeal := hNormIdeal) (hNormRefIdeal := hNormRefIdeal)
    ∧ preserves_FinP_FinPIdeal
    ∧ algebraic_FinPIdeal_FinPRefIdeal (hFinPIdeal := hFinPIdeal) (hFinPRefIdeal := hFinPRefIdeal)
    ∧ preserves_FinS_FinSIdeal
    ∧ algebraic_FinSIdeal_FinSRefIdeal (hFinSIdeal := hFinSIdeal) (hFinSRefIdeal := hFinSRefIdeal)
    ∧ preserves_Ssd_SsdIdeal
    ∧ algebraic_SsdIdeal_SsdRefIdeal (hSsdIdeal := hSsdIdeal) (hSsdRefIdeal := hSsdRefIdeal)
-- ==== Up.lean ====
abbrev S8256x4096 : Shape := ⟨2, ![8256, 4096]⟩
abbrev S2x4096x16384 : Shape := ⟨3, ![2, 4096, 16384]⟩
abbrev S8256x16384 : Shape := ⟨2, ![8256, 16384]⟩
abbrev S1376x4096 : Shape := ⟨2, ![1376, 4096]⟩
abbrev S1x4096x512 : Shape := ⟨3, ![1, 4096, 512]⟩
abbrev S1376x512 : Shape := ⟨2, ![1376, 512]⟩
abbrev S1376x1024 : Shape := ⟨2, ![1376, 1024]⟩
abbrev S1x1024x512 : Shape := ⟨3, ![1, 1024, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8256x4096, .bf16⟩
  | .hbm, ⟨1, _⟩ => ⟨S2x4096x16384, .f32⟩
  | .hbm, ⟨2, _⟩ => ⟨S8256x16384, .bf16⟩
  | .local _ .vmem, ⟨0, _⟩ => ⟨S1376x4096, .bf16⟩
  | .local _ .vmem, ⟨1, _⟩ => ⟨S1376x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1376x512, .bf16⟩
  | .local _ .vmem, ⟨5, _⟩ => ⟨S1376x512, .bf16⟩
  | _, _ => ⟨S8256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 32, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![c0_i32_0.toNat, arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1376x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1376x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpRefIdeal.lean ====
abbrev S8256x4096 : Shape := ⟨2, ![8256, 4096]⟩
abbrev S2x4096x16384 : Shape := ⟨3, ![2, 4096, 16384]⟩
abbrev S1x4096x16384 : Shape := ⟨3, ![1, 4096, 16384]⟩
abbrev S4096x16384 : Shape := ⟨2, ![4096, 16384]⟩
abbrev S8256x16384 : Shape := ⟨2, ![8256, 16384]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S8256x4096, .bf16⟩
  | .hbm, ⟨1, _⟩ => ⟨S2x4096x16384, .f32⟩
  | .hbm, ⟨2, _⟩ => ⟨S8256x4096, .f32⟩
  | .hbm, ⟨3, _⟩ => ⟨S1x4096x16384, .f32⟩
  | .hbm, ⟨4, _⟩ => ⟨S4096x16384, .f32⟩
  | .hbm, ⟨5, _⟩ => ⟨S8256x16384, .f32⟩
  | .hbm, ⟨6, _⟩ => ⟨S_, .f32⟩
  | .hbm, ⟨7, _⟩ => ⟨S8256x16384, .f32⟩
  | .hbm, ⟨8, _⟩ => ⟨S8256x16384, .f32⟩
  | .hbm, ⟨9, _⟩ => ⟨S8256x16384, .f32⟩
  | .hbm, ⟨10, _⟩ => ⟨S8256x16384, .bf16⟩
  | _, _ => ⟨S8256x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_cst : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Down.lean ====
abbrev S8256x16384 : Shape := ⟨2, ![8256, 16384]⟩
abbrev S2x16384x4096 : Shape := ⟨3, ![2, 16384, 4096]⟩
abbrev S8256x4096 : Shape := ⟨2, ![8256, 4096]⟩
abbrev S1376x4096 : Shape := ⟨2, ![1376, 4096]⟩
abbrev S1x4096x512 : Shape := ⟨3, ![1, 4096, 512]⟩
abbrev S1376x512 : Shape := ⟨2, ![1376, 512]⟩
abbrev S1376x1024 : Shape := ⟨2, ![1376, 1024]⟩
abbrev S1x1024x512 : Shape := ⟨3, ![1, 1024, 512]⟩
abbrev S1024x512 : Shape := ⟨2, ![1024, 512]⟩

abbrev nBuf : Space → Nat
  | .hbm => 4
  | .vmem => 9
  | .smem => 0
  | _ => 0

abbrev bufTy : (tb : Table) → Fin (tcTables nBuf tb) → BufTy
  | .hbm, ⟨0, _⟩ => ⟨S8256x16384, .bf16⟩
  | .hbm, ⟨1, _⟩ => ⟨S2x16384x4096, .f32⟩
  | .hbm, ⟨2, _⟩ => ⟨S8256x4096, .f32⟩
  | .hbm, ⟨3, _⟩ => ⟨S8256x4096, .f32⟩
  | .local _ .vmem, ⟨0, _⟩ => ⟨S1376x4096, .bf16⟩
  | .local _ .vmem, ⟨1, _⟩ => ⟨S1376x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1376x512, .f32⟩
  | .local _ .vmem, ⟨5, _⟩ => ⟨S1376x512, .f32⟩
  | .local _ .vmem, ⟨6, _⟩ => ⟨S1376x512, .f32⟩
  | .local _ .vmem, ⟨7, _⟩ => ⟨S1376x512, .f32⟩
  | .local _ .vmem, ⟨8, _⟩ => ⟨S1376x512, .f32⟩
  | _, _ => ⟨S8256x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![6, 8, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![c0_i32_0.toNat, arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1376x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1376x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1376x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownRefIdeal.lean ====
abbrev S8256x16384 : Shape := ⟨2, ![8256, 16384]⟩
abbrev S2x16384x4096 : Shape := ⟨3, ![2, 16384, 4096]⟩
abbrev S8256x4096 : Shape := ⟨2, ![8256, 4096]⟩
abbrev S1x16384x4096 : Shape := ⟨3, ![1, 16384, 4096]⟩
abbrev S16384x4096 : Shape := ⟨2, ![16384, 4096]⟩

abbrev nBuf : Space → Nat
  | .hbm => 8
  | .vmem => 0
  | .smem => 0
  | _ => 0

abbrev bufTy : (tb : Table) → Fin (tcTables nBuf tb) → BufTy
  | .hbm, ⟨0, _⟩ => ⟨S8256x16384, .bf16⟩
  | .hbm, ⟨1, _⟩ => ⟨S2x16384x4096, .f32⟩
  | .hbm, ⟨2, _⟩ => ⟨S8256x4096, .f32⟩
  | .hbm, ⟨3, _⟩ => ⟨S8256x16384, .f32⟩
  | .hbm, ⟨4, _⟩ => ⟨S1x16384x4096, .f32⟩
  | .hbm, ⟨5, _⟩ => ⟨S16384x4096, .f32⟩
  | .hbm, ⟨6, _⟩ => ⟨S8256x4096, .f32⟩
  | .hbm, ⟨7, _⟩ => ⟨S8256x4096, .f32⟩
  | _, _ => ⟨S8256x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Wo.lean ====
abbrev S8256x4096 : Shape := ⟨2, ![8256, 4096]⟩
abbrev S2x4096x4096 : Shape := ⟨3, ![2, 4096, 4096]⟩
abbrev S1376x4096 : Shape := ⟨2, ![1376, 4096]⟩
abbrev S1x4096x512 : Shape := ⟨3, ![1, 4096, 512]⟩
abbrev S1376x512 : Shape := ⟨2, ![1376, 512]⟩
abbrev S1376x1024 : Shape := ⟨2, ![1376, 1024]⟩
abbrev S1x1024x512 : Shape := ⟨3, ![1, 1024, 512]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S8256x4096, .bf16⟩
  | .hbm, ⟨1, _⟩ => ⟨S2x4096x4096, .f32⟩
  | .hbm, ⟨2, _⟩ => ⟨S8256x4096, .f32⟩
  | .hbm, ⟨3, _⟩ => ⟨S8256x4096, .f32⟩
  | .local _ .vmem, ⟨0, _⟩ => ⟨S1376x4096, .bf16⟩
  | .local _ .vmem, ⟨1, _⟩ => ⟨S1376x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1376x512, .f32⟩
  | .local _ .vmem, ⟨5, _⟩ => ⟨S1376x512, .f32⟩
  | .local _ .vmem, ⟨6, _⟩ => ⟨S1376x512, .f32⟩
  | .local _ .vmem, ⟨7, _⟩ => ⟨S1376x512, .f32⟩
  | _, _ => ⟨S8256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![6, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![c0_i32_0.toNat, arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1376x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1376x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1376x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== WoRefIdeal.lean ====
abbrev S8256x4096 : Shape := ⟨2, ![8256, 4096]⟩
abbrev S2x4096x4096 : Shape := ⟨3, ![2, 4096, 4096]⟩
abbrev S1x4096x4096 : Shape := ⟨3, ![1, 4096, 4096]⟩
abbrev S4096x4096 : Shape := ⟨2, ![4096, 4096]⟩

abbrev nBuf : Space → Nat
  | .hbm => 8
  | .vmem => 0
  | .smem => 0
  | _ => 0

abbrev bufTy : (tb : Table) → Fin (tcTables nBuf tb) → BufTy
  | .hbm, ⟨0, _⟩ => ⟨S8256x4096, .bf16⟩
  | .hbm, ⟨1, _⟩ => ⟨S2x4096x4096, .f32⟩
  | .hbm, ⟨2, _⟩ => ⟨S8256x4096, .f32⟩
  | .hbm, ⟨3, _⟩ => ⟨S8256x4096, .f32⟩
  | .hbm, ⟨4, _⟩ => ⟨S1x4096x4096, .f32⟩
  | .hbm, ⟨5, _⟩ => ⟨S4096x4096, .f32⟩
  | .hbm, ⟨6, _⟩ => ⟨S8256x4096, .f32⟩
  | .hbm, ⟨7, _⟩ => ⟨S8256x4096, .f32⟩
  | _, _ => ⟨S8256x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Gates.lean ====
abbrev S8256x4096 : Shape := ⟨2, ![8256, 4096]⟩
abbrev S2x4096x24608 : Shape := ⟨3, ![2, 4096, 24608]⟩
abbrev S2x24608x4096 : Shape := ⟨3, ![2, 24608, 4096]⟩
abbrev S8256x12288 : Shape := ⟨2, ![8256, 12288]⟩
abbrev S1376x4096 : Shape := ⟨2, ![1376, 4096]⟩
abbrev S1x512x4096 : Shape := ⟨3, ![1, 512, 4096]⟩
abbrev S1376x512 : Shape := ⟨2, ![1376, 512]⟩
abbrev S688x1024 : Shape := ⟨2, ![688, 1024]⟩
abbrev S1x512x1024 : Shape := ⟨3, ![1, 512, 1024]⟩
abbrev S512x1024 : Shape := ⟨2, ![512, 1024]⟩
abbrev S688x512 : Shape := ⟨2, ![688, 512]⟩

abbrev nBuf : Space → Nat
  | .hbm => 4
  | .vmem => 6
  | .smem => 0
  | _ => 0

abbrev bufTy : (tb : Table) → Fin (tcTables nBuf tb) → BufTy
  | .hbm, ⟨0, _⟩ => ⟨S8256x4096, .bf16⟩
  | .hbm, ⟨1, _⟩ => ⟨S2x4096x24608, .f32⟩
  | .hbm, ⟨2, _⟩ => ⟨S2x24608x4096, .f32⟩
  | .hbm, ⟨3, _⟩ => ⟨S8256x12288, .bf16⟩
  | .local _ .vmem, ⟨0, _⟩ => ⟨S1376x4096, .bf16⟩
  | .local _ .vmem, ⟨1, _⟩ => ⟨S1376x4096, .bf16⟩
  | .local _ .vmem, ⟨2, _⟩ => ⟨S1x512x4096, .f32⟩
  | .local _ .vmem, ⟨3, _⟩ => ⟨S1x512x4096, .f32⟩
  | .local _ .vmem, ⟨4, _⟩ => ⟨S1376x512, .bf16⟩
  | .local _ .vmem, ⟨5, _⟩ => ⟨S1376x512, .bf16⟩
  | _, _ => ⟨S8256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 24, 1], ![false, false, false]⟩

def k0_mult1 (i : grid0.Coords) : BitVec 32 :=
  let c12320_i32 : BitVec 32 := 12320#32
  let arg1 : BitVec 32 := BitVec.ofNat 32 (i 1).val
  let c512_i32 : BitVec 32 := 512#32
  let v0 : BitVec 32 := Scalar.muli arg1 c512_i32
  let v1 : BitVec 32 := Scalar.addi c12320_i32 v0
  v1
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c512_i32 : BitVec 32 := 512#32
  let v0 : BitVec 32 := Scalar.muli arg1 c512_i32
  let c12320_i32 : BitVec 32 := 12320#32
  let v1 : BitVec 32 := Scalar.addi c12320_i32 v0
  let v2 : BitVec 32 := v1
  let c0_i32 : BitVec 32 := 0#32
  let c0_i32_0 : BitVec 32 := 0#32
  let c0_i32_1 : BitVec 32 := 0#32
  ![c0_i32.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1376x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1376x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GatesRefIdeal.lean ====
abbrev S8256x4096 : Shape := ⟨2, ![8256, 4096]⟩
abbrev S2x4096x24608 : Shape := ⟨3, ![2, 4096, 24608]⟩
abbrev S1x4096x24608 : Shape := ⟨3, ![1, 4096, 24608]⟩
abbrev S4096x24608 : Shape := ⟨2, ![4096, 24608]⟩
abbrev S8256x24608 : Shape := ⟨2, ![8256, 24608]⟩
abbrev S8256x12288 : Shape := ⟨2, ![8256, 12288]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S8256x4096, .bf16⟩
  | .hbm, ⟨1, _⟩ => ⟨S2x4096x24608, .f32⟩
  | .hbm, ⟨2, _⟩ => ⟨S8256x4096, .f32⟩
  | .hbm, ⟨3, _⟩ => ⟨S1x4096x24608, .f32⟩
  | .hbm, ⟨4, _⟩ => ⟨S4096x24608, .f32⟩
  | .hbm, ⟨5, _⟩ => ⟨S8256x24608, .f32⟩
  | .hbm, ⟨6, _⟩ => ⟨S8256x12288, .f32⟩
  | .hbm, ⟨7, _⟩ => ⟨S8256x12288, .f32⟩
  | .hbm, ⟨8, _⟩ => ⟨S8256x12288, .f32⟩
  | .hbm, ⟨9, _⟩ => ⟨S_, .f32⟩
  | .hbm, ⟨10, _⟩ => ⟨S8256x12288, .f32⟩
  | .hbm, ⟨11, _⟩ => ⟨S8256x12288, .f32⟩
  | .hbm, ⟨12, _⟩ => ⟨S_, .f32⟩
  | .hbm, ⟨13, _⟩ => ⟨S8256x12288, .f32⟩
  | .hbm, ⟨14, _⟩ => ⟨S8256x12288, .f32⟩
  | .hbm, ⟨15, _⟩ => ⟨S8256x12288, .bf16⟩
  | _, _ => ⟨S8256x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Zx.lean ====
abbrev S8256x4096 : Shape := ⟨2, ![8256, 4096]⟩
abbrev S2x4096x24608 : Shape := ⟨3, ![2, 4096, 24608]⟩
abbrev S2x24608x4096 : Shape := ⟨3, ![2, 24608, 4096]⟩
abbrev S8256x5120 : Shape := ⟨2, ![8256, 5120]⟩
abbrev S1376x4096 : Shape := ⟨2, ![1376, 4096]⟩
abbrev S1x512x4096 : Shape := ⟨3, ![1, 512, 4096]⟩
abbrev S1376x512 : Shape := ⟨2, ![1376, 512]⟩
abbrev S1376x1024 : Shape := ⟨2, ![1376, 1024]⟩
abbrev S1x512x1024 : Shape := ⟨3, ![1, 512, 1024]⟩
abbrev S512x1024 : Shape := ⟨2, ![512, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8256x4096, .bf16⟩
  | .hbm, ⟨1, _⟩ => ⟨S2x4096x24608, .f32⟩
  | .hbm, ⟨2, _⟩ => ⟨S2x24608x4096, .f32⟩
  | .hbm, ⟨3, _⟩ => ⟨S8256x5120, .f32⟩
  | .local _ .vmem, ⟨0, _⟩ => ⟨S1376x4096, .bf16⟩
  | .local _ .vmem, ⟨1, _⟩ => ⟨S1376x4096, .bf16⟩
  | .local _ .vmem, ⟨2, _⟩ => ⟨S1x512x4096, .f32⟩
  | .local _ .vmem, ⟨3, _⟩ => ⟨S1x512x4096, .f32⟩
  | .local _ .vmem, ⟨4, _⟩ => ⟨S1376x512, .f32⟩
  | .local _ .vmem, ⟨5, _⟩ => ⟨S1376x512, .f32⟩
  | _, _ => ⟨S8256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 10, 1], ![false, false, false]⟩

def k0_mult1 (i : grid0.Coords) : BitVec 32 :=
  let c0_i32 : BitVec 32 := 0#32
  let arg1 : BitVec 32 := BitVec.ofNat 32 (i 1).val
  let c512_i32 : BitVec 32 := 512#32
  let v0 : BitVec 32 := Scalar.muli arg1 c512_i32
  let v1 : BitVec 32 := Scalar.addi c0_i32 v0
  v1
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c512_i32 : BitVec 32 := 512#32
  let v0 : BitVec 32 := Scalar.muli arg1 c512_i32
  let c0_i32 : BitVec 32 := 0#32
  let v1 : BitVec 32 := Scalar.addi c0_i32 v0
  let v2 : BitVec 32 := v1
  let c0_i32_0 : BitVec 32 := 0#32
  let c0_i32_1 : BitVec 32 := 0#32
  let c0_i32_2 : BitVec 32 := 0#32
  ![c0_i32_0.toNat, v2.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1376x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1376x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ZxRefIdeal.lean ====
abbrev S8256x4096 : Shape := ⟨2, ![8256, 4096]⟩
abbrev S2x4096x24608 : Shape := ⟨3, ![2, 4096, 24608]⟩
abbrev S1x4096x24608 : Shape := ⟨3, ![1, 4096, 24608]⟩
abbrev S4096x24608 : Shape := ⟨2, ![4096, 24608]⟩
abbrev S8256x24608 : Shape := ⟨2, ![8256, 24608]⟩
abbrev S8256x5120 : Shape := ⟨2, ![8256, 5120]⟩

abbrev nBuf : Space → Nat
  | .hbm => 7
  | .vmem => 0
  | .smem => 0
  | _ => 0

abbrev bufTy : (tb : Table) → Fin (tcTables nBuf tb) → BufTy
  | .hbm, ⟨0, _⟩ => ⟨S8256x4096, .bf16⟩
  | .hbm, ⟨1, _⟩ => ⟨S2x4096x24608, .f32⟩
  | .hbm, ⟨2, _⟩ => ⟨S8256x4096, .f32⟩
  | .hbm, ⟨3, _⟩ => ⟨S1x4096x24608, .f32⟩
  | .hbm, ⟨4, _⟩ => ⟨S4096x24608, .f32⟩
  | .hbm, ⟨5, _⟩ => ⟨S8256x24608, .f32⟩
  | .hbm, ⟨6, _⟩ => ⟨S8256x5120, .f32⟩
  | _, _ => ⟨S8256x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Dtr.lean ====
abbrev S8256x4096 : Shape := ⟨2, ![8256, 4096]⟩
abbrev S2x4096x24608 : Shape := ⟨3, ![2, 4096, 24608]⟩
abbrev S2x24608x4096 : Shape := ⟨3, ![2, 24608, 4096]⟩
abbrev S8256x128 : Shape := ⟨2, ![8256, 128]⟩
abbrev S1376x4096 : Shape := ⟨2, ![1376, 4096]⟩
abbrev S1x128x4096 : Shape := ⟨3, ![1, 128, 4096]⟩
abbrev S1376x128 : Shape := ⟨2, ![1376, 128]⟩
abbrev S1376x1024 : Shape := ⟨2, ![1376, 1024]⟩
abbrev S1x128x1024 : Shape := ⟨3, ![1, 128, 1024]⟩
abbrev S128x1024 : Shape := ⟨2, ![128, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8256x4096, .bf16⟩
  | .hbm, ⟨1, _⟩ => ⟨S2x4096x24608, .f32⟩
  | .hbm, ⟨2, _⟩ => ⟨S2x24608x4096, .f32⟩
  | .hbm, ⟨3, _⟩ => ⟨S8256x128, .f32⟩
  | .local _ .vmem, ⟨0, _⟩ => ⟨S1376x4096, .bf16⟩
  | .local _ .vmem, ⟨1, _⟩ => ⟨S1376x4096, .bf16⟩
  | .local _ .vmem, ⟨2, _⟩ => ⟨S1x128x4096, .f32⟩
  | .local _ .vmem, ⟨3, _⟩ => ⟨S1376x128, .f32⟩
  | .local _ .vmem, ⟨4, _⟩ => ⟨S1376x128, .f32⟩
  | _, _ => ⟨S8256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![6, 1, 1], ![false, false, false]⟩

def k0_mult1 (i : grid0.Coords) : BitVec 32 :=
  let c5120_i32 : BitVec 32 := 5120#32
  let arg1 : BitVec 32 := BitVec.ofNat 32 (i 1).val
  let c128_i32 : BitVec 32 := 128#32
  let v0 : BitVec 32 := Scalar.muli arg1 c128_i32
  let v1 : BitVec 32 := Scalar.addi c5120_i32 v0
  v1
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c128_i32 : BitVec 32 := 128#32
  let v0 : BitVec 32 := Scalar.muli arg1 c128_i32
  let c5120_i32 : BitVec 32 := 5120#32
  let v1 : BitVec 32 := Scalar.addi c5120_i32 v0
  let v2 : BitVec 32 := v1
  let c0_i32 : BitVec 32 := 0#32
  let c0_i32_0 : BitVec 32 := 0#32
  let c0_i32_1 : BitVec 32 := 0#32
  ![c0_i32.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1376x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x128x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false]

abbrev stage0_2 : Fin 2 → Memref sig .tc .vmem S1376x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DtrRefIdeal.lean ====
abbrev S8256x4096 : Shape := ⟨2, ![8256, 4096]⟩
abbrev S2x4096x24608 : Shape := ⟨3, ![2, 4096, 24608]⟩
abbrev S1x4096x24608 : Shape := ⟨3, ![1, 4096, 24608]⟩
abbrev S4096x24608 : Shape := ⟨2, ![4096, 24608]⟩
abbrev S8256x24608 : Shape := ⟨2, ![8256, 24608]⟩
abbrev S8256x128 : Shape := ⟨2, ![8256, 128]⟩

abbrev nBuf : Space → Nat
  | .hbm => 7
  | .vmem => 0
  | .smem => 0
  | _ => 0

abbrev bufTy : (tb : Table) → Fin (tcTables nBuf tb) → BufTy
  | .hbm, ⟨0, _⟩ => ⟨S8256x4096, .bf16⟩
  | .hbm, ⟨1, _⟩ => ⟨S2x4096x24608, .f32⟩
  | .hbm, ⟨2, _⟩ => ⟨S8256x4096, .f32⟩
  | .hbm, ⟨3, _⟩ => ⟨S1x4096x24608, .f32⟩
  | .hbm, ⟨4, _⟩ => ⟨S4096x24608, .f32⟩
  | .hbm, ⟨5, _⟩ => ⟨S8256x24608, .f32⟩
  | .hbm, ⟨6, _⟩ => ⟨S8256x128, .f32⟩
  | _, _ => ⟨S8256x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Glu.lean ====
abbrev S8256x4096 : Shape := ⟨2, ![8256, 4096]⟩
abbrev S2x4096x24608 : Shape := ⟨3, ![2, 4096, 24608]⟩
abbrev S2x24608x4096 : Shape := ⟨3, ![2, 24608, 4096]⟩
abbrev S8256x2048 : Shape := ⟨2, ![8256, 2048]⟩
abbrev S1376x4096 : Shape := ⟨2, ![1376, 4096]⟩
abbrev S1x256x4096 : Shape := ⟨3, ![1, 256, 4096]⟩
abbrev S1376x256 : Shape := ⟨2, ![1376, 256]⟩
abbrev S1376x1024 : Shape := ⟨2, ![1376, 1024]⟩
abbrev S1x256x1024 : Shape := ⟨3, ![1, 256, 1024]⟩
abbrev S256x1024 : Shape := ⟨2, ![256, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8256x4096, .bf16⟩
  | .hbm, ⟨1, _⟩ => ⟨S2x4096x24608, .f32⟩
  | .hbm, ⟨2, _⟩ => ⟨S2x24608x4096, .f32⟩
  | .hbm, ⟨3, _⟩ => ⟨S8256x2048, .f32⟩
  | .local _ .vmem, ⟨0, _⟩ => ⟨S1376x4096, .bf16⟩
  | .local _ .vmem, ⟨1, _⟩ => ⟨S1376x4096, .bf16⟩
  | .local _ .vmem, ⟨2, _⟩ => ⟨S1x256x4096, .f32⟩
  | .local _ .vmem, ⟨3, _⟩ => ⟨S1x256x4096, .f32⟩
  | .local _ .vmem, ⟨4, _⟩ => ⟨S1x256x4096, .f32⟩
  | .local _ .vmem, ⟨5, _⟩ => ⟨S1x256x4096, .f32⟩
  | .local _ .vmem, ⟨6, _⟩ => ⟨S1376x256, .f32⟩
  | .local _ .vmem, ⟨7, _⟩ => ⟨S1376x256, .f32⟩
  | _, _ => ⟨S8256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![6, 8], ![false, false]⟩

def k0_mult1 (i : grid0.Coords) : BitVec 32 :=
  let c5152_i32 : BitVec 32 := 5152#32
  let arg1 : BitVec 32 := BitVec.ofNat 32 (i 1).val
  let c256_i32 : BitVec 32 := 256#32
  let v0 : BitVec 32 := Scalar.muli arg1 c256_i32
  let v1 : BitVec 32 := Scalar.addi c5152_i32 v0
  v1
def k0_mult2 (i : grid0.Coords) : BitVec 32 :=
  let c7200_i32 : BitVec 32 := 7200#32
  let arg1 : BitVec 32 := BitVec.ofNat 32 (i 1).val
  let c256_i32 : BitVec 32 := 256#32
  let v0 : BitVec 32 := Scalar.muli arg1 c256_i32
  let v1 : BitVec 32 := Scalar.addi c7200_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c256_i32 : BitVec 32 := 256#32
  let v0 : BitVec 32 := Scalar.muli arg1 c256_i32
  let c5152_i32 : BitVec 32 := 5152#32
  let v1 : BitVec 32 := Scalar.addi c5152_i32 v0
  let v2 : BitVec 32 := v1
  let c0_i32 : BitVec 32 := 0#32
  let c0_i32_0 : BitVec 32 := 0#32
  let c0_i32_1 : BitVec 32 := 0#32
  ![c0_i32.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c256_i32 : BitVec 32 := 256#32
  let v0 : BitVec 32 := Scalar.muli arg1 c256_i32
  let c7200_i32 : BitVec 32 := 7200#32
  let v1 : BitVec 32 := Scalar.addi c7200_i32 v0
  let v2 : BitVec 32 := v1
  let c0_i32 : BitVec 32 := 0#32
  let c0_i32_0 : BitVec 32 := 0#32
  let c0_i32_1 : BitVec 32 := 0#32
  ![c0_i32.toNat, v2.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1376x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1376x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GluRefIdeal.lean ====
abbrev S8256x4096 : Shape := ⟨2, ![8256, 4096]⟩
abbrev S2x4096x24608 : Shape := ⟨3, ![2, 4096, 24608]⟩
abbrev S1x4096x24608 : Shape := ⟨3, ![1, 4096, 24608]⟩
abbrev S4096x24608 : Shape := ⟨2, ![4096, 24608]⟩
abbrev S8256x24608 : Shape := ⟨2, ![8256, 24608]⟩
abbrev S8256x2048 : Shape := ⟨2, ![8256, 2048]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8256x4096, .bf16⟩
  | .hbm, ⟨1, _⟩ => ⟨S2x4096x24608, .f32⟩
  | .hbm, ⟨2, _⟩ => ⟨S8256x4096, .f32⟩
  | .hbm, ⟨3, _⟩ => ⟨S1x4096x24608, .f32⟩
  | .hbm, ⟨4, _⟩ => ⟨S4096x24608, .f32⟩
  | .hbm, ⟨5, _⟩ => ⟨S8256x24608, .f32⟩
  | .hbm, ⟨6, _⟩ => ⟨S8256x2048, .f32⟩
  | .hbm, ⟨7, _⟩ => ⟨S8256x2048, .f32⟩
  | .hbm, ⟨8, _⟩ => ⟨S8256x2048, .f32⟩
  | .hbm, ⟨9, _⟩ => ⟨S8256x2048, .f32⟩
  | .hbm, ⟨10, _⟩ => ⟨S_, .f32⟩
  | .hbm, ⟨11, _⟩ => ⟨S8256x2048, .f32⟩
  | .hbm, ⟨12, _⟩ => ⟨S8256x2048, .f32⟩
  | .hbm, ⟨13, _⟩ => ⟨S_, .f32⟩
  | .hbm, ⟨14, _⟩ => ⟨S8256x2048, .f32⟩
  | .hbm, ⟨15, _⟩ => ⟨S8256x2048, .f32⟩
  | .hbm, ⟨16, _⟩ => ⟨S8256x2048, .f32⟩
  | _, _ => ⟨S8256x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== Qkv.lean ====
abbrev S8256x4096 : Shape := ⟨2, ![8256, 4096]⟩
abbrev S2x4096x24608 : Shape := ⟨3, ![2, 4096, 24608]⟩
abbrev S8256 : Shape := ⟨1, ![8256]⟩
abbrev S64 : Shape := ⟨1, ![64]⟩
abbrev S_ : Shape := ⟨0, ![]⟩
abbrev S8256x1 : Shape := ⟨2, ![8256, 1]⟩
abbrev S1x64 : Shape := ⟨2, ![1, 64]⟩
abbrev S8256x64 : Shape := ⟨2, ![8256, 64]⟩
abbrev S8256x128 : Shape := ⟨2, ![8256, 128]⟩
abbrev S2x24608x4096 : Shape := ⟨3, ![2, 24608, 4096]⟩
abbrev S8256x3072 : Shape := ⟨2, ![8256, 3072]⟩
abbrev S1376x4096 : Shape := ⟨2, ![1376, 4096]⟩
abbrev S1x512x4096 : Shape := ⟨3, ![1, 512, 4096]⟩
abbrev S1376x128 : Shape := ⟨2, ![1376, 128]⟩
abbrev S1376x512 : Shape := ⟨2, ![1376, 512]⟩
abbrev S688x1024 : Shape := ⟨2, ![688, 1024]⟩
abbrev S1x512x1024 : Shape := ⟨3, ![1, 512, 1024]⟩
abbrev S512x1024 : Shape := ⟨2, ![512, 1024]⟩
abbrev S688x512 : Shape := ⟨2, ![688, 512]⟩
abbrev S688x128 : Shape := ⟨2, ![688, 128]⟩

abbrev nBuf : Space → Nat
  | .hbm => 26
  | .vmem => 10
  | .smem => 0
  | _ => 0

abbrev bufTy : (tb : Table) → Fin (tcTables nBuf tb) → BufTy
  | .hbm, ⟨0, _⟩ => ⟨S8256x4096, .bf16⟩
  | .hbm, ⟨1, _⟩ => ⟨S2x4096x24608, .f32⟩
  | .hbm, ⟨2, _⟩ => ⟨S8256, .f32⟩
  | .hbm, ⟨3, _⟩ => ⟨S64, .f32⟩
  | .hbm, ⟨4, _⟩ => ⟨S_, .f32⟩
  | .hbm, ⟨5, _⟩ => ⟨S64, .f32⟩
  | .hbm, ⟨6, _⟩ => ⟨S64, .f32⟩
  | .hbm, ⟨7, _⟩ => ⟨S_, .f32⟩
  | .hbm, ⟨8, _⟩ => ⟨S64, .f32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S64, .f32⟩
  | .hbm, ⟨14, _⟩ => ⟨S8256x1, .f32⟩
  | .hbm, ⟨15, _⟩ => ⟨S1x64, .f32⟩
  | .hbm, ⟨16, _⟩ => ⟨S8256x64, .f32⟩
  | .hbm, ⟨17, _⟩ => ⟨S8256x64, .f32⟩
  | .hbm, ⟨18, _⟩ => ⟨S8256x64, .f32⟩
  | .hbm, ⟨19, _⟩ => ⟨S8256x64, .f32⟩
  | .hbm, ⟨20, _⟩ => ⟨S8256x64, .f32⟩
  | .hbm, ⟨21, _⟩ => ⟨S8256x128, .f32⟩
  | .hbm, ⟨22, _⟩ => ⟨S8256x64, .f32⟩
  | .hbm, ⟨23, _⟩ => ⟨S8256x128, .f32⟩
  | .hbm, ⟨24, _⟩ => ⟨S2x24608x4096, .f32⟩
  | .hbm, ⟨25, _⟩ => ⟨S8256x3072, .f32⟩
  | .local _ .vmem, ⟨0, _⟩ => ⟨S1376x4096, .bf16⟩
  | .local _ .vmem, ⟨1, _⟩ => ⟨S1376x4096, .bf16⟩
  | .local _ .vmem, ⟨2, _⟩ => ⟨S1x512x4096, .f32⟩
  | .local _ .vmem, ⟨3, _⟩ => ⟨S1x512x4096, .f32⟩
  | .local _ .vmem, ⟨4, _⟩ => ⟨S1376x128, .f32⟩
  | .local _ .vmem, ⟨5, _⟩ => ⟨S1376x128, .f32⟩
  | .local _ .vmem, ⟨6, _⟩ => ⟨S1376x128, .f32⟩
  | .local _ .vmem, ⟨7, _⟩ => ⟨S1376x128, .f32⟩
  | .local _ .vmem, ⟨8, _⟩ => ⟨S1376x512, .f32⟩
  | .local _ .vmem, ⟨9, _⟩ => ⟨S1376x512, .f32⟩
  | _, _ => ⟨S8256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![6, 6, 1], ![false, false, false]⟩

def k0_mult1 (i : grid0.Coords) : BitVec 32 :=
  let c9248_i32 : BitVec 32 := 9248#32
  let arg1 : BitVec 32 := BitVec.ofNat 32 (i 1).val
  let c512_i32 : BitVec 32 := 512#32
  let v0 : BitVec 32 := Scalar.muli arg1 c512_i32
  let v1 : BitVec 32 := Scalar.addi c9248_i32 v0
  v1
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c512_i32 : BitVec 32 := 512#32
  let v0 : BitVec 32 := Scalar.muli arg1 c512_i32
  let c9248_i32 : BitVec 32 := 9248#32
  let v1 : BitVec 32 := Scalar.addi c9248_i32 v0
  let v2 : BitVec 32 := v1
  let c0_i32 : BitVec 32 := 0#32
  let c0_i32_0 : BitVec 32 := 0#32
  let c0_i32_1 : BitVec 32 := 0#32
  ![c0_i32.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1376x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1376x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1376x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1376x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== QkvRefIdeal.lean ====
abbrev S8256x4096 : Shape := ⟨2, ![8256, 4096]⟩
abbrev S2x4096x24608 : Shape := ⟨3, ![2, 4096, 24608]⟩
abbrev S8256 : Shape := ⟨1, ![8256]⟩
abbrev S1x4096x24608 : Shape := ⟨3, ![1, 4096, 24608]⟩
abbrev S4096x24608 : Shape := ⟨2, ![4096, 24608]⟩
abbrev S8256x24608 : Shape := ⟨2, ![8256, 24608]⟩
abbrev S8256x2048 : Shape := ⟨2, ![8256, 2048]⟩
abbrev S8256x512 : Shape := ⟨2, ![8256, 512]⟩
abbrev S8256x16x128 : Shape := ⟨3, ![8256, 16, 128]⟩
abbrev S64 : Shape := ⟨1, ![64]⟩
abbrev S_ : Shape := ⟨0, ![]⟩
abbrev S8256x1 : Shape := ⟨2, ![8256, 1]⟩
abbrev S1x64 : Shape := ⟨2, ![1, 64]⟩
abbrev S8256x64 : Shape := ⟨2, ![8256, 64]⟩
abbrev S8256x1x64 : Shape := ⟨3, ![8256, 1, 64]⟩
abbrev S8256x16x64 : Shape := ⟨3, ![8256, 16, 64]⟩
abbrev S8256x4x128 : Shape := ⟨3, ![8256, 4, 128]⟩
abbrev S8256x4x64 : Shape := ⟨3, ![8256, 4, 64]⟩
abbrev S8256x3072 : Shape := ⟨2, ![8256, 3072]⟩

abbrev nBuf : Space → Nat
  | .hbm => 81
  | .vmem => 0
  | .smem => 0
  | _ => 0

abbrev bufTy : (tb : Table) → Fin (tcTables nBuf tb) → BufTy
  | .hbm, ⟨0, _⟩ => ⟨S8256x4096, .bf16⟩
  | .hbm, ⟨1, _⟩ => ⟨S2x4096x24608, .f32⟩
  | .hbm, ⟨2, _⟩ => ⟨S8256, .f32⟩
  | .hbm, ⟨3, _⟩ => ⟨S8256x4096, .f32⟩
  | .hbm, ⟨4, _⟩ => ⟨S1x4096x24608, .f32⟩
  | .hbm, ⟨5, _⟩ => ⟨S4096x24608, .f32⟩
  | .hbm, ⟨6, _⟩ => ⟨S8256x24608, .f32⟩
  | .hbm, ⟨7, _⟩ => ⟨S8256x2048, .f32⟩
  | .hbm, ⟨8, _⟩ => ⟨S8256x512, .f32⟩
  | .hbm, ⟨9, _⟩ => ⟨S8256x512, .f32⟩
  | .hbm, ⟨10, _⟩ => ⟨S8256x16x128, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S64, .f32⟩
  | .hbm, ⟨20, _⟩ => ⟨S64, .f32⟩
  | .hbm, ⟨21, _⟩ => ⟨S64, .f32⟩
  | .hbm, ⟨22, _⟩ => ⟨S8256x1, .f32⟩
  | .hbm, ⟨23, _⟩ => ⟨S1x64, .f32⟩
  | .hbm, ⟨24, _⟩ => ⟨S8256x64, .f32⟩
  | .hbm, ⟨25, _⟩ => ⟨S8256x64, .f32⟩
  | .hbm, ⟨26, _⟩ => ⟨S8256x64, .f32⟩
  | .hbm, ⟨27, _⟩ => ⟨S8256x64, .f32⟩
  | .hbm, ⟨28, _⟩ => ⟨S8256x1x64, .f32⟩
  | .hbm, ⟨29, _⟩ => ⟨S8256x64, .f32⟩
  | .hbm, ⟨30, _⟩ => ⟨S8256x1x64, .f32⟩
  | .hbm, ⟨31, _⟩ => ⟨S8256x16x64, .f32⟩
  | .hbm, ⟨32, _⟩ => ⟨S8256x16x64, .f32⟩
  | .hbm, ⟨33, _⟩ => ⟨S8256x16x64, .f32⟩
  | .hbm, ⟨34, _⟩ => ⟨S8256x16x64, .f32⟩
  | .hbm, ⟨35, _⟩ => ⟨S8256x16x64, .f32⟩
  | .hbm, ⟨36, _⟩ => ⟨S8256x16x64, .f32⟩
  | .hbm, ⟨37, _⟩ => ⟨S8256x16x64, .f32⟩
  | .hbm, ⟨38, _⟩ => ⟨S8256x16x64, .f32⟩
  | .hbm, ⟨39, _⟩ => ⟨S8256x16x64, .f32⟩
  | .hbm, ⟨40, _⟩ => ⟨S8256x16x64, .f32⟩
  | .hbm, ⟨41, _⟩ => ⟨S8256x16x64, .f32⟩
  | .hbm, ⟨42, _⟩ => ⟨S8256x16x64, .f32⟩
  | .hbm, ⟨43, _⟩ => ⟨S8256x16x128, .f32⟩
  | .hbm, ⟨44, _⟩ => ⟨S8256x2048, .f32⟩
  | .hbm, ⟨45, _⟩ => ⟨S8256x4x128, .f32⟩
  | .hbm, ⟨46, _⟩ => ⟨S64, .f32⟩
  | .hbm, ⟨47, _⟩ => ⟨S_, .f32⟩
  | .hbm, ⟨48, _⟩ => ⟨S64, .f32⟩
  | .hbm, ⟨49, _⟩ => ⟨S64, .f32⟩
  | .hbm, ⟨50, _⟩ => ⟨S_, .f32⟩
  | .hbm, ⟨51, _⟩ => ⟨S64, .f32⟩
  | .hbm, ⟨52, _⟩ => ⟨S64, .f32⟩
  | .hbm, ⟨53, _⟩ => ⟨S_, .f32⟩
  | .hbm, ⟨54, _⟩ => ⟨S64, .f32⟩
  | .hbm, ⟨55, _⟩ => ⟨S64, .f32⟩
  | .hbm, ⟨56, _⟩ => ⟨S64, .f32⟩
  | .hbm, ⟨57, _⟩ => ⟨S8256x1, .f32⟩
  | .hbm, ⟨58, _⟩ => ⟨S1x64, .f32⟩
  | .hbm, ⟨59, _⟩ => ⟨S8256x64, .f32⟩
  | .hbm, ⟨60, _⟩ => ⟨S8256x64, .f32⟩
  | .hbm, ⟨61, _⟩ => ⟨S8256x64, .f32⟩
  | .hbm, ⟨62, _⟩ => ⟨S8256x64, .f32⟩
  | .hbm, ⟨63, _⟩ => ⟨S8256x1x64, .f32⟩
  | .hbm, ⟨64, _⟩ => ⟨S8256x64, .f32⟩
  | .hbm, ⟨65, _⟩ => ⟨S8256x1x64, .f32⟩
  | .hbm, ⟨66, _⟩ => ⟨S8256x4x64, .f32⟩
  | .hbm, ⟨67, _⟩ => ⟨S8256x4x64, .f32⟩
  | .hbm, ⟨68, _⟩ => ⟨S8256x4x64, .f32⟩
  | .hbm, ⟨69, _⟩ => ⟨S8256x4x64, .f32⟩
  | .hbm, ⟨70, _⟩ => ⟨S8256x4x64, .f32⟩
  | .hbm, ⟨71, _⟩ => ⟨S8256x4x64, .f32⟩
  | .hbm, ⟨72, _⟩ => ⟨S8256x4x64, .f32⟩
  | .hbm, ⟨73, _⟩ => ⟨S8256x4x64, .f32⟩
  | .hbm, ⟨74, _⟩ => ⟨S8256x4x64, .f32⟩
  | .hbm, ⟨75, _⟩ => ⟨S8256x4x64, .f32⟩
  | .hbm, ⟨76, _⟩ => ⟨S8256x4x64, .f32⟩
  | .hbm, ⟨77, _⟩ => ⟨S8256x4x64, .f32⟩
  | .hbm, ⟨78, _⟩ => ⟨S8256x4x128, .f32⟩
  | .hbm, ⟨79, _⟩ => ⟨S8256x512, .f32⟩
  | .hbm, ⟨80, _⟩ => ⟨S8256x3072, .f32⟩
  | _, _ => ⟨S8256x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_cst_2 : Ref sig .tc := ⟨.hbm, 47, rfl⟩
abbrev main_v41 : Ref sig .tc := ⟨.hbm, 48, rfl⟩
abbrev main_v42 : Ref sig .tc := ⟨.hbm, 49, rfl⟩
abbrev main_cst_3 : Ref sig .tc := ⟨.hbm, 50, rfl⟩
abbrev main_v43 : Ref sig .tc := ⟨.hbm, 51, rfl⟩
abbrev main_v44 : Ref sig .tc := ⟨.hbm, 52, rfl⟩
abbrev main_cst_4 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩

abbrev nD : Nat := 1
abbrev τ : Topo := Topo.v7x

variable {F : FTy → Type} [FloatOps F]
-- ==== Merge.lean ====
abbrev S3x8256x2048 : Shape := ⟨3, ![3, 8256, 2048]⟩
abbrev S3x2x2048x4096 : Shape := ⟨4, ![3, 2, 2048, 4096]⟩
abbrev S8256x12288 : Shape := ⟨2, ![8256, 12288]⟩
abbrev S8256x4096 : Shape := ⟨2, ![8256, 4096]⟩
abbrev S1x1376x2048 : Shape := ⟨3, ![1, 1376, 2048]⟩
abbrev S1x1x2048x1024 : Shape := ⟨4, ![1, 1, 2048, 1024]⟩
abbrev S1376x1024 : Shape := ⟨2, ![1376, 1024]⟩
abbrev S688x1024 : Shape := ⟨2, ![688, 1024]⟩
abbrev S1x688x2048 : Shape := ⟨3, ![1, 688, 2048]⟩
abbrev S688x2048 : Shape := ⟨2, ![688, 2048]⟩
abbrev S2048x1024 : Shape := ⟨2, ![2048, 1024]⟩

abbrev nBuf : Space → Nat
  | .hbm => 4
  | .vmem => 9
  | .smem => 0
  | _ => 0

abbrev bufTy : (tb : Table) → Fin (tcTables nBuf tb) → BufTy
  | .hbm, ⟨0, _⟩ => ⟨S3x8256x2048, .bf16⟩
  | .hbm, ⟨1, _⟩ => ⟨S3x2x2048x4096, .bf16⟩
  | .hbm, ⟨2, _⟩ => ⟨S8256x12288, .bf16⟩
  | .hbm, ⟨3, _⟩ => ⟨S8256x4096, .bf16⟩
  | .local _ .vmem, ⟨0, _⟩ => ⟨S1x1376x2048, .bf16⟩
  | .local _ .vmem, ⟨1, _⟩ => ⟨S1x1376x2048, .bf16⟩
  | .local _ .vmem, ⟨2, _⟩ => ⟨S1x1x2048x1024, .bf16⟩
  | .local _ .vmem, ⟨3, _⟩ => ⟨S1x1x2048x1024, .bf16⟩
  | .local _ .vmem, ⟨4, _⟩ => ⟨S1376x1024, .bf16⟩
  | .local _ .vmem, ⟨5, _⟩ => ⟨S1376x1024, .bf16⟩
  | .local _ .vmem, ⟨6, _⟩ => ⟨S1376x1024, .bf16⟩
  | .local _ .vmem, ⟨7, _⟩ => ⟨S1376x1024, .bf16⟩
  | .local _ .vmem, ⟨8, _⟩ => ⟨S1376x1024, .f32⟩
  | _, _ => ⟨S3x8256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![6, 4, 3], ![false, false, false]⟩

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let v4 : BitVec 32 := Scalar.extui v3
  let c0_i32_2 : BitVec 32 := 0#32
  let v5 : BitVec 1 := Scalar.cmpi .ne v4 c0_i32_2
  v5

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let v1 : BitVec 32 := Scalar.addi v0 arg1
  let c0_i32 : BitVec 32 := 0#32
  ![arg0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1376x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1376x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1376x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MergeRefIdeal.lean ====
abbrev S3x8256x2048 : Shape := ⟨3, ![3, 8256, 2048]⟩
abbrev S3x2x2048x4096 : Shape := ⟨4, ![3, 2, 2048, 4096]⟩
abbrev S8256x12288 : Shape := ⟨2, ![8256, 12288]⟩
abbrev S3x1x2048x4096 : Shape := ⟨4, ![3, 1, 2048, 4096]⟩
abbrev S3x2048x4096 : Shape := ⟨3, ![3, 2048, 4096]⟩
abbrev S1x8256x2048 : Shape := ⟨3, ![1, 8256, 2048]⟩
abbrev S8256x2048 : Shape := ⟨2, ![8256, 2048]⟩
abbrev S1x2048x4096 : Shape := ⟨3, ![1, 2048, 4096]⟩
abbrev S2048x4096 : Shape := ⟨2, ![2048, 4096]⟩
abbrev S8256x4096 : Shape := ⟨2, ![8256, 4096]⟩

abbrev nBuf : Space → Nat
  | .hbm => 32
  | .vmem => 0
  | .smem => 0
  | _ => 0

abbrev bufTy : (tb : Table) → Fin (tcTables nBuf tb) → BufTy
  | .hbm, ⟨0, _⟩ => ⟨S3x8256x2048, .bf16⟩
  | .hbm, ⟨1, _⟩ => ⟨S3x2x2048x4096, .bf16⟩
  | .hbm, ⟨2, _⟩ => ⟨S8256x12288, .bf16⟩
  | .hbm, ⟨3, _⟩ => ⟨S3x8256x2048, .f32⟩
  | .hbm, ⟨4, _⟩ => ⟨S3x1x2048x4096, .bf16⟩
  | .hbm, ⟨5, _⟩ => ⟨S3x2048x4096, .bf16⟩
  | .hbm, ⟨6, _⟩ => ⟨S3x2048x4096, .f32⟩
  | .hbm, ⟨7, _⟩ => ⟨S8256x12288, .f32⟩
  | .hbm, ⟨8, _⟩ => ⟨S1x8256x2048, .f32⟩
  | .hbm, ⟨9, _⟩ => ⟨S8256x2048, .f32⟩
  | .hbm, ⟨10, _⟩ => ⟨S1x2048x4096, .f32⟩
  | .hbm, ⟨11, _⟩ => ⟨S2048x4096, .f32⟩
  | .hbm, ⟨12, _⟩ => ⟨S8256x4096, .f32⟩
  | .hbm, ⟨13, _⟩ => ⟨S1x8256x2048, .f32⟩
  | .hbm, ⟨14, _⟩ => ⟨S8256x2048, .f32⟩
  | .hbm, ⟨15, _⟩ => ⟨S1x2048x4096, .f32⟩
  | .hbm, ⟨16, _⟩ => ⟨S2048x4096, .f32⟩
  | .hbm, ⟨17, _⟩ => ⟨S8256x4096, .f32⟩
  | .hbm, ⟨18, _⟩ => ⟨S1x8256x2048, .f32⟩
  | .hbm, ⟨19, _⟩ => ⟨S8256x2048, .f32⟩
  | .hbm, ⟨20, _⟩ => ⟨S1x2048x4096, .f32⟩
  | .hbm, ⟨21, _⟩ => ⟨S2048x4096, .f32⟩
  | .hbm, ⟨22, _⟩ => ⟨S8256x4096, .f32⟩
  | .hbm, ⟨23, _⟩ => ⟨S8256x4096, .f32⟩
  | .hbm, ⟨24, _⟩ => ⟨S8256x4096, .f32⟩
  | .hbm, ⟨25, _⟩ => ⟨S8256x4096, .f32⟩
  | .hbm, ⟨26, _⟩ => ⟨S8256x4096, .f32⟩
  | .hbm, ⟨27, _⟩ => ⟨S8256x4096, .f32⟩
  | .hbm, ⟨28, _⟩ => ⟨S8256x4096, .f32⟩
  | .hbm, ⟨29, _⟩ => ⟨S8256x4096, .f32⟩
  | .hbm, ⟨30, _⟩ => ⟨S8256x4096, .f32⟩
  | .hbm, ⟨31, _⟩ => ⟨S8256x4096, .bf16⟩
  | _, _ => ⟨S3x8256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩

abbrev nD : Nat := 1
abbrev τ : Topo := Topo.v7x

variable {F : FTy → Type} [FloatOps F]
-- ==== Norm.lean ====
abbrev S8256x4096 : Shape := ⟨2, ![8256, 4096]⟩
abbrev S4096 : Shape := ⟨1, ![4096]⟩
abbrev S1x4096 : Shape := ⟨2, ![1, 4096]⟩
abbrev S192x4096 : Shape := ⟨2, ![192, 4096]⟩
abbrev S192 : Shape := ⟨1, ![192]⟩
abbrev S192x1 : Shape := ⟨2, ![192, 1]⟩

abbrev nBuf : Space → Nat
  | .hbm => 4
  | .vmem => 5
  | .smem => 0
  | _ => 0

abbrev bufTy : (tb : Table) → Fin (tcTables nBuf tb) → BufTy
  | .hbm, ⟨0, _⟩ => ⟨S8256x4096, .f32⟩
  | .hbm, ⟨1, _⟩ => ⟨S4096, .f32⟩
  | .hbm, ⟨2, _⟩ => ⟨S1x4096, .f32⟩
  | .hbm, ⟨3, _⟩ => ⟨S8256x4096, .bf16⟩
  | .local _ .vmem, ⟨0, _⟩ => ⟨S192x4096, .f32⟩
  | .local _ .vmem, ⟨1, _⟩ => ⟨S192x4096, .f32⟩
  | .local _ .vmem, ⟨2, _⟩ => ⟨S1x4096, .f32⟩
  | .local _ .vmem, ⟨3, _⟩ => ⟨S192x4096, .bf16⟩
  | .local _ .vmem, ⟨4, _⟩ => ⟨S192x4096, .bf16⟩
  | _, _ => ⟨S8256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S192x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S192x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S8256x4096 : Shape := ⟨2, ![8256, 4096]⟩
abbrev S4096 : Shape := ⟨1, ![4096]⟩
abbrev S_ : Shape := ⟨0, ![]⟩
abbrev S8256 : Shape := ⟨1, ![8256]⟩
abbrev S8256x1 : Shape := ⟨2, ![8256, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S8256x4096, .f32⟩
  | .hbm, ⟨1, _⟩ => ⟨S4096, .f32⟩
  | .hbm, ⟨2, _⟩ => ⟨S8256x4096, .f32⟩
  | .hbm, ⟨3, _⟩ => ⟨S_, .f32⟩
  | .hbm, ⟨4, _⟩ => ⟨S8256, .f32⟩
  | .hbm, ⟨5, _⟩ => ⟨S8256x1, .f32⟩
  | .hbm, ⟨6, _⟩ => ⟨S_, .f32⟩
  | .hbm, ⟨7, _⟩ => ⟨S8256x1, .f32⟩
  | .hbm, ⟨8, _⟩ => ⟨S8256x1, .f32⟩
  | .hbm, ⟨9, _⟩ => ⟨S_, .f32⟩
  | .hbm, ⟨10, _⟩ => ⟨S8256x1, .f32⟩
  | .hbm, ⟨11, _⟩ => ⟨S8256x1, .f32⟩
  | .hbm, ⟨12, _⟩ => ⟨S8256x1, .f32⟩
  | .hbm, ⟨13, _⟩ => ⟨S8256x4096, .f32⟩
  | .hbm, ⟨14, _⟩ => ⟨S8256x4096, .f32⟩
  | .hbm, ⟨15, _⟩ => ⟨S1x4096, .f32⟩
  | .hbm, ⟨16, _⟩ => ⟨S8256x4096, .f32⟩
  | .hbm, ⟨17, _⟩ => ⟨S8256x4096, .f32⟩
  | .hbm, ⟨18, _⟩ => ⟨S8256x4096, .bf16⟩
  | _, _ => ⟨S8256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== FinP.lean ====
abbrev S8256x4096 : Shape := ⟨2, ![8256, 4096]⟩
abbrev S4096 : Shape := ⟨1, ![4096]⟩
abbrev S1x4096 : Shape := ⟨2, ![1, 4096]⟩
abbrev S8192x4096 : Shape := ⟨2, ![8192, 4096]⟩
abbrev S256x4096 : Shape := ⟨2, ![256, 4096]⟩
abbrev S256 : Shape := ⟨1, ![256]⟩
abbrev S256x1 : Shape := ⟨2, ![256, 1]⟩
abbrev S4x2048x4096 : Shape := ⟨3, ![4, 2048, 4096]⟩

abbrev nBuf : Space → Nat
  | .hbm => 5
  | .vmem => 5
  | .smem => 0
  | _ => 0

abbrev bufTy : (tb : Table) → Fin (tcTables nBuf tb) → BufTy
  | .hbm, ⟨0, _⟩ => ⟨S8256x4096, .f32⟩
  | .hbm, ⟨1, _⟩ => ⟨S4096, .f32⟩
  | .hbm, ⟨2, _⟩ => ⟨S1x4096, .f32⟩
  | .hbm, ⟨3, _⟩ => ⟨S8192x4096, .f32⟩
  | .hbm, ⟨4, _⟩ => ⟨S4x2048x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .f32⟩
  | .local _ .vmem, ⟨4, _⟩ => ⟨S256x4096, .f32⟩
  | _, _ => ⟨S8256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FinPRefIdeal.lean ====
abbrev S8256x4096 : Shape := ⟨2, ![8256, 4096]⟩
abbrev S4096 : Shape := ⟨1, ![4096]⟩
abbrev S8192x4096 : Shape := ⟨2, ![8192, 4096]⟩
abbrev S4x2048x4096 : Shape := ⟨3, ![4, 2048, 4096]⟩
abbrev S_ : Shape := ⟨0, ![]⟩
abbrev S4x2048 : Shape := ⟨2, ![4, 2048]⟩
abbrev S4x2048x1 : Shape := ⟨3, ![4, 2048, 1]⟩
abbrev S1x1x4096 : Shape := ⟨3, ![1, 1, 4096]⟩

abbrev nBuf : Space → Nat
  | .hbm => 20
  | .vmem => 0
  | .smem => 0
  | _ => 0

abbrev bufTy : (tb : Table) → Fin (tcTables nBuf tb) → BufTy
  | .hbm, ⟨0, _⟩ => ⟨S8256x4096, .f32⟩
  | .hbm, ⟨1, _⟩ => ⟨S4096, .f32⟩
  | .hbm, ⟨2, _⟩ => ⟨S8192x4096, .f32⟩
  | .hbm, ⟨3, _⟩ => ⟨S4x2048x4096, .f32⟩
  | .hbm, ⟨4, _⟩ => ⟨S4x2048x4096, .f32⟩
  | .hbm, ⟨5, _⟩ => ⟨S_, .f32⟩
  | .hbm, ⟨6, _⟩ => ⟨S4x2048, .f32⟩
  | .hbm, ⟨7, _⟩ => ⟨S4x2048x1, .f32⟩
  | .hbm, ⟨8, _⟩ => ⟨S_, .f32⟩
  | .hbm, ⟨9, _⟩ => ⟨S4x2048x1, .f32⟩
  | .hbm, ⟨10, _⟩ => ⟨S4x2048x1, .f32⟩
  | .hbm, ⟨11, _⟩ => ⟨S_, .f32⟩
  | .hbm, ⟨12, _⟩ => ⟨S4x2048x1, .f32⟩
  | .hbm, ⟨13, _⟩ => ⟨S4x2048x1, .f32⟩
  | .hbm, ⟨14, _⟩ => ⟨S4x2048x1, .f32⟩
  | .hbm, ⟨15, _⟩ => ⟨S4x2048x4096, .f32⟩
  | .hbm, ⟨16, _⟩ => ⟨S4x2048x4096, .f32⟩
  | .hbm, ⟨17, _⟩ => ⟨S1x1x4096, .f32⟩
  | .hbm, ⟨18, _⟩ => ⟨S4x2048x4096, .f32⟩
  | .hbm, ⟨19, _⟩ => ⟨S4x2048x4096, .f32⟩
  | _, _ => ⟨S8256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== FinS.lean ====
abbrev S8256x4096 : Shape := ⟨2, ![8256, 4096]⟩
abbrev S4096 : Shape := ⟨1, ![4096]⟩
abbrev S1x4096 : Shape := ⟨2, ![1, 4096]⟩
abbrev S64x4096 : Shape := ⟨2, ![64, 4096]⟩
abbrev S64 : Shape := ⟨1, ![64]⟩
abbrev S64x1 : Shape := ⟨2, ![64, 1]⟩
abbrev S8x8x4096 : Shape := ⟨3, ![8, 8, 4096]⟩

abbrev nBuf : Space → Nat
  | .hbm => 5
  | .vmem => 3
  | .smem => 0
  | _ => 0

abbrev bufTy : (tb : Table) → Fin (tcTables nBuf tb) → BufTy
  | .hbm, ⟨0, _⟩ => ⟨S8256x4096, .f32⟩
  | .hbm, ⟨1, _⟩ => ⟨S4096, .f32⟩
  | .hbm, ⟨2, _⟩ => ⟨S1x4096, .f32⟩
  | .hbm, ⟨3, _⟩ => ⟨S64x4096, .f32⟩
  | .hbm, ⟨4, _⟩ => ⟨S8x8x4096, .f32⟩
  | .local _ .vmem, ⟨0, _⟩ => ⟨S64x4096, .f32⟩
  | .local _ .vmem, ⟨1, _⟩ => ⟨S1x4096, .f32⟩
  | .local _ .vmem, ⟨2, _⟩ => ⟨S64x4096, .f32⟩
  | _, _ => ⟨S8256x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c128_i32 : BitVec 32 := 128#32
  let v0 : BitVec 32 := Scalar.addi c128_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S64x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== FinSRefIdeal.lean ====
abbrev S8256x4096 : Shape := ⟨2, ![8256, 4096]⟩
abbrev S4096 : Shape := ⟨1, ![4096]⟩
abbrev S64x4096 : Shape := ⟨2, ![64, 4096]⟩
abbrev S8x8x4096 : Shape := ⟨3, ![8, 8, 4096]⟩
abbrev S_ : Shape := ⟨0, ![]⟩
abbrev S8x8 : Shape := ⟨2, ![8, 8]⟩
abbrev S8x8x1 : Shape := ⟨3, ![8, 8, 1]⟩
abbrev S1x1x4096 : Shape := ⟨3, ![1, 1, 4096]⟩

abbrev nBuf : Space → Nat
  | .hbm => 20
  | .vmem => 0
  | .smem => 0
  | _ => 0

abbrev bufTy : (tb : Table) → Fin (tcTables nBuf tb) → BufTy
  | .hbm, ⟨0, _⟩ => ⟨S8256x4096, .f32⟩
  | .hbm, ⟨1, _⟩ => ⟨S4096, .f32⟩
  | .hbm, ⟨2, _⟩ => ⟨S64x4096, .f32⟩
  | .hbm, ⟨3, _⟩ => ⟨S8x8x4096, .f32⟩
  | .hbm, ⟨4, _⟩ => ⟨S8x8x4096, .f32⟩
  | .hbm, ⟨5, _⟩ => ⟨S_, .f32⟩
  | .hbm, ⟨6, _⟩ => ⟨S8x8, .f32⟩
  | .hbm, ⟨7, _⟩ => ⟨S8x8x1, .f32⟩
  | .hbm, ⟨8, _⟩ => ⟨S_, .f32⟩
  | .hbm, ⟨9, _⟩ => ⟨S8x8x1, .f32⟩
  | .hbm, ⟨10, _⟩ => ⟨S8x8x1, .f32⟩
  | .hbm, ⟨11, _⟩ => ⟨S_, .f32⟩
  | .hbm, ⟨12, _⟩ => ⟨S8x8x1, .f32⟩
  | .hbm, ⟨13, _⟩ => ⟨S8x8x1, .f32⟩
  | .hbm, ⟨14, _⟩ => ⟨S8x8x1, .f32⟩
  | .hbm, ⟨15, _⟩ => ⟨S8x8x4096, .f32⟩
  | .hbm, ⟨16, _⟩ => ⟨S8x8x4096, .f32⟩
  | .hbm, ⟨17, _⟩ => ⟨S1x1x4096, .f32⟩
  | .hbm, ⟨18, _⟩ => ⟨S8x8x4096, .f32⟩
  | .hbm, ⟨19, _⟩ => ⟨S8x8x4096, .f32⟩
  | _, _ => ⟨S8256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Ssd.lean ====
abbrev S8256x5120 : Shape := ⟨2, ![8256, 5120]⟩
abbrev S8256x128 : Shape := ⟨2, ![8256, 128]⟩
abbrev S4x3072 : Shape := ⟨2, ![4, 3072]⟩
abbrev S3072 : Shape := ⟨1, ![3072]⟩
abbrev S32 : Shape := ⟨1, ![32]⟩
abbrev S2048 : Shape := ⟨1, ![2048]⟩
abbrev S1x3072 : Shape := ⟨2, ![1, 3072]⟩
abbrev S_ : Shape := ⟨0, ![]⟩
abbrev S128 : Shape := ⟨1, ![128]⟩
abbrev S1x128 : Shape := ⟨2, ![1, 128]⟩
abbrev S32x64 : Shape := ⟨2, ![32, 64]⟩
abbrev S1x2048 : Shape := ⟨2, ![1, 2048]⟩
abbrev S4x8x3072 : Shape := ⟨3, ![4, 8, 3072]⟩
abbrev S4x2048x128 : Shape := ⟨3, ![4, 2048, 128]⟩
abbrev S8192x2048 : Shape := ⟨2, ![8192, 2048]⟩
abbrev S128x5120 : Shape := ⟨2, ![128, 5120]⟩
abbrev S128x128 : Shape := ⟨2, ![128, 128]⟩
abbrev S1x8x3072 : Shape := ⟨3, ![1, 8, 3072]⟩
abbrev S1x2048x128 : Shape := ⟨3, ![1, 2048, 128]⟩
abbrev S128x2048 : Shape := ⟨2, ![128, 2048]⟩
abbrev S136x3072 : Shape := ⟨2, ![136, 3072]⟩
abbrev S128x3072 : Shape := ⟨2, ![128, 3072]⟩
abbrev S2048x128 : Shape := ⟨2, ![2048, 128]⟩
abbrev S8x3072 : Shape := ⟨2, ![8, 3072]⟩
abbrev S128x1 : Shape := ⟨2, ![128, 1]⟩
abbrev S1x128x128 : Shape := ⟨3, ![1, 128, 128]⟩
abbrev S1x1 : Shape := ⟨2, ![1, 1]⟩
abbrev S128x512 : Shape := ⟨2, ![128, 512]⟩
abbrev S1x512 : Shape := ⟨2, ![1, 512]⟩

abbrev nBuf : Space → Nat
  | .hbm => 27
  | .vmem => 20
  | .smem => 0
  | _ => 0

abbrev bufTy : (tb : Table) → Fin (tcTables nBuf tb) → BufTy
  | .hbm, ⟨0, _⟩ => ⟨S8256x5120, .f32⟩
  | .hbm, ⟨1, _⟩ => ⟨S8256x128, .f32⟩
  | .hbm, ⟨2, _⟩ => ⟨S4x3072, .f32⟩
  | .hbm, ⟨3, _⟩ => ⟨S3072, .f32⟩
  | .hbm, ⟨4, _⟩ => ⟨S32, .f32⟩
  | .hbm, ⟨5, _⟩ => ⟨S32, .f32⟩
  | .hbm, ⟨6, _⟩ => ⟨S32, .f32⟩
  | .hbm, ⟨7, _⟩ => ⟨S2048, .f32⟩
  | .hbm, ⟨8, _⟩ => ⟨S1x3072, .f32⟩
  | .hbm, ⟨9, _⟩ => ⟨S_, .i32⟩
  | .hbm, ⟨10, _⟩ => ⟨S_, .f32⟩
  | .hbm, ⟨11, _⟩ => ⟨S128, .f32⟩
  | .hbm, ⟨12, _⟩ => ⟨S1x128, .f32⟩
  | .hbm, ⟨13, _⟩ => ⟨S_, .i32⟩
  | .hbm, ⟨14, _⟩ => ⟨S_, .f32⟩
  | .hbm, ⟨15, _⟩ => ⟨S128, .f32⟩
  | .hbm, ⟨16, _⟩ => ⟨S1x128, .f32⟩
  | .hbm, ⟨17, _⟩ => ⟨S32x64, .f32⟩
  | .hbm, ⟨18, _⟩ => ⟨S2048, .f32⟩
  | .hbm, ⟨19, _⟩ => ⟨S1x2048, .f32⟩
  | .hbm, ⟨20, _⟩ => ⟨S1x2048, .f32⟩
  | .hbm, ⟨21, _⟩ => ⟨S_, .f32⟩
  | .hbm, ⟨22, _⟩ => ⟨S4x8x3072, .f32⟩
  | .hbm, ⟨23, _⟩ => ⟨S_, .f32⟩
  | .hbm, ⟨24, _⟩ => ⟨S4x2048x128, .f32⟩
  | .hbm, ⟨25, _⟩ => ⟨S8192x2048, .bf16⟩
  | .hbm, ⟨26, _⟩ => ⟨S4x2048x128, .f32⟩
  | .local _ .vmem, ⟨0, _⟩ => ⟨S128x5120, .f32⟩
  | .local _ .vmem, ⟨1, _⟩ => ⟨S128x5120, .f32⟩
  | .local _ .vmem, ⟨2, _⟩ => ⟨S128x128, .f32⟩
  | .local _ .vmem, ⟨3, _⟩ => ⟨S128x128, .f32⟩
  | .local _ .vmem, ⟨4, _⟩ => ⟨S4x3072, .f32⟩
  | .local _ .vmem, ⟨5, _⟩ => ⟨S1x3072, .f32⟩
  | .local _ .vmem, ⟨6, _⟩ => ⟨S1x128, .f32⟩
  | .local _ .vmem, ⟨7, _⟩ => ⟨S1x128, .f32⟩
  | .local _ .vmem, ⟨8, _⟩ => ⟨S1x2048, .f32⟩
  | .local _ .vmem, ⟨9, _⟩ => ⟨S1x2048, .f32⟩
  | .local _ .vmem, ⟨10, _⟩ => ⟨S1x8x3072, .f32⟩
  | .local _ .vmem, ⟨11, _⟩ => ⟨S1x8x3072, .f32⟩
  | .local _ .vmem, ⟨12, _⟩ => ⟨S1x2048x128, .f32⟩
  | .local _ .vmem, ⟨13, _⟩ => ⟨S1x2048x128, .f32⟩
  | .local _ .vmem, ⟨14, _⟩ => ⟨S128x2048, .bf16⟩
  | .local _ .vmem, ⟨15, _⟩ => ⟨S128x2048, .bf16⟩
  | .local _ .vmem, ⟨16, _⟩ => ⟨S1x2048x128, .f32⟩
  | .local _ .vmem, ⟨17, _⟩ => ⟨S1x2048x128, .f32⟩
  | .local _ .vmem, ⟨18, _⟩ => ⟨S136x3072, .f32⟩
  | .local _ .vmem, ⟨19, _⟩ => ⟨S128x3072, .f32⟩
  | _, _ => ⟨S8256x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_call1_v0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_v11_0 : Ref sig .tc := ⟨.hbm, 25, rfl⟩
abbrev main_v11_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x5120 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x8x3072 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x2048x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S128x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x2048x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== SsdRefIdeal.lean ====
abbrev S8256x5120 : Shape := ⟨2, ![8256, 5120]⟩
abbrev S8256x128 : Shape := ⟨2, ![8256, 128]⟩
abbrev S4x3072 : Shape := ⟨2, ![4, 3072]⟩
abbrev S3072 : Shape := ⟨1, ![3072]⟩
abbrev S32 : Shape := ⟨1, ![32]⟩
abbrev S2048 : Shape := ⟨1, ![2048]⟩
abbrev S8192x5120 : Shape := ⟨2, ![8192, 5120]⟩
abbrev S4x2048x5120 : Shape := ⟨3, ![4, 2048, 5120]⟩
abbrev S4x2048x2048 : Shape := ⟨3, ![4, 2048, 2048]⟩
abbrev S4x2048x3072 : Shape := ⟨3, ![4, 2048, 3072]⟩
abbrev S8192x32 : Shape := ⟨2, ![8192, 32]⟩
abbrev S4x2048x32 : Shape := ⟨3, ![4, 2048, 32]⟩
abbrev S_ : Shape := ⟨0, ![]⟩
abbrev S4x3x3072 : Shape := ⟨3, ![4, 3, 3072]⟩
abbrev S4x2051x3072 : Shape := ⟨3, ![4, 2051, 3072]⟩
abbrev S1x3072 : Shape := ⟨2, ![1, 3072]⟩
abbrev S1x1x3072 : Shape := ⟨3, ![1, 1, 3072]⟩
abbrev S4x16x128x32x64 : Shape := ⟨5, ![4, 16, 128, 32, 64]⟩
abbrev S4x2048x512 : Shape := ⟨3, ![4, 2048, 512]⟩
abbrev S4x2048x4x128 : Shape := ⟨4, ![4, 2048, 4, 128]⟩
abbrev S4x2048x4x8x128 : Shape := ⟨5, ![4, 2048, 4, 8, 128]⟩
abbrev S4x2048x32x128 : Shape := ⟨4, ![4, 2048, 32, 128]⟩
abbrev S4x16x128x32x128 : Shape := ⟨5, ![4, 16, 128, 32, 128]⟩
abbrev S1x1x32 : Shape := ⟨3, ![1, 1, 32]⟩
abbrev S4x16x128x32 : Shape := ⟨4, ![4, 16, 128, 32]⟩
abbrev S1x1x1x32 : Shape := ⟨4, ![1, 1, 1, 32]⟩
abbrev S4x16x128x1x32 : Shape := ⟨5, ![4, 16, 128, 1, 32]⟩
abbrev S4x16x1x128x32 : Shape := ⟨5, ![4, 16, 1, 128, 32]⟩
abbrev S4x16x128x128x32 : Shape := ⟨5, ![4, 16, 128, 128, 32]⟩
abbrev S128x128 : Shape := ⟨2, ![128, 128]⟩
abbrev S128x128x1 : Shape := ⟨3, ![128, 128, 1]⟩
abbrev S4x16x32x128x128 : Shape := ⟨5, ![4, 16, 32, 128, 128]⟩
abbrev S4x16x32x64x128 : Shape := ⟨5, ![4, 16, 32, 64, 128]⟩
abbrev S4x16x1x32 : Shape := ⟨4, ![4, 16, 1, 32]⟩
abbrev S4x16x128x32x1 : Shape := ⟨5, ![4, 16, 128, 32, 1]⟩
abbrev S4x16x32 : Shape := ⟨3, ![4, 16, 32]⟩
abbrev S4x32x64x128 : Shape := ⟨4, ![4, 32, 64, 128]⟩
abbrev S4x1x32 : Shape := ⟨3, ![4, 1, 32]⟩
abbrev S4x32 : Shape := ⟨2, ![4, 32]⟩
abbrev S4x32x1x1 : Shape := ⟨4, ![4, 32, 1, 1]⟩
abbrev S4x1x32x64x128 : Shape := ⟨5, ![4, 1, 32, 64, 128]⟩
abbrev S4x2048x32x64 : Shape := ⟨4, ![4, 2048, 32, 64]⟩
abbrev S32x1 : Shape := ⟨2, ![32, 1]⟩
abbrev S1x1x32x1 : Shape := ⟨4, ![1, 1, 32, 1]⟩
abbrev S4x2048x4x512 : Shape := ⟨4, ![4, 2048, 4, 512]⟩
abbrev S4x2048x4 : Shape := ⟨3, ![4, 2048, 4]⟩
abbrev S4x2048x4x1 : Shape := ⟨4, ![4, 2048, 4, 1]⟩
abbrev S1x1x2048 : Shape := ⟨3, ![1, 1, 2048]⟩
abbrev S8192x2048 : Shape := ⟨2, ![8192, 2048]⟩
abbrev S4x2048x128 : Shape := ⟨3, ![4, 2048, 128]⟩

abbrev nBuf : Space → Nat
  | .hbm => 331
  | .vmem => 0
  | .smem => 0
  | _ => 0

abbrev hbmTy0_0 (i : Nat) : BufTy := match i % 128 with
  | 0 => ⟨S8256x5120, .f32⟩
  | 1 => ⟨S8256x128, .f32⟩
  | 2 => ⟨S4x3072, .f32⟩
  | 3 => ⟨S3072, .f32⟩
  | 4 => ⟨S32, .f32⟩
  | 5 => ⟨S32, .f32⟩
  | 6 => ⟨S32, .f32⟩
  | 7 => ⟨S2048, .f32⟩
  | 8 => ⟨S8192x5120, .f32⟩
  | 9 => ⟨S4x2048x5120, .f32⟩
  | 10 => ⟨S4x2048x2048, .f32⟩
  | 11 => ⟨S4x2048x3072, .f32⟩
  | 12 => ⟨S8192x32, .f32⟩
  | 13 => ⟨S4x2048x32, .f32⟩
  | 14 => ⟨S_, .f32⟩
  | 15 => ⟨S4x3x3072, .f32⟩
  | 16 => ⟨S4x2051x3072, .f32⟩
  | 17 => ⟨S1x3072, .f32⟩
  | 18 => ⟨S3072, .f32⟩
  | 19 => ⟨S4x2048x3072, .f32⟩
  | 20 => ⟨S1x1x3072, .f32⟩
  | 21 => ⟨S4x2048x3072, .f32⟩
  | 22 => ⟨S4x2048x3072, .f32⟩
  | 23 => ⟨S1x3072, .f32⟩
  | 24 => ⟨S3072, .f32⟩
  | 25 => ⟨S4x2048x3072, .f32⟩
  | 26 => ⟨S1x1x3072, .f32⟩
  | 27 => ⟨S4x2048x3072, .f32⟩
  | 28 => ⟨S4x2048x3072, .f32⟩
  | 29 => ⟨S4x2048x3072, .f32⟩
  | 30 => ⟨S1x3072, .f32⟩
  | 31 => ⟨S3072, .f32⟩
  | 32 => ⟨S4x2048x3072, .f32⟩
  | 33 => ⟨S1x1x3072, .f32⟩
  | 34 => ⟨S4x2048x3072, .f32⟩
  | 35 => ⟨S4x2048x3072, .f32⟩
  | 36 => ⟨S4x2048x3072, .f32⟩
  | 37 => ⟨S1x3072, .f32⟩
  | 38 => ⟨S3072, .f32⟩
  | 39 => ⟨S4x2048x3072, .f32⟩
  | 40 => ⟨S1x1x3072, .f32⟩
  | 41 => ⟨S4x2048x3072, .f32⟩
  | 42 => ⟨S4x2048x3072, .f32⟩
  | 43 => ⟨S4x2048x3072, .f32⟩
  | 44 => ⟨S1x1x3072, .f32⟩
  | 45 => ⟨S4x2048x3072, .f32⟩
  | 46 => ⟨S4x2048x3072, .f32⟩
  | 47 => ⟨S4x2048x3072, .f32⟩
  | 48 => ⟨S4x2048x3072, .f32⟩
  | 49 => ⟨S_, .f32⟩
  | 50 => ⟨S4x2048x3072, .f32⟩
  | 51 => ⟨S4x2048x3072, .f32⟩
  | 52 => ⟨S_, .f32⟩
  | 53 => ⟨S4x2048x3072, .f32⟩
  | 54 => ⟨S4x2048x3072, .f32⟩
  | 55 => ⟨S4x2048x3072, .f32⟩
  | 56 => ⟨S4x2048x2048, .f32⟩
  | 57 => ⟨S4x16x128x32x64, .f32⟩
  | 58 => ⟨S4x2048x512, .f32⟩
  | 59 => ⟨S4x2048x4x128, .f32⟩
  | 60 => ⟨S4x2048x4x8x128, .f32⟩
  | 61 => ⟨S4x2048x32x128, .f32⟩
  | 62 => ⟨S4x16x128x32x128, .f32⟩
  | 63 => ⟨S4x2048x512, .f32⟩
  | 64 => ⟨S4x2048x4x128, .f32⟩
  | 65 => ⟨S4x2048x4x8x128, .f32⟩
  | 66 => ⟨S4x2048x32x128, .f32⟩
  | 67 => ⟨S4x16x128x32x128, .f32⟩
  | 68 => ⟨S1x1x32, .f32⟩
  | 69 => ⟨S4x2048x32, .f32⟩
  | 70 => ⟨S4x2048x32, .f32⟩
  | 71 => ⟨S_, .f32⟩
  | 72 => ⟨S4x2048x32, .f32⟩
  | 73 => ⟨S4x2048x32, .f32⟩
  | 74 => ⟨S4x2048x32, .f32⟩
  | 75 => ⟨S4x2048x32, .f32⟩
  | 76 => ⟨S4x2048x32, .i1⟩
  | 77 => ⟨S4x2048x32, .f32⟩
  | 78 => ⟨S4x2048x32, .f32⟩
  | 79 => ⟨S4x2048x32, .f32⟩
  | 80 => ⟨S4x2048x32, .f32⟩
  | 81 => ⟨S4x2048x32, .f32⟩
  | 82 => ⟨S4x2048x32, .f32⟩
  | 83 => ⟨S4x2048x32, .f32⟩
  | 84 => ⟨S4x2048x32, .f32⟩
  | 85 => ⟨S32, .f32⟩
  | 86 => ⟨S32, .f32⟩
  | 87 => ⟨S4x16x128x32, .f32⟩
  | 88 => ⟨S1x1x1x32, .f32⟩
  | 89 => ⟨S4x16x128x32, .f32⟩
  | 90 => ⟨S4x16x128x32, .f32⟩
  | 91 => ⟨S_, .f32⟩
  | 92 => ⟨S_, .f32⟩
  | 93 => ⟨S4x16x128x32, .f32⟩
  | 94 => ⟨S4x16x128x1x32, .f32⟩
  | 95 => ⟨S4x16x1x128x32, .f32⟩
  | 96 => ⟨S4x16x128x128x32, .f32⟩
  | 97 => ⟨S4x16x128x128x32, .f32⟩
  | 98 => ⟨S4x16x128x128x32, .f32⟩
  | 99 => ⟨S_, .i1⟩
  | 100 => ⟨S128x128, .i1⟩
  | 101 => ⟨S128x128, .i32⟩
  | 102 => ⟨S_, .i32⟩
  | 103 => ⟨S128x128, .i32⟩
  | 104 => ⟨S128x128, .i32⟩
  | 105 => ⟨S128x128, .i32⟩
  | 106 => ⟨S128x128, .i1⟩
  | 107 => ⟨S_, .i1⟩
  | 108 => ⟨S128x128, .i1⟩
  | 109 => ⟨S128x128, .i1⟩
  | 110 => ⟨S128x128x1, .i1⟩
  | 111 => ⟨S_, .f32⟩
  | 112 => ⟨S_, .f32⟩
  | 113 => ⟨S4x16x128x128x32, .i1⟩
  | 114 => ⟨S4x16x128x128x32, .f32⟩
  | 115 => ⟨S4x16x128x128x32, .f32⟩
  | 116 => ⟨S4x16x128x128x32, .f32⟩
  | 117 => ⟨S4x16x32x128x128, .f32⟩
  | 118 => ⟨S4x16x128x128x32, .f32⟩
  | 119 => ⟨S4x16x128x128x32, .f32⟩
  | 120 => ⟨S4x16x1x128x32, .f32⟩
  | 121 => ⟨S4x16x128x128x32, .f32⟩
  | 122 => ⟨S4x16x128x128x32, .f32⟩
  | 123 => ⟨S4x16x32x64x128, .f32⟩
  | 124 => ⟨S4x16x128x32x64, .f32⟩
  | 125 => ⟨S4x16x1x32, .f32⟩
  | 126 => ⟨S4x16x128x32, .f32⟩
  | 127 => ⟨S4x16x128x32, .f32⟩
  | _ => ⟨S8256x5120, .f32⟩

abbrev hbmTy0_1 (i : Nat) : BufTy := match i % 128 with
  | 0 => ⟨S4x16x128x32, .f32⟩
  | 1 => ⟨S4x16x128x32, .f32⟩
  | 2 => ⟨S4x16x128x32x1, .f32⟩
  | 3 => ⟨S4x16x128x32x64, .f32⟩
  | 4 => ⟨S4x16x128x32x64, .f32⟩
  | 5 => ⟨S4x16x32x64x128, .f32⟩
  | 6 => ⟨S4x16x1x32, .f32⟩
  | 7 => ⟨S4x16x32, .f32⟩
  | 8 => ⟨S4x16x32, .f32⟩
  | 9 => ⟨S_, .f32⟩
  | 10 => ⟨S4x32x64x128, .f32⟩
  | 11 => ⟨S4x1x32, .f32⟩
  | 12 => ⟨S4x32, .f32⟩
  | 13 => ⟨S4x32x1x1, .f32⟩
  | 14 => ⟨S4x32x64x128, .f32⟩
  | 15 => ⟨S4x32x64x128, .f32⟩
  | 16 => ⟨S4x1x32x64x128, .f32⟩
  | 17 => ⟨S4x32x64x128, .f32⟩
  | 18 => ⟨S4x32x64x128, .f32⟩
  | 19 => ⟨S4x1x32, .f32⟩
  | 20 => ⟨S4x32, .f32⟩
  | 21 => ⟨S4x32x1x1, .f32⟩
  | 22 => ⟨S4x32x64x128, .f32⟩
  | 23 => ⟨S4x32x64x128, .f32⟩
  | 24 => ⟨S4x1x32x64x128, .f32⟩
  | 25 => ⟨S4x32x64x128, .f32⟩
  | 26 => ⟨S4x32x64x128, .f32⟩
  | 27 => ⟨S4x1x32, .f32⟩
  | 28 => ⟨S4x32, .f32⟩
  | 29 => ⟨S4x32x1x1, .f32⟩
  | 30 => ⟨S4x32x64x128, .f32⟩
  | 31 => ⟨S4x32x64x128, .f32⟩
  | 32 => ⟨S4x1x32x64x128, .f32⟩
  | 33 => ⟨S4x32x64x128, .f32⟩
  | 34 => ⟨S4x32x64x128, .f32⟩
  | 35 => ⟨S4x1x32, .f32⟩
  | 36 => ⟨S4x32, .f32⟩
  | 37 => ⟨S4x32x1x1, .f32⟩
  | 38 => ⟨S4x32x64x128, .f32⟩
  | 39 => ⟨S4x32x64x128, .f32⟩
  | 40 => ⟨S4x1x32x64x128, .f32⟩
  | 41 => ⟨S4x32x64x128, .f32⟩
  | 42 => ⟨S4x32x64x128, .f32⟩
  | 43 => ⟨S4x1x32, .f32⟩
  | 44 => ⟨S4x32, .f32⟩
  | 45 => ⟨S4x32x1x1, .f32⟩
  | 46 => ⟨S4x32x64x128, .f32⟩
  | 47 => ⟨S4x32x64x128, .f32⟩
  | 48 => ⟨S4x1x32x64x128, .f32⟩
  | 49 => ⟨S4x32x64x128, .f32⟩
  | 50 => ⟨S4x32x64x128, .f32⟩
  | 51 => ⟨S4x1x32, .f32⟩
  | 52 => ⟨S4x32, .f32⟩
  | 53 => ⟨S4x32x1x1, .f32⟩
  | 54 => ⟨S4x32x64x128, .f32⟩
  | 55 => ⟨S4x32x64x128, .f32⟩
  | 56 => ⟨S4x1x32x64x128, .f32⟩
  | 57 => ⟨S4x32x64x128, .f32⟩
  | 58 => ⟨S4x32x64x128, .f32⟩
  | 59 => ⟨S4x1x32, .f32⟩
  | 60 => ⟨S4x32, .f32⟩
  | 61 => ⟨S4x32x1x1, .f32⟩
  | 62 => ⟨S4x32x64x128, .f32⟩
  | 63 => ⟨S4x32x64x128, .f32⟩
  | 64 => ⟨S4x1x32x64x128, .f32⟩
  | 65 => ⟨S4x32x64x128, .f32⟩
  | 66 => ⟨S4x32x64x128, .f32⟩
  | 67 => ⟨S4x1x32, .f32⟩
  | 68 => ⟨S4x32, .f32⟩
  | 69 => ⟨S4x32x1x1, .f32⟩
  | 70 => ⟨S4x32x64x128, .f32⟩
  | 71 => ⟨S4x32x64x128, .f32⟩
  | 72 => ⟨S4x1x32x64x128, .f32⟩
  | 73 => ⟨S4x32x64x128, .f32⟩
  | 74 => ⟨S4x32x64x128, .f32⟩
  | 75 => ⟨S4x1x32, .f32⟩
  | 76 => ⟨S4x32, .f32⟩
  | 77 => ⟨S4x32x1x1, .f32⟩
  | 78 => ⟨S4x32x64x128, .f32⟩
  | 79 => ⟨S4x32x64x128, .f32⟩
  | 80 => ⟨S4x1x32x64x128, .f32⟩
  | 81 => ⟨S4x32x64x128, .f32⟩
  | 82 => ⟨S4x32x64x128, .f32⟩
  | 83 => ⟨S4x1x32, .f32⟩
  | 84 => ⟨S4x32, .f32⟩
  | 85 => ⟨S4x32x1x1, .f32⟩
  | 86 => ⟨S4x32x64x128, .f32⟩
  | 87 => ⟨S4x32x64x128, .f32⟩
  | 88 => ⟨S4x1x32x64x128, .f32⟩
  | 89 => ⟨S4x32x64x128, .f32⟩
  | 90 => ⟨S4x32x64x128, .f32⟩
  | 91 => ⟨S4x1x32, .f32⟩
  | 92 => ⟨S4x32, .f32⟩
  | 93 => ⟨S4x32x1x1, .f32⟩
  | 94 => ⟨S4x32x64x128, .f32⟩
  | 95 => ⟨S4x32x64x128, .f32⟩
  | 96 => ⟨S4x1x32x64x128, .f32⟩
  | 97 => ⟨S4x32x64x128, .f32⟩
  | 98 => ⟨S4x32x64x128, .f32⟩
  | 99 => ⟨S4x1x32, .f32⟩
  | 100 => ⟨S4x32, .f32⟩
  | 101 => ⟨S4x32x1x1, .f32⟩
  | 102 => ⟨S4x32x64x128, .f32⟩
  | 103 => ⟨S4x32x64x128, .f32⟩
  | 104 => ⟨S4x1x32x64x128, .f32⟩
  | 105 => ⟨S4x32x64x128, .f32⟩
  | 106 => ⟨S4x32x64x128, .f32⟩
  | 107 => ⟨S4x1x32, .f32⟩
  | 108 => ⟨S4x32, .f32⟩
  | 109 => ⟨S4x32x1x1, .f32⟩
  | 110 => ⟨S4x32x64x128, .f32⟩
  | 111 => ⟨S4x32x64x128, .f32⟩
  | 112 => ⟨S4x1x32x64x128, .f32⟩
  | 113 => ⟨S4x32x64x128, .f32⟩
  | 114 => ⟨S4x32x64x128, .f32⟩
  | 115 => ⟨S4x1x32, .f32⟩
  | 116 => ⟨S4x32, .f32⟩
  | 117 => ⟨S4x32x1x1, .f32⟩
  | 118 => ⟨S4x32x64x128, .f32⟩
  | 119 => ⟨S4x32x64x128, .f32⟩
  | 120 => ⟨S4x1x32x64x128, .f32⟩
  | 121 => ⟨S4x32x64x128, .f32⟩
  | 122 => ⟨S4x32x64x128, .f32⟩
  | 123 => ⟨S4x1x32, .f32⟩
  | 124 => ⟨S4x32, .f32⟩
  | 125 => ⟨S4x32x1x1, .f32⟩
  | 126 => ⟨S4x32x64x128, .f32⟩
  | 127 => ⟨S4x32x64x128, .f32⟩
  | _ => ⟨S8256x5120, .f32⟩

abbrev hbmTy0_2 (i : Nat) : BufTy := match i % 128 with
  | 0 => ⟨S4x1x32x64x128, .f32⟩
  | 1 => ⟨S4x32x64x128, .f32⟩
  | 2 => ⟨S4x32x64x128, .f32⟩
  | 3 => ⟨S4x1x32, .f32⟩
  | 4 => ⟨S4x32, .f32⟩
  | 5 => ⟨S4x32x1x1, .f32⟩
  | 6 => ⟨S4x32x64x128, .f32⟩
  | 7 => ⟨S4x32x64x128, .f32⟩
  | 8 => ⟨S4x1x32x64x128, .f32⟩
  | 9 => ⟨S4x32x64x128, .f32⟩
  | 10 => ⟨S4x32x64x128, .f32⟩
  | 11 => ⟨S4x1x32x64x128, .f32⟩
  | 12 => ⟨S4x1x32x64x128, .f32⟩
  | 13 => ⟨S4x1x32x64x128, .f32⟩
  | 14 => ⟨S4x1x32x64x128, .f32⟩
  | 15 => ⟨S4x1x32x64x128, .f32⟩
  | 16 => ⟨S4x1x32x64x128, .f32⟩
  | 17 => ⟨S4x1x32x64x128, .f32⟩
  | 18 => ⟨S4x1x32x64x128, .f32⟩
  | 19 => ⟨S4x1x32x64x128, .f32⟩
  | 20 => ⟨S4x1x32x64x128, .f32⟩
  | 21 => ⟨S4x1x32x64x128, .f32⟩
  | 22 => ⟨S4x1x32x64x128, .f32⟩
  | 23 => ⟨S4x1x32x64x128, .f32⟩
  | 24 => ⟨S4x1x32x64x128, .f32⟩
  | 25 => ⟨S4x1x32x64x128, .f32⟩
  | 26 => ⟨S4x1x32x64x128, .f32⟩
  | 27 => ⟨S4x16x32x64x128, .f32⟩
  | 28 => ⟨S4x16x32x64x128, .f32⟩
  | 29 => ⟨S4x16x128x32x64, .f32⟩
  | 30 => ⟨S4x16x128x32, .f32⟩
  | 31 => ⟨S4x16x128x32x1, .f32⟩
  | 32 => ⟨S4x16x128x32x64, .f32⟩
  | 33 => ⟨S4x16x128x32x64, .f32⟩
  | 34 => ⟨S4x16x128x32x64, .f32⟩
  | 35 => ⟨S4x2048x32x64, .f32⟩
  | 36 => ⟨S32x1, .f32⟩
  | 37 => ⟨S4x2048x2048, .f32⟩
  | 38 => ⟨S4x2048x32x64, .f32⟩
  | 39 => ⟨S1x1x32x1, .f32⟩
  | 40 => ⟨S4x2048x32x64, .f32⟩
  | 41 => ⟨S4x2048x32x64, .f32⟩
  | 42 => ⟨S4x2048x32x64, .f32⟩
  | 43 => ⟨S4x2048x2048, .f32⟩
  | 44 => ⟨S4x2048x2048, .f32⟩
  | 45 => ⟨S4x2048x2048, .f32⟩
  | 46 => ⟨S_, .f32⟩
  | 47 => ⟨S4x2048x2048, .f32⟩
  | 48 => ⟨S4x2048x2048, .f32⟩
  | 49 => ⟨S_, .f32⟩
  | 50 => ⟨S4x2048x2048, .f32⟩
  | 51 => ⟨S4x2048x2048, .f32⟩
  | 52 => ⟨S4x2048x2048, .f32⟩
  | 53 => ⟨S4x2048x2048, .f32⟩
  | 54 => ⟨S4x2048x4x512, .f32⟩
  | 55 => ⟨S4x2048x4x512, .f32⟩
  | 56 => ⟨S_, .f32⟩
  | 57 => ⟨S4x2048x4, .f32⟩
  | 58 => ⟨S4x2048x4x1, .f32⟩
  | 59 => ⟨S_, .f32⟩
  | 60 => ⟨S4x2048x4x1, .f32⟩
  | 61 => ⟨S4x2048x4x1, .f32⟩
  | 62 => ⟨S_, .f32⟩
  | 63 => ⟨S4x2048x4x1, .f32⟩
  | 64 => ⟨S4x2048x4x1, .f32⟩
  | 65 => ⟨S4x2048x4x1, .f32⟩
  | 66 => ⟨S4x2048x4x512, .f32⟩
  | 67 => ⟨S4x2048x4x512, .f32⟩
  | 68 => ⟨S4x2048x2048, .f32⟩
  | 69 => ⟨S1x1x2048, .f32⟩
  | 70 => ⟨S4x2048x2048, .f32⟩
  | 71 => ⟨S4x2048x2048, .f32⟩
  | 72 => ⟨S4x2048x2048, .bf16⟩
  | 73 => ⟨S8192x2048, .bf16⟩
  | 74 => ⟨S4x2048x128, .f32⟩
  | _ => ⟨S8256x5120, .f32⟩

abbrev hbmTy (i : Nat) : BufTy := match i / 128 with
  | 0 => hbmTy0_0 i
  | 1 => hbmTy0_1 i
  | 2 => hbmTy0_2 i
  | _ => ⟨S8256x5120, .f32⟩

abbrev bufTy : (tb : Table) → Fin (tcTables nBuf tb) → BufTy
  | .hbm, ⟨i, _⟩ => hbmTy i
  | _, _ => ⟨S8256x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_call0_v0 : Ref sig .tc := ⟨.hbm, 47, rfl⟩
abbrev main_call0_v1 : Ref sig .tc := ⟨.hbm, 48, rfl⟩
abbrev main_call0_cst : Ref sig .tc := ⟨.hbm, 49, rfl⟩
abbrev main_call0_v2 : Ref sig .tc := ⟨.hbm, 50, rfl⟩
abbrev main_call0_v3 : Ref sig .tc := ⟨.hbm, 51, rfl⟩
abbrev main_call0_cst_0 : Ref sig .tc := ⟨.hbm, 52, rfl⟩
abbrev main_call0_v4 : Ref sig .tc := ⟨.hbm, 53, rfl⟩
abbrev main_call0_v5 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_call1_cst : Ref sig .tc := ⟨.hbm, 71, rfl⟩
abbrev main_call1_v0 : Ref sig .tc := ⟨.hbm, 72, rfl⟩
abbrev main_call1_v1 : Ref sig .tc := ⟨.hbm, 73, rfl⟩
abbrev main_call1_v2 : Ref sig .tc := ⟨.hbm, 74, rfl⟩
abbrev main_call1_v3 : Ref sig .tc := ⟨.hbm, 75, rfl⟩
abbrev main_call1_v4 : Ref sig .tc := ⟨.hbm, 76, rfl⟩
abbrev main_call1_v5 : Ref sig .tc := ⟨.hbm, 77, rfl⟩
abbrev main_call1_v6 : Ref sig .tc := ⟨.hbm, 78, rfl⟩
abbrev main_call1_v7 : Ref sig .tc := ⟨.hbm, 79, rfl⟩
abbrev main_call1_v8 : Ref sig .tc := ⟨.hbm, 80, rfl⟩
abbrev main_call1_v9 : Ref sig .tc := ⟨.hbm, 81, rfl⟩
abbrev main_call1_v10 : Ref sig .tc := ⟨.hbm, 82, rfl⟩
abbrev main_call1_v11 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_call2_call0_cst : Ref sig .tc := ⟨.hbm, 91, rfl⟩
abbrev main_call2_call0_v0 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_c : Ref sig .tc := ⟨.hbm, 99, rfl⟩
abbrev main_v67 : Ref sig .tc := ⟨.hbm, 100, rfl⟩
abbrev main_call3_v0 : Ref sig .tc := ⟨.hbm, 101, rfl⟩
abbrev main_call3_c : Ref sig .tc := ⟨.hbm, 102, rfl⟩
abbrev main_call3_v1 : Ref sig .tc := ⟨.hbm, 103, rfl⟩
abbrev main_call3_v2 : Ref sig .tc := ⟨.hbm, 104, rfl⟩
abbrev main_call3_v3 : Ref sig .tc := ⟨.hbm, 105, rfl⟩
abbrev main_call3_v4 : Ref sig .tc := ⟨.hbm, 106, rfl⟩
abbrev main_call3_c_0 : Ref sig .tc := ⟨.hbm, 107, rfl⟩
abbrev main_call3_v5 : Ref sig .tc := ⟨.hbm, 108, rfl⟩
abbrev main_v68 : Ref sig .tc := ⟨.hbm, 109, rfl⟩
abbrev main_v69 : Ref sig .tc := ⟨.hbm, 110, rfl⟩
abbrev main_cst_0 : Ref sig .tc := ⟨.hbm, 111, rfl⟩
abbrev main_call4_v0 : Ref sig .tc := ⟨.hbm, 112, rfl⟩
abbrev main_call4_v1 : Ref sig .tc := ⟨.hbm, 113, rfl⟩
abbrev main_call4_v2 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_cst_1 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_v156 : Ref sig .tc := ⟨.hbm, 202, rfl⟩
abbrev main_v157 : Ref sig .tc := ⟨.hbm, 203, rfl⟩
abbrev main_v158 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_v167 : Ref sig .tc := ⟨.hbm, 213, rfl⟩
abbrev main_v168 : Ref sig .tc := ⟨.hbm, 214, rfl⟩
abbrev main_v169 : Ref sig .tc := ⟨.hbm, 215, rfl⟩
abbrev main_v170 : Ref sig .tc := ⟨.hbm, 216, rfl⟩
abbrev main_v171 : Ref sig .tc := ⟨.hbm, 217, rfl⟩
abbrev main_v172 : Ref sig .tc := ⟨.hbm, 218, rfl⟩
abbrev main_v173 : Ref sig .tc := ⟨.hbm, 219, rfl⟩
abbrev main_v174 : Ref sig .tc := ⟨.hbm, 220, rfl⟩
abbrev main_v175 : Ref sig .tc := ⟨.hbm, 221, rfl⟩
abbrev main_v176 : Ref sig .tc := ⟨.hbm, 222, rfl⟩
abbrev main_v177 : Ref sig .tc := ⟨.hbm, 223, rfl⟩
abbrev main_v178 : Ref sig .tc := ⟨.hbm, 224, rfl⟩
abbrev main_v179 : Ref sig .tc := ⟨.hbm, 225, rfl⟩
abbrev main_v180 : Ref sig .tc := ⟨.hbm, 226, rfl⟩
abbrev main_v181 : Ref sig .tc := ⟨.hbm, 227, rfl⟩
abbrev main_v182 : Ref sig .tc := ⟨.hbm, 228, rfl⟩
abbrev main_v183 : Ref sig .tc := ⟨.hbm, 229, rfl⟩
abbrev main_v184 : Ref sig .tc := ⟨.hbm, 230, rfl⟩
abbrev main_v185 : Ref sig .tc := ⟨.hbm, 231, rfl⟩
abbrev main_v186 : Ref sig .tc := ⟨.hbm, 232, rfl⟩
abbrev main_v187 : Ref sig .tc := ⟨.hbm, 233, rfl⟩
abbrev main_v188 : Ref sig .tc := ⟨.hbm, 234, rfl⟩
abbrev main_v189 : Ref sig .tc := ⟨.hbm, 235, rfl⟩
abbrev main_v190 : Ref sig .tc := ⟨.hbm, 236, rfl⟩
abbrev main_v191 : Ref sig .tc := ⟨.hbm, 237, rfl⟩
abbrev main_v192 : Ref sig .tc := ⟨.hbm, 238, rfl⟩
abbrev main_v193 : Ref sig .tc := ⟨.hbm, 239, rfl⟩
abbrev main_v194 : Ref sig .tc := ⟨.hbm, 240, rfl⟩
abbrev main_v195 : Ref sig .tc := ⟨.hbm, 241, rfl⟩
abbrev main_v196 : Ref sig .tc := ⟨.hbm, 242, rfl⟩
abbrev main_v197 : Ref sig .tc := ⟨.hbm, 243, rfl⟩
abbrev main_v198 : Ref sig .tc := ⟨.hbm, 244, rfl⟩
abbrev main_v199 : Ref sig .tc := ⟨.hbm, 245, rfl⟩
abbrev main_v200 : Ref sig .tc := ⟨.hbm, 246, rfl⟩
abbrev main_v201 : Ref sig .tc := ⟨.hbm, 247, rfl⟩
abbrev main_v202 : Ref sig .tc := ⟨.hbm, 248, rfl⟩
abbrev main_v203 : Ref sig .tc := ⟨.hbm, 249, rfl⟩
abbrev main_v204 : Ref sig .tc := ⟨.hbm, 250, rfl⟩
abbrev main_v205 : Ref sig .tc := ⟨.hbm, 251, rfl⟩
abbrev main_v206 : Ref sig .tc := ⟨.hbm, 252, rfl⟩
abbrev main_v207 : Ref sig .tc := ⟨.hbm, 253, rfl⟩
abbrev main_v208 : Ref sig .tc := ⟨.hbm, 254, rfl⟩
abbrev main_v209 : Ref sig .tc := ⟨.hbm, 255, rfl⟩
abbrev main_v210 : Ref sig .tc := ⟨.hbm, 256, rfl⟩
abbrev main_v211 : Ref sig .tc := ⟨.hbm, 257, rfl⟩
abbrev main_v212 : Ref sig .tc := ⟨.hbm, 258, rfl⟩
abbrev main_v213 : Ref sig .tc := ⟨.hbm, 259, rfl⟩
abbrev main_v214 : Ref sig .tc := ⟨.hbm, 260, rfl⟩
abbrev main_v215 : Ref sig .tc := ⟨.hbm, 261, rfl⟩
abbrev main_v216 : Ref sig .tc := ⟨.hbm, 262, rfl⟩
abbrev main_v217 : Ref sig .tc := ⟨.hbm, 263, rfl⟩
abbrev main_v218 : Ref sig .tc := ⟨.hbm, 264, rfl⟩
abbrev main_v219 : Ref sig .tc := ⟨.hbm, 265, rfl⟩
abbrev main_v220 : Ref sig .tc := ⟨.hbm, 266, rfl⟩
abbrev main_v221 : Ref sig .tc := ⟨.hbm, 267, rfl⟩
abbrev main_v222 : Ref sig .tc := ⟨.hbm, 268, rfl⟩
abbrev main_v223 : Ref sig .tc := ⟨.hbm, 269, rfl⟩
abbrev main_v224 : Ref sig .tc := ⟨.hbm, 270, rfl⟩
abbrev main_v225 : Ref sig .tc := ⟨.hbm, 271, rfl⟩
abbrev main_v226 : Ref sig .tc := ⟨.hbm, 272, rfl⟩
abbrev main_v227 : Ref sig .tc := ⟨.hbm, 273, rfl⟩
abbrev main_v228 : Ref sig .tc := ⟨.hbm, 274, rfl⟩
abbrev main_v229 : Ref sig .tc := ⟨.hbm, 275, rfl⟩
abbrev main_v230 : Ref sig .tc := ⟨.hbm, 276, rfl⟩
abbrev main_v231 : Ref sig .tc := ⟨.hbm, 277, rfl⟩
abbrev main_v232 : Ref sig .tc := ⟨.hbm, 278, rfl⟩
abbrev main_v233 : Ref sig .tc := ⟨.hbm, 279, rfl⟩
abbrev main_v234 : Ref sig .tc := ⟨.hbm, 280, rfl⟩
abbrev main_v235 : Ref sig .tc := ⟨.hbm, 281, rfl⟩
abbrev main_v236 : Ref sig .tc := ⟨.hbm, 282, rfl⟩
abbrev main_v237 : Ref sig .tc := ⟨.hbm, 283, rfl⟩
abbrev main_v238 : Ref sig .tc := ⟨.hbm, 284, rfl⟩
abbrev main_v239 : Ref sig .tc := ⟨.hbm, 285, rfl⟩
abbrev main_v240 : Ref sig .tc := ⟨.hbm, 286, rfl⟩
abbrev main_v241 : Ref sig .tc := ⟨.hbm, 287, rfl⟩
abbrev main_v242 : Ref sig .tc := ⟨.hbm, 288, rfl⟩
abbrev main_v243 : Ref sig .tc := ⟨.hbm, 289, rfl⟩
abbrev main_v244 : Ref sig .tc := ⟨.hbm, 290, rfl⟩
abbrev main_v245 : Ref sig .tc := ⟨.hbm, 291, rfl⟩
abbrev main_v246 : Ref sig .tc := ⟨.hbm, 292, rfl⟩
abbrev main_v247 : Ref sig .tc := ⟨.hbm, 293, rfl⟩
abbrev main_v248 : Ref sig .tc := ⟨.hbm, 294, rfl⟩
abbrev main_v249 : Ref sig .tc := ⟨.hbm, 295, rfl⟩
abbrev main_v250 : Ref sig .tc := ⟨.hbm, 296, rfl⟩
abbrev main_v251 : Ref sig .tc := ⟨.hbm, 297, rfl⟩
abbrev main_v252 : Ref sig .tc := ⟨.hbm, 298, rfl⟩
abbrev main_v253 : Ref sig .tc := ⟨.hbm, 299, rfl⟩
abbrev main_call5_v0 : Ref sig .tc := ⟨.hbm, 300, rfl⟩
abbrev main_call5_v1 : Ref sig .tc := ⟨.hbm, 301, rfl⟩
abbrev main_call5_cst : Ref sig .tc := ⟨.hbm, 302, rfl⟩
abbrev main_call5_v2 : Ref sig .tc := ⟨.hbm, 303, rfl⟩
abbrev main_call5_v3 : Ref sig .tc := ⟨.hbm, 304, rfl⟩
abbrev main_call5_cst_0 : Ref sig .tc := ⟨.hbm, 305, rfl⟩
abbrev main_call5_v4 : Ref sig .tc := ⟨.hbm, 306, rfl⟩
abbrev main_call5_v5 : Ref sig .tc := ⟨.hbm, 307, rfl⟩
abbrev main_v254 : Ref sig .tc := ⟨.hbm, 308, rfl⟩
abbrev main_v255 : Ref sig .tc := ⟨.hbm, 309, rfl⟩
abbrev main_v256 : Ref sig .tc := ⟨.hbm, 310, rfl⟩
abbrev main_v257 : Ref sig .tc := ⟨.hbm, 311, rfl⟩
abbrev main_cst_2 : Ref sig .tc := ⟨.hbm, 312, rfl⟩
abbrev main_v258 : Ref sig .tc := ⟨.hbm, 313, rfl⟩
abbrev main_v259 : Ref sig .tc := ⟨.hbm, 314, rfl⟩
abbrev main_cst_3 : Ref sig .tc := ⟨.hbm, 315, rfl⟩
abbrev main_v260 : Ref sig .tc := ⟨.hbm, 316, rfl⟩
abbrev main_v261 : Ref sig .tc := ⟨.hbm, 317, rfl⟩
abbrev main_cst_4 : Ref sig .tc := ⟨.hbm, 318, rfl⟩
abbrev main_v262 : Ref sig .tc := ⟨.hbm, 319, rfl⟩
abbrev main_v263 : Ref sig .tc := ⟨.hbm, 320, rfl⟩
abbrev main_v264 : Ref sig .tc := ⟨.hbm, 321, rfl⟩
abbrev main_v265 : Ref sig .tc := ⟨.hbm, 322, rfl⟩
abbrev main_v266 : Ref sig .tc := ⟨.hbm, 323, rfl⟩
abbrev main_v267 : Ref sig .tc := ⟨.hbm, 324, rfl⟩
abbrev main_v268 : Ref sig .tc := ⟨.hbm, 325, rfl⟩
abbrev main_v269 : Ref sig .tc := ⟨.hbm, 326, rfl⟩
abbrev main_v270 : Ref sig .tc := ⟨.hbm, 327, rfl⟩
abbrev main_v271 : Ref sig .tc := ⟨.hbm, 328, rfl⟩
abbrev main_v272 : Ref sig .tc := ⟨.hbm, 329, rfl⟩
abbrev main_v273 : Ref sig .tc := ⟨.hbm, 330, rfl⟩

abbrev nD : Nat := 1
abbrev τ : Topo := Topo.v7x

variable {F : FTy → Type} [FloatOps F]
-- ==== Proof.Layer.Sums.lean ====
/- Finite sums split at literal places. -/
module

public import Mathlib.Algebra.BigOperators.Fin

@[expose] public section

namespace Cert.Layer

/-- A sum over `n * b` indices is the sum of the sums over its `n` blocks of `b`. -/
theorem sum_blocks {M : Type*} [AddCommMonoid M] (n b : ℕ) (f : Fin (n * b) → M) :
    ∑ k, f k = ∑ i : Fin n, ∑ j : Fin b, f (finProdFinEquiv (i, j)) := by
  rw [← finProdFinEquiv.sum_comp, Fintype.sum_prod_type]

/-- A sum over 4096 indices, in four runs of 1024. -/
theorem sum_4096 {M : Type*} [AddCommMonoid M] (f : Fin 4096 → M) :
    ∑ k, f k = ∑ k : Fin 1024, f ⟨k.val, by omega⟩ + ∑ k : Fin 1024, f ⟨1024 + k.val, by omega⟩
      + ∑ k : Fin 1024, f ⟨2048 + k.val, by omega⟩ + ∑ k : Fin 1024, f ⟨3072 + k.val, by omega⟩ := by
  refine (sum_blocks 4 1024 f).trans ?_
  rw [Fin.sum_univ_four]
  refine congrArg₂ _ (congrArg₂ _ (congrArg₂ _ ?_ ?_) ?_) ?_ <;>
    exact Finset.sum_congr rfl fun k _ => congrArg f (Fin.ext (by simp [finProdFinEquiv]; try omega))

/-- Row and column of an entry of the projection weight, from its place counted row by row. -/
theorem row_of (k j : ℕ) (hk : k < 4096) (hj : j < 24608) : (k * 24608 + j) / 24608 % 4096 = k := by
  rw [Nat.mul_comm, Nat.mul_add_div (by decide), Nat.div_eq_of_lt hj, Nat.add_zero, Nat.mod_eq_of_lt hk]

theorem col_of (k j : ℕ) (hj : j < 24608) : (k * 24608 + j) % 24608 = j := Nat.mul_add_mod_of_lt hj

/-- The same for a weight of 4096 columns read in blocks of 4096 rows. -/
theorem row_blk (k s e : ℕ) (hk : k < 4096) (hs : s < 4) (he : e < 4096) : ((k + 4096 * s) * 4096 + e) / 4096 % 16384 = s * 4096 + k := by
  omega

theorem col_blk (k s e : ℕ) (he : e < 4096) : ((k + 4096 * s) * 4096 + e) % 4096 = e := by omega

end Cert.Layer

end
-- ==== Proof.Layer.UpValue.lean ====
/- The feed-forward product with its squared rectifier: the array the kernel leaves is the reference's. -/
module

public import proofs.«01_k».proof.Proof.Gen.UpIdeal.Frame
public import proofs.«01_k».proof.Proof.Gen.UpRefIdeal.Read
public import proofs.«01_k».proof.Proof.Layer.Sums
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Layer.Up

open Cert.UpIdeal Cert.UpIdeal.Gen
open Cert.UpRefIdeal.Read

variable (m : (ℓ : Loc nD τ sig) → Buf (Elt Ideal) ℓ)

theorem idx : ∀ t : Fin cfg0.N, win0_0.index t = ![t.val / 32, 0] ∧ win0_1.index t = ![0, 0, t.val % 32]
    ∧ win0_2.index t = ![t.val / 32, t.val % 32] ∧ t.val / 32 < 6 :=
  (by decide +kernel : ∀ t : Fin grid0.N, _)

/-- What the body stores at place `y` of a block is the reference's element where `y` sits in the array. -/
theorem point (c : Dev nD) (t : Fin cfg0.N) (y : S1376x512.Idx) :
    k0_pay1 (View.ld (iblk m c 0 t) r0_0) (View.ld (iblk m c 1 t) r0_1) (View.ld (iblk m c 0 t) r0_2) (View.ld (iblk m c 1 t) r0_3)
      (View.ld (iblk m c 0 t) r0_4) (View.ld (iblk m c 1 t) r0_5) (View.ld (iblk m c 0 t) r0_6) (View.ld (iblk m c 1 t) r0_7) y
    = val_main_v6 (m ((c : Thread nD τ).loc main_arg0)) (m ((c : Thread nD τ).loc main_arg1)) (((cfg0.win 2).blk t).view.emb y) := by
  rw [val_main_v6_apply, val_main_v5_apply, val_main_v4_apply, val_main_v3_apply, sum_4096]
  simp only [val_main_v0_apply, val_main_v2_apply, val_main_v1_apply, val_main_call0_v0_apply, val_main_call0_cst_apply]
  pointwise [k0_pay1]
  blk_point [iblk, V, idx t]

theorem final (c : Dev nD) : (dats m 0 c).arrAt 2 (cfgs 0).N
    = val_main_v6 (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.Layer.Up

end
-- ==== Proof.Layer.UpClaim.lean ====
/- The claims about the feed-forward product `Up`. -/
module

public import proofs.«01_k».proof.Defs
public import proofs.«01_k».proof.Proof.Gen.Up.Frame
public import proofs.«01_k».proof.Proof.Layer.UpValue
public import Idealize.ShloMosaic.Lib.Claim

@[expose] public section

set_option maxRecDepth 16384

noncomputable section

open Idealize.ShloMosaic Idealize.SL.Sem

namespace Cert.Layer.Up

theorem frame : Cert.quiescent_Up := fun m ρ _ => Cert.Up.Gen.frame m ρ
theorem frameI : Cert.quiescent_UpIdeal := fun m ρ _ => Cert.UpIdeal.Gen.frame m ρ

theorem frameR : Cert.quiescent_UpRefIdeal := by
  intro m g _
  exact (θ_run _ _ _).mono (fun r h => ⟨fun c => (h c).2, sem_eq_zero_of_no_sems (by decide) r.2⟩)
    (Cert.UpRefIdeal.Value.run m g)

theorem algebraic : Cert.algebraic_UpIdeal_UpRefIdeal := by
  pair_intro
  · run_from Cert.UpIdeal.Gen.run_main m g
  · run_from Cert.UpRefIdeal.Value.run m' g'
    exact (Cert.UpRefIdeal.Read.val_main_v6_eq _ _).trans (final m c).symm

end Cert.Layer.Up

end
-- ==== Proof.Layer.DownValue.lean ====
module

public import proofs.«01_k».proof.Proof.Gen.DownIdeal.Frame
public import proofs.«01_k».proof.Proof.Gen.DownRefIdeal.Read
public import proofs.«01_k».proof.Proof.Layer.Sums
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Layer.Down

open Cert.DownIdeal Cert.DownIdeal.Gen
open Cert.DownRefIdeal.Read

variable (m : (ℓ : Loc nD τ sig) → Buf (Elt Ideal) ℓ)

/-- Which blocks each grid point works on. -/
theorem idx : ∀ t : Fin cfg0.N, win0_0.index t = ![t.val / 32, t.val % 4] ∧ win0_1.index t = ![0, t.val % 4, t.val / 4 % 8]
    ∧ win0_2.index t = ![t.val / 32, t.val / 4 % 8] ∧ win0_3.index t = ![t.val / 32, t.val / 4 % 8] ∧ t.val / 32 < 6 :=
  (by decide +kernel : ∀ t : Fin grid0.N, _)

/-- A block of rows times a block of the weight, at an entry. -/
def prod (a : FVec Ideal S1376x4096 .bf16) (b : FVec Ideal S1x4096x512 .f32) (j : S1376x512.Idx) : EReal :=
  ∑ k : Fin 4096, a (ix2 (j 0) k) * b (ix3 0 k (j 1))

/-- What one grid point adds to the accumulator. -/
def term (c : Dev nD) (t : Fin cfg0.N) (j : S1376x512.Idx) : EReal := prod (iblk m c 0 t) (iblk m c 1 t) j

theorem acc_first (c : Dev nD) (t : Fin cfg0.N) (h : t.val % 4 = 0) (j : S1376x512.Idx) :
    (outsAt0 m c t.val t.isLt).2 j = (0 : EReal) + term m c t j := by
  rw [outsAt0_A m c t h (by omega) (by omega)]
  frame_out
  rw [term, prod, sum_4096, zero_add]
  pointwise [k0_pay1]

theorem acc_step (c : Dev nD) (t : Fin cfg0.N) (h : ¬t.val % 4 = 0) (j : S1376x512.Idx) :
    (outsAt0 m c t.val t.isLt).2 j
    = ((outsAt0 m c (t.val - 1) (Nat.lt_of_le_of_lt (Nat.sub_le _ _) t.isLt)).2 j : EReal) + term m c t j := by
  by_cases h3 : t.val % 4 = 3
  · rw [outsAt0_C m c t h (by omega) h3]
    frame_out
    rw [term, prod, sum_4096]
    simp only [read_unread_whole]
    pointwise [k0_pay2]
  · rw [outsAt0_B m c t h (by omega) h3]
    frame_out
    rw [term, prod, sum_4096]
    simp only [read_unread_whole]
    pointwise [k0_pay2]

theorem out_last (c : Dev nD) (t : Fin cfg0.N) (h : t.val % 4 = 3) (j : S1376x512.Idx) :
    (outsAt0 m c t.val t.isLt).1 j = (show EReal from iblk m c 2 t j) + (show EReal from (outsAt0 m c t.val t.isLt).2 j) := by
  rw [outsAt0_C m c t (by omega) (by omega) h]
  frame_out
  pointwise [k0_pay3]

theorem final (c : Dev nD) : (dats m 0 c).arrAt 3 (cfgs 0).N
    = val_main_v4 (m ((c : Thread nD τ).loc main_arg0)) (m ((c : Thread nD τ).loc main_arg1)) (m ((c : Thread nD τ).loc main_arg2)) := by
  refine (dats m 0 c).arrAt_eq_of_covers 3 _ (by decide +kernel) fun t hf y => ?_
  have h3 := (flush0_3 t).mp hf
  blk_simp
  rw [after0_3, out_last m c t h3, Pipeline.eq_sum_fin_of_reset_step_apply_of_flush (fun n h => (outsAt0 m c n h).2) 4 (fun _ => 0) (term m c)
    (acc_first m c) (acc_step m c) t h3 _, zero_add, val_main_v4_apply, val_main_v3_apply]
  refine congrArg₂ (fun a b : EReal => a + b) ?_ (Eq.trans ?_ (sum_blocks (M := EReal) 4 4096 _).symm)
  · blk_ext [iblk, V, idx t]
  · refine Finset.sum_congr rfl fun s _ => ?_
    rw [term, prod]
    refine Finset.sum_congr rfl fun k _ => ?_
    refine congrArg₂ (fun a b : EReal => a * b) ?_ ?_
    · rw [val_main_v0_apply]
      simp only [finProdFinEquiv, Equiv.coe_fn_mk]
      blk_ext [iblk, V, idx t, idx ⟨_, Pipeline.run_point_lt_of_flush t h3 s⟩]
    simp only [val_main_v1_apply, val_main_v2_apply, finProdFinEquiv, Equiv.coe_fn_mk]
    blk_ext [iblk, V, idx t, idx ⟨_, Pipeline.run_point_lt_of_flush t h3 s⟩]
    · rw [row_blk _ _ _ (by omega) s.isLt (by omega)]
      omega
    · rw [col_blk _ _ _ (by omega)]
      omega

end Cert.Layer.Down

end
-- ==== Proof.Layer.DownClaim.lean ====
/- The claims about the feed-forward product back to the model width, `Down`. -/
module

public import proofs.«01_k».proof.Defs
public import proofs.«01_k».proof.Proof.Gen.Down.Frame
public import proofs.«01_k».proof.Proof.Layer.DownValue
public import Idealize.ShloMosaic.Lib.Claim

@[expose] public section

set_option maxRecDepth 16384

noncomputable section

open Idealize.ShloMosaic Idealize.SL.Sem

namespace Cert.Layer.Down

theorem frame : Cert.quiescent_Down := fun m ρ _ => Cert.Down.Gen.frame m ρ
theorem frameI : Cert.quiescent_DownIdeal := fun m ρ _ => Cert.DownIdeal.Gen.frame m ρ

theorem frameR : Cert.quiescent_DownRefIdeal := by
  intro m g _
  exact (θ_run _ _ _).mono (fun r h => ⟨fun c => (h c).2, sem_eq_zero_of_no_sems (by decide) r.2⟩)
    (Cert.DownRefIdeal.Value.run m g)

theorem algebraic : Cert.algebraic_DownIdeal_DownRefIdeal := by
  pair_intro
  · run_from Cert.DownIdeal.Gen.run_main m g
  · run_from Cert.DownRefIdeal.Value.run m' g'
    exact (Cert.DownRefIdeal.Read.val_main_v4_eq _ _ _).trans (final m c).symm

end Cert.Layer.Down

end
-- ==== Proof.Layer.WoValue.lean ====
module

public import proofs.«01_k».proof.Proof.Gen.WoIdeal.Frame
public import proofs.«01_k».proof.Proof.Gen.WoRefIdeal.Read
public import proofs.«01_k».proof.Proof.Layer.Sums
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Layer.Wo

open Cert.WoIdeal Cert.WoIdeal.Gen
open Cert.WoRefIdeal.Read

variable (m : (ℓ : Loc nD τ sig) → Buf (Elt Ideal) ℓ)

/-- Which blocks each grid point works on. -/
theorem idx : ∀ t : Fin cfg0.N, win0_0.index t = ![t.val / 8, 0] ∧ win0_1.index t = ![0, 0, t.val % 8]
    ∧ win0_2.index t = ![t.val / 8, t.val % 8] ∧ win0_3.index t = ![t.val / 8, t.val % 8] ∧ t.val / 8 < 6 :=
  (by decide +kernel : ∀ t : Fin grid0.N, _)

theorem final (c : Dev nD) : (dats m 0 c).arrAt 3 (cfgs 0).N
    = val_main_v4 (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  rw [val_main_v4_apply, val_main_v3_apply, sum_4096]
  simp only [val_main_v0_apply, val_main_v2_apply, val_main_v1_apply]
  pointwise [k0_pay1]
  blk_point [iblk, V, idx t]

end Cert.Layer.Wo

end
-- ==== Proof.Layer.WoClaim.lean ====
/- The claims about the output projection, `Wo`. -/
module

public import proofs.«01_k».proof.Defs
public import proofs.«01_k».proof.Proof.Gen.Wo.Frame
public import proofs.«01_k».proof.Proof.Layer.WoValue
public import Idealize.ShloMosaic.Lib.Claim

@[expose] public section

set_option maxRecDepth 16384

noncomputable section

open Idealize.ShloMosaic Idealize.SL.Sem

namespace Cert.Layer.Wo

theorem frame : Cert.quiescent_Wo := fun m ρ _ => Cert.Wo.Gen.frame m ρ
theorem frameI : Cert.quiescent_WoIdeal := fun m ρ _ => Cert.WoIdeal.Gen.frame m ρ

theorem frameR : Cert.quiescent_WoRefIdeal := by
  intro m g _
  exact (θ_run _ _ _).mono (fun r h => ⟨fun c => (h c).2, sem_eq_zero_of_no_sems (by decide) r.2⟩)
    (Cert.WoRefIdeal.Value.run m g)

theorem algebraic : Cert.algebraic_WoIdeal_WoRefIdeal := by
  pair_intro
  · run_from Cert.WoIdeal.Gen.run_main m g
  · run_from Cert.WoRefIdeal.Value.run m' g'
    exact (Cert.WoRefIdeal.Read.val_main_v4_eq _ _ _).trans (final m c).symm

end Cert.Layer.Wo

end
-- ==== Proof.Layer.GatesValue.lean ====
module

public import proofs.«01_k».proof.Proof.Gen.GatesIdeal.Frame
public import proofs.«01_k».proof.Proof.Gen.GatesRefIdeal.Read
public import proofs.«01_k».proof.Proof.Layer.Sums
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Layer.Gates

open Cert.GatesIdeal Cert.GatesIdeal.Gen
open Cert.GatesRefIdeal.Read

variable (m : (ℓ : Loc nD τ sig) → Buf (Elt Ideal) ℓ)

/-- Which blocks each grid point works on. -/
theorem idx : ∀ t : Fin cfg0.N, win0_0.index t = ![t.val / 24, 0] ∧ win0_1.index t = ![0, 12320 + 512 * (t.val % 24), 0]
    ∧ win0_2.index t = ![t.val / 24, t.val % 24] ∧ t.val / 24 < 6 :=
  (by decide +kernel : ∀ t : Fin grid0.N, _)

/-- An element of the weight block sits at the block's own row offset plus its row. -/
theorem emb1 (t : Fin cfg0.N) (x : (win0_1.xblock (grid0.coords t)).Idx) (a : Fin 3) :
    ((((View.whole main_v0).slice (win0_1.rect t)).emb x a : Fin _) : ℕ) = win0_1.index t a + (x a : ℕ) :=
  Pipeline.Window.rect_emb_val_off win0_1 t x a

theorem final (c : Dev nD) : (dats m 0 c).arrAt 2 (cfgs 0).N
    = val_main_v11 (m ((c : Thread nD τ).loc main_arg0)) (m ((c : Thread nD τ).loc main_arg1)) := by
  refine (dats m 0 c).arrAt_eq_of_covers 2 _ (by decide +kernel) fun t _ y => ?_
  blk_simp
  rw [after0_2]
  frame_out
  simp only [val_main_v11_apply, val_main_v10_apply, val_main_v9_apply, val_main_v8_apply, val_main_v7_apply,
    val_main_v6_apply, val_main_v5_apply, val_main_v4_apply, val_main_v3_apply, sum_4096, val_main_cst_apply, val_main_cst_0_apply,
    val_main_v0_apply, val_main_v2_apply, val_main_v1_apply]
  canon_tiles x h
  all_goals
    pointwise [k0_pay1, k0_pay2, Ideal.logistic]
    blk_point [iblk, V, idx t]
  all_goals
    rw [emb1, (idx t).2.1]
    simp
  all_goals first
    | rw [row_of _ _ (by omega) (by omega)]
    | omega

end Cert.Layer.Gates

end
-- ==== Proof.Layer.GatesClaim.lean ====
/- The claims about the gate projections, `Gates`. -/
module

public import proofs.«01_k».proof.Defs
public import proofs.«01_k».proof.Proof.Gen.Gates.Frame
public import proofs.«01_k».proof.Proof.Layer.GatesValue
public import Idealize.ShloMosaic.Lib.Claim

@[expose] public section

set_option maxRecDepth 16384

noncomputable section

open Idealize.ShloMosaic Idealize.SL.Sem

namespace Cert.Layer.Gates

theorem frame : Cert.quiescent_Gates := fun m ρ _ => Cert.Gates.Gen.frame m ρ
theorem frameI : Cert.quiescent_GatesIdeal := fun m ρ _ => Cert.GatesIdeal.Gen.frame m ρ

theorem frameR : Cert.quiescent_GatesRefIdeal := by
  intro m g _
  exact (θ_run _ _ _).mono (fun r h => ⟨fun c => (h c).2, sem_eq_zero_of_no_sems (by decide) r.2⟩)
    (Cert.GatesRefIdeal.Value.run m g)

theorem algebraic : Cert.algebraic_GatesIdeal_GatesRefIdeal := by
  pair_intro
  · run_from Cert.GatesIdeal.Gen.run_main m g
  · run_from Cert.GatesRefIdeal.Value.run m' g'
    exact (Cert.GatesRefIdeal.Read.val_main_v11_eq _ _).trans (final m c).symm

end Cert.Layer.Gates

end
-- ==== Proof.Layer.ZxValue.lean ====
module

public import proofs.«01_k».proof.Proof.Gen.ZxIdeal.Frame
public import proofs.«01_k».proof.Proof.Gen.ZxRefIdeal.Read
public import proofs.«01_k».proof.Proof.Layer.Sums
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Layer.Zx

open Cert.ZxIdeal Cert.ZxIdeal.Gen
open Cert.ZxRefIdeal.Read

variable (m : (ℓ : Loc nD τ sig) → Buf (Elt Ideal) ℓ)

/-- Which blocks each grid point works on. -/
theorem idx : ∀ t : Fin cfg0.N, win0_0.index t = ![t.val / 10, 0] ∧ win0_1.index t = ![0, 512 * (t.val % 10), 0]
    ∧ win0_2.index t = ![t.val / 10, t.val % 10] ∧ t.val / 10 < 6 :=
  (by decide +kernel : ∀ t : Fin grid0.N, _)

/-- An element of the weight block sits at the block's own row offset plus its row. -/
theorem emb1 (t : Fin cfg0.N) (x : (win0_1.xblock (grid0.coords t)).Idx) (a : Fin 3) :
    ((((View.whole main_v0).slice (win0_1.rect t)).emb x a : Fin _) : ℕ) = win0_1.index t a + (x a : ℕ) :=
  Pipeline.Window.rect_emb_val_off win0_1 t x a

/-- The block of the projection written at a grid point, element by element. -/
theorem point (c : Dev nD) (t : Fin cfg0.N) (y : S1376x512.Idx) :
    k0_pay1 (View.ld (iblk m c 0 t) r0_0) (View.ld (iblk m c 1 t) r0_1) (View.ld (iblk m c 0 t) r0_2) (View.ld (iblk m c 1 t) r0_3)
      (View.ld (iblk m c 0 t) r0_4) (View.ld (iblk m c 1 t) r0_5) (View.ld (iblk m c 0 t) r0_6) (View.ld (iblk m c 1 t) r0_7) y
    = val_main_v4 (m ((c : Thread nD τ).loc main_arg0)) (m ((c : Thread nD τ).loc main_arg1)) (((cfg0.win 2).blk t).view.emb y) := by
  rw [val_main_v4_apply, val_main_v3_apply, sum_4096]
  simp only [val_main_v0_apply, val_main_v2_apply, val_main_v1_apply]
  pointwise [k0_pay1]
  blk_point [iblk, V, idx t]
  all_goals
    rw [emb1, (idx t).2.1]
    simp
  all_goals first
    | rw [row_of _ _ (by omega) (by omega)]
    | omega

theorem final (c : Dev nD) : (dats m 0 c).arrAt 2 (cfgs 0).N
    = val_main_v4 (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.Layer.Zx

end
-- ==== Proof.Layer.ZxClaim.lean ====
/- The claims about the z, x, B, C projection, `Zx`. -/
module

public import proofs.«01_k».proof.Defs
public import proofs.«01_k».proof.Proof.Gen.Zx.Frame
public import proofs.«01_k».proof.Proof.Layer.ZxValue
public import Idealize.ShloMosaic.Lib.Claim

@[expose] public section

set_option maxRecDepth 16384

noncomputable section

open Idealize.ShloMosaic Idealize.SL.Sem

namespace Cert.Layer.Zx

theorem frame : Cert.quiescent_Zx := fun m ρ _ => Cert.Zx.Gen.frame m ρ
theorem frameI : Cert.quiescent_ZxIdeal := fun m ρ _ => Cert.ZxIdeal.Gen.frame m ρ

theorem frameR : Cert.quiescent_ZxRefIdeal := by
  intro m g _
  exact (θ_run _ _ _).mono (fun r h => ⟨fun c => (h c).2, sem_eq_zero_of_no_sems (by decide) r.2⟩)
    (Cert.ZxRefIdeal.Value.run m g)

theorem algebraic : Cert.algebraic_ZxIdeal_ZxRefIdeal := by
  pair_intro
  · run_from Cert.ZxIdeal.Gen.run_main m g
  · run_from Cert.ZxRefIdeal.Value.run m' g'
    exact (Cert.ZxRefIdeal.Read.val_main_v4_eq _ _).trans (final m c).symm

end Cert.Layer.Zx

end
-- ==== Proof.Layer.DtrValue.lean ====
module

public import proofs.«01_k».proof.Proof.Gen.DtrIdeal.Frame
public import proofs.«01_k».proof.Proof.Gen.DtrRefIdeal.Read
public import proofs.«01_k».proof.Proof.Layer.Sums
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Layer.Dtr

open Cert.DtrIdeal Cert.DtrIdeal.Gen
open Cert.DtrRefIdeal.Read

variable (m : (ℓ : Loc nD τ sig) → Buf (Elt Ideal) ℓ)

/-- Which blocks each grid point works on. -/
theorem idx : ∀ t : Fin cfg0.N, win0_0.index t = ![t.val, 0] ∧ win0_1.index t = ![0, 5120, 0]
    ∧ win0_2.index t = ![t.val, 0] ∧ t.val < 6 :=
  (by decide +kernel : ∀ t : Fin grid0.N, _)

/-- An element of the weight block sits at the block's own row offset plus its row. -/
theorem emb1 (t : Fin cfg0.N) (x : (win0_1.xblock (grid0.coords t)).Idx) (a : Fin 3) :
    ((((View.whole main_v0).slice (win0_1.rect t)).emb x a : Fin _) : ℕ) = win0_1.index t a + (x a : ℕ) :=
  Pipeline.Window.rect_emb_val_off win0_1 t x a

theorem final (c : Dev nD) : (dats m 0 c).arrAt 2 (cfgs 0).N
    = val_main_v4 (m ((c : Thread nD τ).loc main_arg0)) (m ((c : Thread nD τ).loc main_arg1)) := by
  refine (dats m 0 c).arrAt_eq_of_covers 2 _ (by decide +kernel) fun t _ y => ?_
  blk_simp
  rw [after0_2]
  frame_out
  rw [val_main_v4_apply, val_main_v3_apply, sum_4096]
  simp only [val_main_v0_apply, val_main_v2_apply, val_main_v1_apply]
  pointwise [k0_pay1]
  blk_point [iblk, V, idx t]
  all_goals
    rw [emb1, (idx t).2.1]
    simp
  all_goals first
    | rw [row_of _ _ (by omega) (by omega)]
    | omega

end Cert.Layer.Dtr

end
-- ==== Proof.Layer.DtrClaim.lean ====
/- The claims about the step-size projection, `Dtr`. -/
module

public import proofs.«01_k».proof.Defs
public import proofs.«01_k».proof.Proof.Gen.Dtr.Frame
public import proofs.«01_k».proof.Proof.Layer.DtrValue
public import Idealize.ShloMosaic.Lib.Claim

@[expose] public section

set_option maxRecDepth 16384

noncomputable section

open Idealize.ShloMosaic Idealize.SL.Sem

namespace Cert.Layer.Dtr

theorem frame : Cert.quiescent_Dtr := fun m ρ _ => Cert.Dtr.Gen.frame m ρ
theorem frameI : Cert.quiescent_DtrIdeal := fun m ρ _ => Cert.DtrIdeal.Gen.frame m ρ

theorem frameR : Cert.quiescent_DtrRefIdeal := by
  intro m g _
  exact (θ_run _ _ _).mono (fun r h => ⟨fun c => (h c).2, sem_eq_zero_of_no_sems (by decide) r.2⟩)
    (Cert.DtrRefIdeal.Value.run m g)

theorem algebraic : Cert.algebraic_DtrIdeal_DtrRefIdeal := by
  pair_intro
  · run_from Cert.DtrIdeal.Gen.run_main m g
  · run_from Cert.DtrRefIdeal.Value.run m' g'
    exact (Cert.DtrRefIdeal.Read.val_main_v4_eq _ _).trans (final m c).symm

end Cert.Layer.Dtr

end
-- ==== Proof.Layer.GluValue.lean ====
module

public import proofs.«01_k».proof.Proof.Gen.GluIdeal.Frame
public import proofs.«01_k».proof.Proof.Gen.GluRefIdeal.Read
public import proofs.«01_k».proof.Proof.Layer.Sums
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Layer.Glu

open Cert.GluIdeal Cert.GluIdeal.Gen
open Cert.GluRefIdeal.Read

variable (m : (ℓ : Loc nD τ sig) → Buf (Elt Ideal) ℓ)

/-- Which blocks each grid point works on. -/
theorem idx : ∀ t : Fin cfg0.N, win0_0.index t = ![t.val / 8, 0] ∧ win0_1.index t = ![0, 5152 + 256 * (t.val % 8), 0]
    ∧ win0_2.index t = ![0, 7200 + 256 * (t.val % 8), 0] ∧ win0_3.index t = ![t.val / 8, t.val % 8] ∧ t.val / 8 < 6 :=
  (by decide +kernel : ∀ t : Fin grid0.N, _)

/-- An element of a weight block sits at the block's own row offset plus its row. -/
theorem emb1 (t : Fin cfg0.N) (x : (win0_1.xblock (grid0.coords t)).Idx) (a : Fin 3) :
    ((((View.whole main_v0).slice (win0_1.rect t)).emb x a : Fin _) : ℕ) = win0_1.index t a + (x a : ℕ) :=
  Pipeline.Window.rect_emb_val_off win0_1 t x a

theorem emb2 (t : Fin cfg0.N) (x : (win0_2.xblock (grid0.coords t)).Idx) (a : Fin 3) :
    ((((View.whole main_v0).slice (win0_2.rect t)).emb x a : Fin _) : ℕ) = win0_2.index t a + (x a : ℕ) :=
  Pipeline.Window.rect_emb_val_off win0_2 t x a

theorem final (c : Dev nD) : (dats m 0 c).arrAt 3 (cfgs 0).N
    = val_main_v12 (m ((c : Thread nD τ).loc main_arg0)) (m ((c : Thread nD τ).loc main_arg1)) := by
  refine (dats m 0 c).arrAt_eq_of_covers 3 _ (by decide +kernel) fun t _ y => ?_
  blk_simp
  rw [after0_3]
  frame_out
  simp only [val_main_v12_apply, val_main_v11_apply, val_main_v10_apply, val_main_v9_apply, val_main_v8_apply, val_main_v7_apply,
    val_main_v6_apply, val_main_v5_apply, val_main_v4_apply, val_main_v3_apply, sum_4096, val_main_cst_apply, val_main_cst_0_apply,
    val_main_v0_apply, val_main_v2_apply, val_main_v1_apply]
  pointwise [k0_pay1, k0_pay2, k0_pay3, Ideal.logistic]
  blk_point [iblk, V, idx t]
  all_goals
    first | rw [emb1, (idx t).2.1] | rw [emb2, (idx t).2.2.1]
    simp
  all_goals first
    | rw [row_of _ _ (by omega) (by omega)]
    | omega

end Cert.Layer.Glu

end
-- ==== Proof.Layer.GluClaim.lean ====
/- The claims about the gated projection, `Glu`. -/
module

public import proofs.«01_k».proof.Defs
public import proofs.«01_k».proof.Proof.Gen.Glu.Frame
public import proofs.«01_k».proof.Proof.Layer.GluValue
public import Idealize.ShloMosaic.Lib.Claim

@[expose] public section

set_option maxRecDepth 16384

noncomputable section

open Idealize.ShloMosaic Idealize.SL.Sem

namespace Cert.Layer.Glu

theorem frame : Cert.quiescent_Glu := fun m ρ _ => Cert.Glu.Gen.frame m ρ
theorem frameI : Cert.quiescent_GluIdeal := fun m ρ _ => Cert.GluIdeal.Gen.frame m ρ

theorem frameR : Cert.quiescent_GluRefIdeal := by
  intro m g _
  exact (θ_run _ _ _).mono (fun r h => ⟨fun c => (h c).2, sem_eq_zero_of_no_sems (by decide) r.2⟩)
    (Cert.GluRefIdeal.Value.run m g)

theorem algebraic : Cert.algebraic_GluIdeal_GluRefIdeal := by
  pair_intro
  · run_from Cert.GluIdeal.Gen.run_main m g
  · run_from Cert.GluRefIdeal.Value.run m' g'
    exact (Cert.GluRefIdeal.Read.val_main_v12_eq _ _).trans (final m c).symm

end Cert.Layer.Glu

end
-- ==== Proof.Layer.QkvValue.lean ====
/- The query, key, value projection with the rotation: the kernel gives the reference, `Qkv`. -/
module

public import proofs.«01_k».proof.Proof.Gen.QkvIdeal.Frame
public import proofs.«01_k».proof.Proof.Gen.QkvRefIdeal.Read
public import proofs.«01_k».proof.Proof.Layer.Sums
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Layer.Qkv

open Cert.QkvIdeal Cert.QkvIdeal.Gen
open Cert.QkvRefIdeal.Read

variable (m : (ℓ : Loc nD τ sig) → Buf (Elt Ideal) ℓ)

/-- An element of the projection: row `i` of the input against column `9248 + n` of the weight. -/
def prj (x0 : FVec Ideal S8256x4096 .bf16) (x1 : FVec Ideal S2x4096x24608 .f32) (i : Fin 8256) (n : ℕ) : EReal :=
  ∑ k : Fin 4096, (x0 (ix2 i k) * x1 (ix3 0 k ⟨(9248 + n) % 24608, Nat.mod_lt _ (by decide)⟩) : EReal)

/-- The angle by which component `e` of a head turns at row `i`. -/
def ang (x2 : FVec Ideal S8256 .f32) (i : Fin 8256) (e : ℕ) : EReal :=
  x2 (ix1 i) * Ideal.exp (Ideal.div (Ideal.ofBits .f32 0xC1135D8E#32 * FloatOps.sitofp (F := Ideal) .f32 (BitVec.ofNat 32 e)
    * Ideal.ofBits .f32 0x40000000#32) (Ideal.ofBits .f32 0x43000000#32))

/-- The turned element: the two halves of a head are the two components. -/
def rot (x0 : FVec Ideal S8256x4096 .bf16) (x1 : FVec Ideal S2x4096x24608 .f32) (x2 : FVec Ideal S8256 .f32) (i : Fin 8256) (n : ℕ) : EReal :=
  if n % 128 < 64 then prj x0 x1 i n * Ideal.cos (ang x2 i (n % 64)) - prj x0 x1 i (n + 64) * Ideal.sin (ang x2 i (n % 64))
  else prj x0 x1 i n * Ideal.cos (ang x2 i (n % 64)) + prj x0 x1 i (n - 64) * Ideal.sin (ang x2 i (n % 64))

section Reference

variable (x0 : FVec Ideal S8256x4096 .bf16) (x1 : FVec Ideal S2x4096x24608 .f32) (x2 : FVec Ideal S8256 .f32)

theorem prj_of (w : Cert.QkvRefIdeal.S8256x24608.Idx) (i : Fin 8256) (n : ℕ) (h0 : (w 0).val = i.val) (h1 : (w 1).val = 9248 + n) :
    val_main_v3 (F := Ideal) x0 x1 w = prj x0 x1 i n := by
  have hw : 9248 + n < 24608 := h1 ▸ (w 1).isLt
  rw [val_main_v3_apply, prj]
  simp only [val_main_v0_apply, val_main_v2_apply, val_main_v1_apply]
  refine Finset.sum_congr rfl fun k _ => congrArg₂ (fun a b : EReal => a * b) ?_ ?_
  · refine congrArg x0 ?_
    blk_ext [h0]
  · refine congrArg x1 ?_
    blk_ext [h1]
    all_goals first
      | rw [row_of _ _ (by omega) (by omega)]
      | rw [col_of _ _ (by omega)]; omega
      | omega

theorem ang_of (w : S8256x64.Idx) (i : Fin 8256) (e : ℕ) (h0 : (w 0).val = i.val) (h1 : (w 1).val = e) :
    val_main_v20 (F := Ideal) x2 w = ang x2 i e := by
  simp only [val_main_v20_apply, val_main_v19_apply, val_main_v18_apply, val_main_v17_apply, val_main_v16_apply, val_main_v15_apply,
    val_main_v14_apply, val_main_v13_apply, val_main_v12_apply, val_main_v11_apply, val_main_v10_apply, val_main_v9_apply, val_main_v8,
    val_main_cst_apply, val_main_cst_0_apply, val_main_cst_1_apply]
  subst h1
  rw [ang]
  pointwise
  refine congrArg₂ (fun a b : EReal => a * b) (congrArg x2 ?_) rfl
  blk_ext [h0]

/-- The rotation of the first half of a head. -/
theorem fst_of {w v : Cert.QkvRefIdeal.S8256x24608.Idx} {r r' : S8256x64.Idx} {i : Fin 8256} {n : ℕ} (hn : n % 128 < 64)
    (w0 : (w 0).val = i.val) (w1 : (w 1).val = 9248 + n) (v0 : (v 0).val = i.val) (v1 : (v 1).val = 9248 + (n + 64))
    (r0 : (r 0).val = i.val) (r1 : (r 1).val = n % 64) (hr : r' = r) :
    (val_main_v3 (F := Ideal) x0 x1 w * Ideal.cos (val_main_v20 (F := Ideal) x2 r)
      - val_main_v3 (F := Ideal) x0 x1 v * Ideal.sin (val_main_v20 (F := Ideal) x2 r') : EReal) = rot x0 x1 x2 i n := by
  rw [rot, if_pos hn, hr, prj_of x0 x1 w i n w0 w1, prj_of x0 x1 v i _ v0 v1, ang_of x2 r i _ r0 r1]

/-- The rotation of the second half of a head. -/
theorem snd_of {w v : Cert.QkvRefIdeal.S8256x24608.Idx} {r r' : S8256x64.Idx} {i : Fin 8256} {n : ℕ} (hn : ¬n % 128 < 64)
    (w0 : (w 0).val = i.val) (w1 : (w 1).val = 9248 + n) (v0 : (v 0).val = i.val) (v1 : (v 1).val = 9248 + (n - 64))
    (r0 : (r 0).val = i.val) (r1 : (r 1).val = n % 64) (hr : r' = r) :
    (val_main_v3 (F := Ideal) x0 x1 w * Ideal.cos (val_main_v20 (F := Ideal) x2 r)
      + val_main_v3 (F := Ideal) x0 x1 v * Ideal.sin (val_main_v20 (F := Ideal) x2 r') : EReal) = rot x0 x1 x2 i n := by
  rw [rot, if_neg hn, hr, prj_of x0 x1 w i n w0 w1, prj_of x0 x1 v i _ v0 v1, ang_of x2 r i _ r0 r1]

theorem q_of (i : Fin 8256) (n : Fin 2048) : val_main_v38 (F := Ideal) x0 x1 x2 (ix2 i n) = rot x0 x1 x2 i n.val := by
  rw [val_main_v38_apply]
  unfold val_main_v37
  pointwise
  split <;> rename_i h
  · simp only [val_main_v31_apply, val_main_v28_apply, val_main_v30_apply, val_main_v25_apply, val_main_v26_apply, val_main_v27_apply, val_main_v29_apply,
      val_main_v22_apply, val_main_v24_apply, val_main_v21_apply, val_main_v23_apply, val_main_v7_apply, val_main_v4_apply]
    refine fst_of x0 x1 x2 ?_ ?_ ?_ ?_ ?_ ?_ ?_ ?_
    all_goals first | omega | (simp; omega) | blk_ext
  · simp only [val_main_v36_apply, val_main_v33_apply, val_main_v35_apply, val_main_v25_apply, val_main_v26_apply, val_main_v32_apply, val_main_v34_apply,
      val_main_v22_apply, val_main_v24_apply, val_main_v21_apply, val_main_v23_apply, val_main_v7_apply, val_main_v4_apply]
    refine snd_of x0 x1 x2 ?_ ?_ ?_ ?_ ?_ ?_ ?_ ?_
    all_goals first | omega | (simp; omega) | blk_ext

theorem k_of (i : Fin 8256) (n : Fin 512) : val_main_v70 (F := Ideal) x0 x1 x2 (ix2 i n) = rot x0 x1 x2 i (2048 + n.val) := by
  rw [val_main_v70_apply]
  unfold val_main_v69
  pointwise
  split <;> rename_i h
  · simp only [val_main_v63_apply, val_main_v60_apply, val_main_v62_apply, val_main_v57_apply, val_main_v58_apply, val_main_v59_apply, val_main_v61_apply,
      val_main_v54_apply, val_main_v56_apply, val_main_v53_apply, val_main_v55_apply, val_main_v39_apply, val_main_v5_apply]
    refine fst_of x0 x1 x2 ?_ ?_ ?_ ?_ ?_ ?_ ?_ ?_
    all_goals first | omega | (simp; omega) | blk_ext
  · simp only [val_main_v68_apply, val_main_v65_apply, val_main_v67_apply, val_main_v57_apply, val_main_v58_apply, val_main_v64_apply, val_main_v66_apply,
      val_main_v54_apply, val_main_v56_apply, val_main_v53_apply, val_main_v55_apply, val_main_v39_apply, val_main_v5_apply]
    refine snd_of x0 x1 x2 ?_ ?_ ?_ ?_ ?_ ?_ ?_ ?_
    all_goals first | omega | (simp; omega) | blk_ext

theorem v_of (i : Fin 8256) (n : Fin 512) : val_main_v6 (F := Ideal) x0 x1 (ix2 i n) = prj x0 x1 i (2560 + n.val) := by
  rw [val_main_v6_apply]
  refine prj_of x0 x1 _ _ _ rfl ?_
  simp; omega

/-- The reference, element by element. -/
theorem ref_of (y : S8256x3072.Idx) : val_main_v71 (F := Ideal) x0 x1 x2 y
    = if (y 1).val < 2560 then rot x0 x1 x2 (y 0) (y 1).val else prj x0 x1 (y 0) (y 1).val := by
  have hy : (y 1).val < 3072 := (y 1).isLt
  unfold val_main_v71
  pointwise
  split <;> rename_i h
  · exact (q_of x0 x1 x2 _ _).trans (if_pos (by omega)).symm
  · split <;> rename_i h'
    · refine (k_of x0 x1 x2 _ _).trans (Eq.trans (congrArg _ ?_) (if_pos (by omega)).symm)
      show 2048 + ((y 1).val - 2048) = _
      omega
    · refine (v_of x0 x1 _ _).trans (Eq.trans (congrArg _ ?_) (if_neg (by omega)).symm)
      show 2560 + ((y 1).val - 2048 - 512) = _
      omega

end Reference

theorem cos_at (c : Dev nD) (i : Fin 8256) (d : Fin 128) : V m c main_v15 (ix2 i d) = Ideal.cos (ang (m ((c : Thread nD τ).loc main_arg2)) i (d.val % 64)) := by
  entry_read
  pointwise
  rw [ang]
  split <;> rename_i h
  · rw [Nat.mod_eq_of_lt h]
  · rw [show d.val % 64 = d.val - 64 by omega]

theorem sin_at (c : Dev nD) (i : Fin 8256) (d : Fin 128) : V m c main_v17 (ix2 i d)
    = if d.val < 64 then -Ideal.sin (ang (m ((c : Thread nD τ).loc main_arg2)) i (d.val % 64)) else Ideal.sin (ang (m ((c : Thread nD τ).loc main_arg2)) i (d.val % 64)) := by
  entry_read
  pointwise
  rw [ang]
  split <;> rename_i h
  · rw [Nat.mod_eq_of_lt h]
  · rw [show d.val % 64 = d.val - 64 by omega]

/-- Which blocks each grid point works on. -/
theorem idx : ∀ t : Fin cfg0.N, win0_0.index t = ![t.val / 6, 0] ∧ win0_2.index t = ![t.val / 6, 0] ∧ win0_3.index t = ![t.val / 6, 0]
    ∧ win0_4.index t = ![t.val / 6, t.val % 6] ∧ t.val / 6 < 6 ∧ win0_1.index t = ![0, 9248 + 512 * (t.val % 6), 0] :=
  (by decide +kernel : ∀ t : Fin grid0.N, _)

/-- The first five column blocks are turned, the last one is not. -/
theorem turned : ∀ t : Fin cfg0.N, IntOp.cmpi .slt (BitVec.ofNat 32 ((grid0.coords t 1 : Fin _) : ℕ)) 5#32 = if t.val % 6 < 5 then 1#1 else 0#1 :=
  (by decide +kernel : ∀ t : Fin grid0.N, _)

/-- An element of the weight block sits at the block's own row offset plus its row. -/
theorem emb1 (t : Fin cfg0.N) (x : (win0_1.xblock (grid0.coords t)).Idx) (a : Fin 3) :
    ((((View.whole main_v18).slice (win0_1.rect t)).emb x a : Fin _) : ℕ) = win0_1.index t a + (x a : ℕ) :=
  Pipeline.Window.rect_emb_val_off win0_1 t x a

/-- Row `i` of one block against row `n` of another. -/
def kdot (a : FVec Ideal S1376x4096 .bf16) (b : FVec Ideal S1x512x4096 .f32) (i : Fin 1376) (n : Fin 512) : EReal :=
  ∑ k : Fin 4096, (a (ix2 i k) * b (ix3 0 n k) : EReal)

theorem wt_at (c : Dev nD) (j : S2x24608x4096.Idx) : V m c main_v18 j = m ((c : Thread nD τ).loc main_arg1) (ix3 (j 0) (j 2) (j 1)) := by
  entry_read
  pointwise
  blk_ext

theorem kdot_of (c : Dev nD) (t : Fin cfg0.N) (i : Fin 1376) (n : Fin 512) (I : Fin 8256) (hI : I.val = 1376 * (t.val / 6) + i.val) :
    kdot (iblk m c 0 t) (iblk m c 1 t) i n = prj (m ((c : Thread nD τ).loc main_arg0)) (m ((c : Thread nD τ).loc main_arg1)) I (512 * (t.val % 6) + n.val) := by
  rw [kdot, prj]
  refine Finset.sum_congr rfl fun k _ => congrArg₂ (fun a b : EReal => a * b) ?_ ?_
  · blk_ext [iblk, V, idx t]
  · refine Eq.trans ?_ (wt_at m c (ix3 0 ⟨9248 + (512 * (t.val % 6) + n.val), by omega⟩ k)) |>.trans ?_
    · rw [iblk]
      blk_ext
      all_goals
        rw [emb1, (idx t).2.2.2.2.2]
        simp
      all_goals omega
    · refine congrArg (m ((c : Thread nD τ).loc main_arg1)) ?_
      blk_ext
      all_goals omega

theorem four (a : FVec Ideal S1376x4096 .bf16) (b : FVec Ideal S1x512x4096 .f32) (i : Fin 1376) (n : Fin 512) :
    (∑ k : Fin 1024, (a (ix2 i ⟨k.val, by omega⟩) * b (ix3 0 n ⟨k.val, by omega⟩) : EReal)
      + ∑ k : Fin 1024, (a (ix2 i ⟨1024 + k.val, by omega⟩) * b (ix3 0 n ⟨1024 + k.val, by omega⟩) : EReal)
      + ∑ k : Fin 1024, (a (ix2 i ⟨2048 + k.val, by omega⟩) * b (ix3 0 n ⟨2048 + k.val, by omega⟩) : EReal)
      + ∑ k : Fin 1024, (a (ix2 i ⟨3072 + k.val, by omega⟩) * b (ix3 0 n ⟨3072 + k.val, by omega⟩) : EReal) : EReal) = kdot a b i n :=
  (sum_4096 (M := EReal) fun k => (a (ix2 i k) * b (ix3 0 n k) : EReal)).symm

theorem cos_blk (c : Dev nD) (t : Fin cfg0.N) (i : Fin 1376) (d : Fin 128) (I : Fin 8256) (hI : I.val = 1376 * (t.val / 6) + i.val) :
    iblk m c 2 t (ix2 i d) = Ideal.cos (ang (m ((c : Thread nD τ).loc main_arg2)) I (d.val % 64)) := by
  refine Eq.trans ?_ (cos_at m c I d)
  rw [iblk]
  blk_ext [idx t]

theorem sin_blk (c : Dev nD) (t : Fin cfg0.N) (i : Fin 1376) (d : Fin 128) (I : Fin 8256) (hI : I.val = 1376 * (t.val / 6) + i.val) :
    iblk m c 3 t (ix2 i d) = if d.val < 64 then -Ideal.sin (ang (m ((c : Thread nD τ).loc main_arg2)) I (d.val % 64))
      else Ideal.sin (ang (m ((c : Thread nD τ).loc main_arg2)) I (d.val % 64)) := by
  refine Eq.trans ?_ (sin_at m c I d)
  rw [iblk]
  blk_ext [idx t]

/-- One element of the block, from its two products. -/
theorem elem (c : Dev nD) (t : Fin cfg0.N) (i : Fin 1376) (n q : Fin 512) (d : Fin 128) (j : S8256x3072.Idx)
    (hd : n.val % 128 = d.val) (hq : q.val = n.val - d.val + (d.val + 128 - 64) % 128)
    (j0 : (j 0).val = 1376 * (t.val / 6) + i.val) (j1 : (j 1).val = 512 * (t.val % 6) + n.val) :
    Scalar.select (Scalar.cmpi .slt (BitVec.ofNat 32 ((grid0.coords t 1 : Fin _) : ℕ)) 5#32)
      (kdot (iblk m c 0 t) (iblk m c 1 t) i n * iblk m c 2 t (ix2 i d) + kdot (iblk m c 0 t) (iblk m c 1 t) i q * iblk m c 3 t (ix2 i d)) (kdot (iblk m c 0 t) (iblk m c 1 t) i n)
    = val_main_v71 (F := Ideal) (m ((c : Thread nD τ).loc main_arg0)) (m ((c : Thread nD τ).loc main_arg1)) (m ((c : Thread nD τ).loc main_arg2)) j := by
  have hn := n.isLt
  have hd' := d.isLt
  have e : (j 1).val % 64 = d.val % 64 := by omega
  have R := ref_of (m ((c : Thread nD τ).loc main_arg0)) (m ((c : Thread nD τ).loc main_arg1)) (m ((c : Thread nD τ).loc main_arg2)) j
  rw [kdot_of m c t i n (j 0) j0, kdot_of m c t i q (j 0) j0, cos_blk m c t i d (j 0) j0, sin_blk m c t i d (j 0) j0, ← j1,
    show Scalar.cmpi .slt (BitVec.ofNat 32 ((grid0.coords t 1 : Fin _) : ℕ)) 5#32 = _ from turned t]
  by_cases h : t.val % 6 < 5
  · rw [if_pos (show (j 1).val < 2560 by omega)] at R
    rw [if_pos h, R]
    unfold rot
    rw [e]
    by_cases h' : d.val < 64
    · rw [if_pos (show (j 1).val % 128 < 64 by omega), if_pos h', show 512 * (t.val % 6) + q.val = (j 1).val + 64 by omega]
      show _ + _ = _
      rw [mul_neg]
      rfl
    · rw [if_neg (show ¬(j 1).val % 128 < 64 by omega), if_neg h', show 512 * (t.val % 6) + q.val = (j 1).val - 64 by omega]
      rfl
  · rw [if_neg (show ¬(j 1).val < 2560 by omega)] at R
    rw [if_neg h, R]
    rfl

theorem elem_of (c : Dev nD) (t : Fin cfg0.N) (i : Fin 1376) (n q : Fin 512) (d : Fin 128) (j : S8256x3072.Idx) {S S' Q : EReal}
    (hS : S = kdot (iblk m c 0 t) (iblk m c 1 t) i n) (hQ : Q = kdot (iblk m c 0 t) (iblk m c 1 t) i q) (hS' : S' = S)
    (hd : n.val % 128 = d.val) (hq : q.val = n.val - d.val + (d.val + 128 - 64) % 128)
    (j0 : (j 0).val = 1376 * (t.val / 6) + i.val) (j1 : (j 1).val = 512 * (t.val % 6) + n.val) :
    Scalar.select (Scalar.cmpi .slt (BitVec.ofNat 32 ((grid0.coords t 1 : Fin _) : ℕ)) 5#32)
      (S * iblk m c 2 t (ix2 i d) + Q * iblk m c 3 t (ix2 i d)) S'
    = val_main_v71 (F := Ideal) (m ((c : Thread nD τ).loc main_arg0)) (m ((c : Thread nD τ).loc main_arg1)) (m ((c : Thread nD τ).loc main_arg2)) j := by
  rw [hS', hS, hQ]
  exact elem m c t i n q d j hd hq j0 j1

/-- Where an element of the result's block sits. -/
theorem emb4 (t : Fin cfg0.N) (y : S1376x512.Idx) : (((((cfg0.win 4).blk t).view.emb y) 0 : Fin _) : ℕ) = 1376 * (t.val / 6) + (y 0).val
    ∧ (((((cfg0.win 4).blk t).view.emb y) 1 : Fin _) : ℕ) = 512 * (t.val % 6) + (y 1).val := by
  constructor
  · blk_simp [idx t]
    try omega
  · blk_simp [idx t]
    try omega

set_option maxHeartbeats 800000 in
theorem out_at (c : Dev nD) (t : Fin cfg0.N) (y : S1376x512.Idx) : outsAt0 m c t y
    = val_main_v71 (F := Ideal) (m ((c : Thread nD τ).loc main_arg0)) (m ((c : Thread nD τ).loc main_arg1)) (m ((c : Thread nD τ).loc main_arg2))
      (((cfg0.win 4).blk t).view.emb y) := by
  rw [outsAt0]
  frame_out
  canon_tiles y h
  all_goals pointwise [k0_pay1, k0_pay2, k0_pay3, k0_pay4, k0_pay5, k0_pay6, k0_pay7, k0_pay8, k0_pay9, k0_pay10, k0_pay11, k0_pay12, k0_pay13, k0_pay14]
  case piece0 | piece4 =>
    refine elem_of m c t _ ⟨384 + (y 1).val, by omega⟩ ⟨384 + ((y 1).val + 128 - 64) % 128, by omega⟩ _ _ (by rw [kdot, sum_4096]) (by rw [kdot, sum_4096]) rfl
      (by dsimp only; omega) (by dsimp only; omega) ((emb4 t _).1.trans (by dsimp only; omega)) ((emb4 t _).2.trans (by dsimp only; omega))
  case piece1 | piece5 =>
    refine elem_of m c t _ ⟨256 + (y 1).val, by omega⟩ ⟨256 + ((y 1).val + 128 - 64) % 128, by omega⟩ _ _ (by rw [kdot, sum_4096]) (by rw [kdot, sum_4096]) rfl
      (by dsimp only; omega) (by dsimp only; omega) ((emb4 t _).1.trans (by dsimp only; omega)) ((emb4 t _).2.trans (by dsimp only; omega))
  case piece2 | piece6 =>
    refine elem_of m c t _ ⟨128 + (y 1).val, by omega⟩ ⟨128 + ((y 1).val + 128 - 64) % 128, by omega⟩ _ _ (by rw [kdot, sum_4096]) (by rw [kdot, sum_4096]) rfl
      (by dsimp only; omega) (by dsimp only; omega) ((emb4 t _).1.trans (by dsimp only; omega)) ((emb4 t _).2.trans (by dsimp only; omega))
  case piece3 | piece7 =>
    refine elem_of m c t _ ⟨(y 1).val, by omega⟩ ⟨((y 1).val + 128 - 64) % 128, by omega⟩ _ _ (by rw [kdot, sum_4096]) (by rw [kdot, sum_4096]) rfl
      (by dsimp only; omega) (by dsimp only; omega) ((emb4 t _).1.trans (by dsimp only; omega)) ((emb4 t _).2.trans (by dsimp only; omega))

theorem final (c : Dev nD) : (dats m 0 c).arrAt 4 (cfgs 0).N
    = val_main_v71 (F := Ideal) (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  exact out_at m c t y

end Cert.Layer.Qkv

end
-- ==== Proof.Layer.QkvClaim.lean ====
/- The claims about the query, key, value projection, `Qkv`. -/
module

public import proofs.«01_k».proof.Defs
public import proofs.«01_k».proof.Proof.Gen.Qkv.Frame
public import proofs.«01_k».proof.Proof.Layer.QkvValue
public import Idealize.ShloMosaic.Lib.Claim

@[expose] public section

set_option maxRecDepth 16384

noncomputable section

open Idealize.ShloMosaic Idealize.SL.Sem

namespace Cert.Layer.Qkv

theorem frame : Cert.quiescent_Qkv := fun m ρ _ => Cert.Qkv.Gen.frame m ρ
theorem frameI : Cert.quiescent_QkvIdeal := fun m ρ _ => Cert.QkvIdeal.Gen.frame m ρ

theorem frameR : Cert.quiescent_QkvRefIdeal := by
  intro m g _
  exact (θ_run _ _ _).mono (fun r h => ⟨fun c => (h c).2, sem_eq_zero_of_no_sems (by decide) r.2⟩)
    (Cert.QkvRefIdeal.Value.run m g)

theorem algebraic : Cert.algebraic_QkvIdeal_QkvRefIdeal := by
  pair_intro
  · run_from Cert.QkvIdeal.Gen.run_main m g
  · run_from Cert.QkvRefIdeal.Value.run m' g'
    obtain ⟨h0, h1, h2⟩ := hagree c
    refine (Cert.QkvRefIdeal.Read.val_main_v71_eq m' c).trans ?_
    rw [h0, h1, h2]
    exact (final m c).symm

end Cert.Layer.Qkv

end
-- ==== Proof.Layer.MergeValue.lean ====
module

public import proofs.«01_k».proof.Proof.Gen.MergeIdeal.Frame
public import proofs.«01_k».proof.Proof.Gen.MergeRefIdeal.Read
public import proofs.«01_k».proof.Proof.Layer.Sums
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Layer.Merge

open Cert.MergeIdeal Cert.MergeIdeal.Gen
open Cert.MergeRefIdeal.Read

variable (m : (ℓ : Loc nD τ sig) → Buf (Elt Ideal) ℓ)

/-- Which blocks each grid point works on. -/
theorem idx : ∀ t : Fin cfg0.N, win0_0.index t = ![t.val % 3, t.val / 12, 0] ∧ win0_1.index t = ![t.val % 3, 0, 0, t.val / 3 % 4]
    ∧ win0_2.index t = ![t.val / 12, t.val % 3 * 4 + t.val / 3 % 4] ∧ win0_3.index t = ![t.val / 12, t.val / 3 % 4] ∧ t.val / 12 < 6 :=
  (by decide +kernel : ∀ t : Fin grid0.N, _)

/-- A block of gated rows times a block of the weight, at an entry. -/
def prod (a : FVec Ideal S1x1376x2048 .bf16) (b : FVec Ideal S1x1x2048x1024 .bf16) (g : FVec Ideal S1376x1024 .bf16) (j : S1376x1024.Idx) : EReal :=
  g j * ∑ k : Fin 2048, a (ix3 0 (j 0) k) * b (ix4 0 0 k (j 1))

/-- What one grid point adds to the accumulator. -/
def term (c : Dev nD) (t : Fin cfg0.N) (j : S1376x1024.Idx) : EReal := prod (iblk m c 0 t) (iblk m c 1 t) (iblk m c 2 t) j

theorem acc_first (c : Dev nD) (t : Fin cfg0.N) (h : t.val % 3 = 0) (j : S1376x1024.Idx) :
    (outsAt0 m c t.val t.isLt).2 j = (0 : EReal) + term m c t j := by
  rw [outsAt0_A m c t h (by omega)]
  frame_out
  rw [term, prod, zero_add]
  canon_tiles j h
  all_goals
    pointwise [k0_pay1, k0_pay2]
  all_goals blk_point [idx t]

theorem acc_step (c : Dev nD) (t : Fin cfg0.N) (h : ¬t.val % 3 = 0) (j : S1376x1024.Idx) :
    (outsAt0 m c t.val t.isLt).2 j
    = ((outsAt0 m c (t.val - 1) (Nat.lt_of_le_of_lt (Nat.sub_le _ _) t.isLt)).2 j : EReal) + term m c t j := by
  rw [outsAt0_B m c t h (by omega)]
  frame_out
  simp only [read_unread_whole]
  rw [term, prod]
  canon_tiles j h
  all_goals
    pointwise [k0_pay4, k0_pay5, k0_pay7, k0_pay8]
  all_goals blk_point [idx t]

theorem out_step (c : Dev nD) (t : Fin cfg0.N) (h : ¬t.val % 3 = 0) (j : S1376x1024.Idx) :
    (outsAt0 m c t.val t.isLt).1 j
    = ((outsAt0 m c (t.val - 1) (Nat.lt_of_le_of_lt (Nat.sub_le _ _) t.isLt)).2 j : EReal) + term m c t j := by
  rw [outsAt0_B m c t h (by omega)]
  frame_out
  simp only [read_unread_whole]
  rw [term, prod]
  canon_tiles j h
  all_goals
    pointwise [k0_pay3, k0_pay4, k0_pay6, k0_pay7]
  all_goals blk_point [idx t]

theorem final (c : Dev nD) : (dats m 0 c).arrAt 3 (cfgs 0).N
    = val_main_v28 (m ((c : Thread nD τ).loc main_arg0)) (m ((c : Thread nD τ).loc main_arg1)) (m ((c : Thread nD τ).loc main_arg2)) := by
  refine (dats m 0 c).arrAt_eq_of_covers 3 _ (by decide +kernel) fun t hf y => ?_
  have h3 := (flush0_3 t).mp hf
  blk_simp
  rw [after0_3, out_step m c t (by omega), ← acc_step m c t (by omega), Pipeline.eq_sum_fin_of_reset_step_apply_of_flush (fun n h => (outsAt0 m c n h).2) 3 (fun _ => 0) (term m c)
    (acc_first m c) (acc_step m c) t h3 _, zero_add]
  simp only [val_main_v28_apply, val_main_v27_apply, val_main_v26_apply, val_main_v25_apply, val_main_v24_apply, val_main_v23_apply,
    val_main_v22_apply, val_main_v21_apply, val_main_v20_apply, val_main_v19_apply, val_main_v18_apply, val_main_v17_apply, val_main_v16_apply,
    val_main_v15_apply, val_main_v14_apply, val_main_v13_apply, val_main_v12_apply, val_main_v11_apply, val_main_v10_apply, val_main_v9_apply,
    val_main_v8_apply, val_main_v7_apply, val_main_v6_apply, val_main_v5_apply, val_main_v4_apply, val_main_v3_apply, val_main_v2_apply,
    val_main_v1_apply, val_main_v0_apply]
  show (∑ s : Fin 3, term m c ⟨3 * (t.val / 3) + s.val, Pipeline.run_point_lt_of_flush t h3 s⟩ y : EReal) = _
  rw [Fin.sum_univ_three]
  simp only [term, prod]
  refine congrArg₂ (fun a b : EReal => a + b) (congrArg₂ (fun a b : EReal => a + b) ?_ ?_) ?_
  all_goals refine congrArg₂ (fun a b : EReal => a * b) ?_ (Finset.sum_congr rfl fun k _ => congrArg₂ (fun a b : EReal => a * b) ?_ ?_)
  all_goals blk_ext [iblk, V, idx t, idx ⟨_, Pipeline.run_point_lt_of_flush t h3 0⟩, idx ⟨_, Pipeline.run_point_lt_of_flush t h3 1⟩, idx ⟨_, Pipeline.run_point_lt_of_flush t h3 2⟩]

end Cert.Layer.Merge

end
-- ==== Proof.Layer.MergeClaim.lean ====
/- The claims about the gated merge of the three branches, `Merge`. -/
module

public import proofs.«01_k».proof.Defs
public import proofs.«01_k».proof.Proof.Gen.Merge.Frame
public import proofs.«01_k».proof.Proof.Layer.MergeValue
public import Idealize.ShloMosaic.Lib.Claim

@[expose] public section

set_option maxRecDepth 16384

noncomputable section

open Idealize.ShloMosaic Idealize.SL.Sem

namespace Cert.Layer.Merge

theorem frame : Cert.quiescent_Merge := fun m ρ _ => Cert.Merge.Gen.frame m ρ
theorem frameI : Cert.quiescent_MergeIdeal := fun m ρ _ => Cert.MergeIdeal.Gen.frame m ρ

theorem frameR : Cert.quiescent_MergeRefIdeal := by
  intro m g _
  exact (θ_run _ _ _).mono (fun r h => ⟨fun c => (h c).2, sem_eq_zero_of_no_sems (by decide) r.2⟩)
    (Cert.MergeRefIdeal.Value.run m g)

theorem algebraic : Cert.algebraic_MergeIdeal_MergeRefIdeal := by
  pair_intro
  · run_from Cert.MergeIdeal.Gen.run_main m g
  · run_from Cert.MergeRefIdeal.Value.run m' g'
    exact (Cert.MergeRefIdeal.Read.val_main_v28_eq _ _ _).trans (final m c).symm

end Cert.Layer.Merge

end
-- ==== Proof.Layer.NormValue.lean ====
module

public import proofs.«01_k».proof.Proof.Gen.NormIdeal.Frame
public import proofs.«01_k».proof.Proof.Gen.NormRefIdeal.Read
public import proofs.«01_k».proof.Proof.Layer.Sums
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Layer.Norm

open Cert.NormIdeal Cert.NormIdeal.Gen
open Cert.NormRefIdeal.Read

variable (m : (ℓ : Loc nD τ sig) → Buf (Elt Ideal) ℓ)

/-- Which blocks each grid point works on. -/
theorem idx : ∀ t : Fin cfg0.N, win0_0.index t = ![t.val, 0] ∧ win0_1.index t = ![0, 0]
    ∧ win0_2.index t = ![t.val, 0] ∧ t.val < 43 :=
  (by decide +kernel : ∀ t : Fin grid0.N, _)

theorem final (c : Dev nD) : (dats m 0 c).arrAt 2 (cfgs 0).N
    = val_main_v13 (m ((c : Thread nD τ).loc main_arg0)) (m ((c : Thread nD τ).loc main_arg1)) := by
  refine (dats m 0 c).arrAt_eq_of_covers 2 _ (by decide +kernel) fun t _ y => ?_
  blk_simp
  rw [after0_2]
  frame_out
  simp only [val_main_v13_apply, val_main_v12_apply, val_main_v11_apply, val_main_v10_apply, val_main_v9_apply, val_main_v8_apply,
    val_main_v7_apply, val_main_v6_apply, val_main_v5_apply, val_main_v4_apply, val_main_v3_apply, val_main_v2_apply, val_main_v1_apply,
    val_main_v0_apply, val_main_cst_apply, val_main_cst_0_apply, val_main_cst_1_apply]
  pointwise [k0_pay1]
  blk_point [iblk, V, idx t]

end Cert.Layer.Norm

end
-- ==== Proof.Layer.NormClaim.lean ====
/- The claims about the row norm, `Norm`. -/
module

public import proofs.«01_k».proof.Defs
public import proofs.«01_k».proof.Proof.Gen.Norm.Frame
public import proofs.«01_k».proof.Proof.Layer.NormValue
public import Idealize.ShloMosaic.Lib.Claim

@[expose] public section

set_option maxRecDepth 16384

noncomputable section

open Idealize.ShloMosaic Idealize.SL.Sem

namespace Cert.Layer.Norm

theorem frame : Cert.quiescent_Norm := fun m ρ _ => Cert.Norm.Gen.frame m ρ
theorem frameI : Cert.quiescent_NormIdeal := fun m ρ _ => Cert.NormIdeal.Gen.frame m ρ

theorem frameR : Cert.quiescent_NormRefIdeal := by
  intro m g _
  exact (θ_run _ _ _).mono (fun r h => ⟨fun c => (h c).2, sem_eq_zero_of_no_sems (by decide) r.2⟩)
    (Cert.NormRefIdeal.Value.run m g)

theorem algebraic : Cert.algebraic_NormIdeal_NormRefIdeal := by
  pair_intro
  · run_from Cert.NormIdeal.Gen.run_main m g
  · run_from Cert.NormRefIdeal.Value.run m' g'
    exact (Cert.NormRefIdeal.Read.val_main_v13_eq _ _).trans (final m c).symm

end Cert.Layer.Norm

end
-- ==== Proof.Layer.FinPValue.lean ====
module

public import proofs.«01_k».proof.Proof.Gen.FinPIdeal.Frame
public import proofs.«01_k».proof.Proof.Gen.FinPRefIdeal.Read
public import proofs.«01_k».proof.Proof.Layer.Sums
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Layer.FinP

open Cert.FinPIdeal Cert.FinPIdeal.Gen
open Cert.FinPRefIdeal.Read

variable (m : (ℓ : Loc nD τ sig) → Buf (Elt Ideal) ℓ)

/-- Which blocks each grid point works on. -/
theorem idx : ∀ t : Fin cfg0.N, win0_0.index t = ![t.val, 0] ∧ win0_1.index t = ![0, 0]
    ∧ win0_2.index t = ![t.val, 0] ∧ t.val < 32 :=
  (by decide +kernel : ∀ t : Fin grid0.N, _)

theorem g_at (c : Dev nD) (j : S1x4096.Idx) : V m c main_v0 j = m ((c : Thread nD τ).loc main_arg1) (ix1 (j 1)) := by
  rw [show V m c main_v0 = StableHlo.after hostOps0 (fun b => m (c, b)) (Proc.devRef .tc main_v0) from rfl]
  entry_read
  pointwise
  blk_ext

theorem x_at (c : Dev nD) (t : Fin cfg0.N) (y : S256x4096.Idx) : X0_0 m c t y
    = m ((c : Thread nD τ).loc main_arg0) (ix2 ⟨256 * t.val + (y 0).val, by have := (idx t).2.2.2; have : (y 0).val < 256 := (y 0).isLt; omega⟩ (y 1)) := by
  rw [X0_0, Pipeline.Window.fill, dif_pos (moved0_0 t y)]
  blk_ext [iblk, V, idx t]

/-- One row divided by its root mean square, times the gain. -/
def normAt (x : FVec Ideal S8256x4096 .f32) (g : FVec Ideal S4096 .f32) (i : Fin 8256) (j : Fin 4096) : EReal :=
  x (ix2 i j) * Ideal.rsqrt (Ideal.div (∑ k : Fin 4096, x (ix2 i k) * x (ix2 i k)) (Ideal.ofBits FTy.f32 1166016512#32) + Ideal.ofBits FTy.f32 897988541#32)
    * g (ix1 j)

theorem ref_at (x : FVec Ideal S8256x4096 .f32) (g : FVec Ideal S4096 .f32) (b : Fin 4) (r : Fin 2048) (j : Fin 4096) :
    val_main_v14 (F := Ideal) x g (ix3 b r j) = normAt x g ⟨2048 * b.val + r.val, by omega⟩ j := by
  simp only [val_main_v14_apply, val_main_v13_apply, val_main_v12_apply, val_main_v11_apply, val_main_v10_apply, val_main_v9_apply, val_main_v8_apply,
    val_main_v7_apply, val_main_v6_apply, val_main_v5_apply, val_main_v4_apply, val_main_v3_apply, val_main_v2_apply, val_main_v1_apply,
    val_main_v0_apply, val_main_cst_apply, val_main_cst_0_apply, val_main_cst_1_apply]
  pointwise [normAt]
  blk_point []

theorem ker_at (c : Dev nD) (t : Fin cfg0.N) (y : S256x4096.Idx) : outsAt0 m c t y
    = normAt (m ((c : Thread nD τ).loc main_arg0)) (m ((c : Thread nD τ).loc main_arg1))
        ⟨256 * t.val + (y 0).val, by have := (idx t).2.2.2; have : (y 0).val < 256 := (y 0).isLt; omega⟩ (y 1) := by
  rw [outsAt0]
  frame_out
  pointwise [k0_pay1]
  simp only [x_at]
  refine congrArg₂ (fun a b : EReal => a * b) rfl ?_
  blk_simp [iblk]
  refine (g_at m c _).trans (congrArg _ ?_)
  blk_ext [idx t]

theorem final (c : Dev nD) (j : S8192x4096.Idx) : (dats m 0 c).arrAt 2 (cfgs 0).N j = normAt (m ((c : Thread nD τ).loc main_arg0)) (m ((c : Thread nD τ).loc main_arg1))
      ⟨(j 0).val, by have : (j 0).val < 8192 := (j 0).isLt; omega⟩ (j 1) := by
  have := (dats m 0 c).arrAt_eq_of_covers 2 (fun j : S8192x4096.Idx => normAt (m ((c : Thread nD τ).loc main_arg0)) (m ((c : Thread nD τ).loc main_arg1))
      ⟨(j 0).val, by have : (j 0).val < 8192 := (j 0).isLt; omega⟩ (j 1)) (by decide +kernel) fun t _ y => ?_
  · exact congrFun this j
  blk_simp
  rw [after0_2, ker_at]
  refine congrArg₂ (normAt _ _) (Fin.ext ?_) (Fin.ext ?_)
  · blk_simp [idx t]
    dsimp only
    omega
  · blk_simp [idx t]

theorem tail_at (c : Dev nD) : Pipeline.afterTail₀ cfgs (dats m) 0 (V0 m) [hostOps1] c main_v2
    = shapeCast S4x2048x4096 ((dats m 0 c).arrAt 2 (cfgs 0).N) shapeCasts_S8192x4096_S4x2048x4096 := by
  unfold Pipeline.afterTail₀
  show StableHlo.after hostOps1 _ (Proc.devRef .tc main_v2) = _
  after_results
  refine congrArg (fun v => shapeCast S4x2048x4096 v shapeCasts_S8192x4096_S4x2048x4096) ?_
  exact Pipeline.withArrays_arr spec0 (fun a b => by revert a b; decide) c _ _ 2

theorem ext3 (f g : S4x2048x4096.Idx → EReal) (h : ∀ b r j, f (ix3 b r j) = g (ix3 b r j)) : f = g := by
  funext i
  have hi : i = ix3 (i 0) (i 1) (i 2) := by blk_ext
  rw [hi]
  exact h _ _ _

theorem split_at (X : FVec Ideal S8192x4096 .f32) (b : Fin 4) (r : Fin 2048) (j : Fin 4096) :
    shapeCast S4x2048x4096 X shapeCasts_S8192x4096_S4x2048x4096 (ix3 b r j) = X (ix2 ⟨2048 * b.val + r.val, by omega⟩ j) := by
  pointwise
  blk_ext

theorem result (c : Dev nD) : Pipeline.afterTail₀ cfgs (dats m) 0 (V0 m) [hostOps1] c main_v2
    = val_main_v14 (F := Ideal) (m ((c : Thread nD τ).loc main_arg0)) (m ((c : Thread nD τ).loc main_arg1)) := by
  refine (tail_at m c).trans (ext3 _ _ fun b r j => (split_at _ b r j).trans ((final m c _).trans ?_))
  exact (ref_at _ _ b r j).symm

end Cert.Layer.FinP

end
-- ==== Proof.Layer.FinPClaim.lean ====
/- The claims about the final norm of the prompt rows, `FinP`. -/
module

public import proofs.«01_k».proof.Defs
public import proofs.«01_k».proof.Proof.Gen.FinP.Frame
public import proofs.«01_k».proof.Proof.Layer.FinPValue
public import Idealize.ShloMosaic.Lib.Claim

@[expose] public section

set_option maxRecDepth 16384

noncomputable section

open Idealize.ShloMosaic Idealize.SL.Sem

namespace Cert.Layer.FinP

theorem frame : Cert.quiescent_FinP := fun m ρ _ => Cert.FinP.Gen.frame m ρ
theorem frameI : Cert.quiescent_FinPIdeal := fun m ρ _ => Cert.FinPIdeal.Gen.frame m ρ

theorem frameR : Cert.quiescent_FinPRefIdeal := by
  intro m g _
  exact (θ_run _ _ _).mono (fun r h => ⟨fun c => (h c).2, sem_eq_zero_of_no_sems (by decide) r.2⟩)
    (Cert.FinPRefIdeal.Value.run m g)

theorem algebraic : Cert.algebraic_FinPIdeal_FinPRefIdeal := by
  pair_intro
  · run_from Cert.FinPIdeal.Gen.run_main m g
    · exact Cert.FinPIdeal.Gen.W_main_arg1 m _ c
  · run_from Cert.FinPRefIdeal.Value.run m' g'
    exact (Cert.FinPRefIdeal.Read.val_main_v14_eq _ _).trans (result m c).symm

end Cert.Layer.FinP

end
-- ==== Proof.Layer.FinSValue.lean ====
module

public import proofs.«01_k».proof.Proof.Gen.FinSIdeal.Frame
public import proofs.«01_k».proof.Proof.Gen.FinSRefIdeal.Read
public import proofs.«01_k».proof.Proof.Layer.Sums
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Layer.FinS

open Cert.FinSIdeal Cert.FinSIdeal.Gen
open Cert.FinSRefIdeal.Read

variable (m : (ℓ : Loc nD τ sig) → Buf (Elt Ideal) ℓ)

/-- Which blocks each grid point works on. -/
theorem idx : ∀ t : Fin cfg0.N, win0_0.index t = ![128 + t.val, 0] ∧ win0_1.index t = ![0, 0]
    ∧ win0_2.index t = ![t.val, 0] ∧ t.val < 1 :=
  (by decide +kernel : ∀ t : Fin grid0.N, _)

theorem g_at (c : Dev nD) (j : S1x4096.Idx) : V m c main_v0 j = m ((c : Thread nD τ).loc main_arg1) (ix1 (j 1)) := by
  rw [show V m c main_v0 = StableHlo.after hostOps0 (fun b => m (c, b)) (Proc.devRef .tc main_v0) from rfl]
  entry_read
  pointwise
  blk_ext

theorem final (c : Dev nD) (j : S64x4096.Idx) : (dats m 0 c).arrAt 2 (cfgs 0).N j = val_main_v14 (m ((c : Thread nD τ).loc main_arg0)) (m ((c : Thread nD τ).loc main_arg1))
      (ix3 ⟨(j 0).val / 8, by have := (j 0).isLt; simp at this; omega⟩ ⟨(j 0).val % 8, by omega⟩ (j 1)) := by
  have := (dats m 0 c).arrAt_eq_of_covers 2 (fun j => val_main_v14 (m ((c : Thread nD τ).loc main_arg0)) (m ((c : Thread nD τ).loc main_arg1))
      (ix3 ⟨(j 0).val / 8, by have := (j 0).isLt; simp at this; omega⟩ ⟨(j 0).val % 8, by omega⟩ (j 1))) (by decide +kernel) fun t _ y => ?_
  · exact congrFun this j
  blk_simp
  rw [after0_2]
  frame_out
  simp only [val_main_v14_apply, val_main_v13_apply, val_main_v12_apply, val_main_v11_apply, val_main_v10_apply, val_main_v9_apply, val_main_v8_apply,
    val_main_v7_apply, val_main_v6_apply, val_main_v5_apply, val_main_v4_apply, val_main_v3_apply, val_main_v2_apply, val_main_v1_apply,
    val_main_v0_apply, val_main_cst_apply, val_main_cst_0_apply, val_main_cst_1_apply]
  pointwise [k0_pay1]
  blk_point [iblk, V, idx t]
  refine (g_at m c _).trans (congrArg _ ?_)
  blk_ext [idx t]

theorem tail_at (c : Dev nD) : Pipeline.afterTail₀ cfgs (dats m) 0 (V0 m) [hostOps1] c main_v2
    = shapeCast S8x8x4096 ((dats m 0 c).arrAt 2 (cfgs 0).N) shapeCasts_S64x4096_S8x8x4096 := by
  unfold Pipeline.afterTail₀
  show StableHlo.after hostOps1 _ (Proc.devRef .tc main_v2) = _
  after_results
  refine congrArg (fun v => shapeCast S8x8x4096 v shapeCasts_S64x4096_S8x8x4096) ?_
  exact Pipeline.withArrays_arr spec0 (fun a b => by revert a b; decide) c _ _ 2

theorem ext3 (f g : S8x8x4096.Idx → EReal) (h : ∀ b r j, f (ix3 b r j) = g (ix3 b r j)) : f = g := by
  funext i
  have hi : i = ix3 (i 0) (i 1) (i 2) := by blk_ext
  rw [hi]
  exact h _ _ _

theorem split_at (X : FVec Ideal S64x4096 .f32) (b : Fin 8) (r : Fin 8) (j : Fin 4096) :
    shapeCast S8x8x4096 X shapeCasts_S64x4096_S8x8x4096 (ix3 b r j) = X (ix2 ⟨8 * b.val + r.val, by omega⟩ j) := by
  pointwise
  blk_ext

theorem result (c : Dev nD) : Pipeline.afterTail₀ cfgs (dats m) 0 (V0 m) [hostOps1] c main_v2
    = val_main_v14 (F := Ideal) (m ((c : Thread nD τ).loc main_arg0)) (m ((c : Thread nD τ).loc main_arg1)) := by
  refine (tail_at m c).trans (ext3 _ _ fun b r j => (split_at _ b r j).trans ((final m c _).trans ?_))
  refine congrArg _ ?_
  blk_ext

end Cert.Layer.FinS

end
-- ==== Proof.Layer.FinSClaim.lean ====
/- The claims about the final norm of the sample rows, `FinS`. -/
module

public import proofs.«01_k».proof.Defs
public import proofs.«01_k».proof.Proof.Gen.FinS.Frame
public import proofs.«01_k».proof.Proof.Layer.FinSValue
public import Idealize.ShloMosaic.Lib.Claim

@[expose] public section

set_option maxRecDepth 16384

noncomputable section

open Idealize.ShloMosaic Idealize.SL.Sem

namespace Cert.Layer.FinS

theorem frame : Cert.quiescent_FinS := fun m ρ _ => Cert.FinS.Gen.frame m ρ
theorem frameI : Cert.quiescent_FinSIdeal := fun m ρ _ => Cert.FinSIdeal.Gen.frame m ρ

theorem frameR : Cert.quiescent_FinSRefIdeal := by
  intro m g _
  exact (θ_run _ _ _).mono (fun r h => ⟨fun c => (h c).2, sem_eq_zero_of_no_sems (by decide) r.2⟩)
    (Cert.FinSRefIdeal.Value.run m g)

theorem algebraic : Cert.algebraic_FinSIdeal_FinSRefIdeal := by
  pair_intro
  · run_from Cert.FinSIdeal.Gen.run_main m g
    · exact Cert.FinSIdeal.Gen.W_main_arg1 m _ c
  · run_from Cert.FinSRefIdeal.Value.run m' g'
    exact (Cert.FinSRefIdeal.Read.val_main_v14_eq _ _).trans (result m c).symm

end Cert.Layer.FinS

end
-- ==== Proof.Layer.SsdBase.lean ====
/- Words, products and sums that the recurrence's modules share. -/
module

public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.Layer

/-- The logistic function as the host writes it. -/
theorem logistic_at (x : EReal) : FloatOps.hostDivf (F := Ideal) (FloatOps.ofBits FTy.f32 1065353216#32)
    (FloatOps.addf (FloatOps.ofBits FTy.f32 1065353216#32) (FloatOps.hostUnary (F := Ideal) (φ := .f32) HostUnaryOp.exp (FloatOps.hostNegf (F := Ideal) (φ := .f32) x))) = Ideal.logistic x := by
  pointwise [Ideal.logistic]

/-- The softplus function. -/
def sp (x : EReal) : EReal := max x 0 + Ideal.log1p (Ideal.exp (-(FloatOps.absf (F := Ideal) (φ := .f32) x : EReal)))

theorem exp_nonneg (x : EReal) : 0 ≤ Ideal.exp x := by
  match x with
  | ⊥ => exact le_rfl
  | ⊤ => exact le_top
  | (r : ℝ) => exact EReal.coe_nonneg.2 (Real.exp_pos r).le

theorem log1p_nonneg (x : EReal) (hx : 0 ≤ x) : 0 ≤ Ideal.log1p x := by
  match x with
  | ⊥ => exact absurd hx (by simp)
  | ⊤ =>
    rw [Ideal.log1p, show (1 : EReal) + ⊤ = ⊤ from EReal.coe_add_top 1]
    exact le_top
  | (r : ℝ) =>
    have hr : 0 ≤ r := EReal.coe_nonneg.1 hx
    rw [Ideal.log1p, show (1 : EReal) + (r : EReal) = ((1 + r : ℝ) : EReal) from (EReal.coe_add 1 r).symm]
    show (0 : EReal) ≤ if (1 + r : ℝ) ≤ 0 then ⊥ else (Real.log (1 + r) : EReal)
    rw [if_neg (by linarith)]
    exact EReal.coe_nonneg.2 (Real.log_nonneg (by linarith))

theorem sp_nonneg (x : EReal) : 0 ≤ sp x :=
  add_nonneg (le_max_right x 0) (log1p_nonneg _ (exp_nonneg _))

/-- A step of the recurrence is never `⊤`: the rate is negative. -/
theorem step_ne_top (x a : EReal) : sp x * -Ideal.exp a ≠ ⊤ := by
  have h : sp x * -Ideal.exp a ≤ 0 := by
    rw [mul_neg, EReal.neg_le, neg_zero]
    exact mul_nonneg (sp_nonneg x) (exp_nonneg a)
  exact ne_top_of_le_ne_top EReal.zero_ne_top h

/-- The value in three parts, each what the former parts leave, adds up to the value. -/
theorem parts (d : EReal) (h : d ≠ ⊤) : d + (d - d) + (d - d - (d - d)) = d := by
  match d, h with
  | ⊥, _ => rfl
  | (r : ℝ), _ =>
    rw [← EReal.coe_sub, sub_self, EReal.coe_zero, add_zero, sub_zero, add_zero]

/-- A fold that adds to the accumulator term by term is the sum of the terms. -/
theorem foldl_sum {n : ℕ} (g : Fin n → EReal) (l : List (Fin n)) (a : EReal) :
    l.foldl (fun x k => x + g k) a = a + (l.map g).sum := by
  induction l generalizing a with
  | nil => simp
  | cons k l ih => rw [List.foldl_cons, ih, List.map_cons, List.sum_cons, add_assoc]

theorem window_sum (f : ℕ → EReal) (i : Fin 128) :
    (∑ k : Fin 128, if 127 ≤ i.val + k.val then f (i.val + k.val - 127) else 0) = ∑ s : Fin 128, if s.val ≤ i.val then f s.val else 0 := by
  have e1 : ∀ g : ℕ → EReal, (∑ k : Fin 128, g k.val) = ∑ k ∈ Finset.range 128, g k := fun g => (Finset.sum_range g).symm
  rw [e1 (fun k => if 127 ≤ i.val + k then f (i.val + k - 127) else 0), e1 (fun k => if k ≤ i.val then f k else 0), ← Finset.sum_filter, ← Finset.sum_filter]
  have hi := i.isLt
  refine Finset.sum_bij' (fun k _ => i.val + k - 127) (fun k _ => k + 127 - i.val) ?_ ?_ ?_ ?_ ?_
  · intro k hk; simp only [Finset.mem_filter, Finset.mem_range] at hk ⊢; omega
  · intro k hk; simp only [Finset.mem_filter, Finset.mem_range] at hk ⊢; omega
  · intro k hk; simp only [Finset.mem_filter, Finset.mem_range] at hk; omega
  · intro k hk; simp only [Finset.mem_filter, Finset.mem_range] at hk; omega
  · intro k hk; rfl

end Cert.Layer
end
end
-- ==== Proof.Layer.SsdFacts.lean ====
/- The kernel's elementwise facts on a chunk: step sizes, decays, running sums, convolved rows. -/
module

public import proofs.«01_k».proof.Proof.Gen.SsdIdeal.Frame
public import Idealize.ShloMosaic.Lib.Pipeline.ValueKit
public import Idealize.ShloMosaic.Lib.Pipeline.ReadBack
public import Idealize.ShloMosaic.Lib.WordCmp
public import proofs.«01_k».proof.Proof.Layer.SsdBase

@[expose] public section

set_option maxRecDepth 16384

noncomputable section

open Idealize.ShloMosaic Idealize.ShloMosaic.TcCoe Idealize.SL.Sem
open Idealize.ShloMosaic.Pipeline (Dat)

namespace Cert.Layer.Ssd
open Cert.SsdIdeal Cert.SsdIdeal.Gen

theorem zero_minus (x : EReal) : 0 - x = -x := by
  rw [sub_eq_add_neg]
  exact zero_add _

theorem k_dt (X : Vec Ideal S128x128 .f32) (v : Vec Ideal S1x128 .f32) (i hd : Fin 128) :
    k0_pay7 X v (ix2 i hd) = sp (X (ix2 i hd) + v (ix2 0 hd)) := by
  pointwise [k0_pay7, sp]
  rw [if_neg (fun h => h rfl), zero_minus]

theorem k_da (X : Vec Ideal S128x128 .f32) (v a : Vec Ideal S1x128 .f32) (i hd : Fin 128) :
    k0_pay8 X v a (ix2 i hd) = sp (X (ix2 i hd) + v (ix2 0 hd)) * -Ideal.exp (a (ix2 0 hd)) := by
  rw [← k_dt]
  generalize hu : k0_pay7 (F := Ideal) X v = u
  pointwise [k0_pay8, hu]
  rw [zero_minus]

theorem tri_at (i s : Fin 128) : (k0_pay10 (F := Ideal) (ix2 i s) : EReal) = if s.val ≤ i.val then 1 else 0 := by
  have hi := i.isLt
  have hs := s.isLt
  pointwise [k0_pay10, k0_pay9]
  word_cmp

theorem k_ac (X : Vec Ideal S128x128 .f32) (v a : Vec Ideal S1x128 .f32) (i hd : Fin 128) :
    k0_pay12 (k0_pay8 X v a) k0_pay10 (k0_pay11 X v a) (ix2 i hd) = ∑ s : Fin 128, if s.val ≤ i.val then k0_pay8 X v a (ix2 s hd) else (0 : EReal) := by
  have hd' : ∀ s, k0_pay8 X v a (ix2 s hd) ≠ (⊤ : EReal) := fun s => by
    rw [k_da]
    exact step_ne_top _ _
  pointwise [k0_pay12, k0_pay11]
  simp only [tri_at]
  rw [← Finset.sum_add_distrib, ← Finset.sum_add_distrib]
  refine Finset.sum_congr rfl fun s _ => ?_
  by_cases h : s.val ≤ i.val
  · simp only [h, if_true, one_mul]
    exact parts _ (hd' s)
  · simp only [h, if_false, zero_mul, add_zero]

theorem k_acT (d : FVec Ideal S128x128 .f32) (u : FVec Ideal S128x128 .bf16) (w : FVec Ideal S128x128 .bf16) (i hd : Fin 128) :
    k0_pay13 d u w (ix2 hd i) = k0_pay12 d u w (ix2 i hd) := by
  generalize hu : k0_pay12 (F := Ideal) d u w = z
  pointwise [k0_pay13, hu]

theorem k_dtT (z : FVec Ideal S128x128 .f32) (i hd : Fin 128) : k0_pay14 z (ix2 hd i) = z (ix2 i hd) := by
  pointwise [k0_pay14]

theorem k_te (z d : FVec Ideal S128x128 .f32) (u : FVec Ideal S128x128 .bf16) (w : FVec Ideal S128x128 .bf16) (i hd : Fin 128) :
    k0_pay15 z d u w (ix2 i hd) = Ideal.exp (k0_pay12 d u w (ix2 127 hd) - k0_pay12 d u w (ix2 i hd)) * z (ix2 i hd) := by
  generalize hu : k0_pay12 (F := Ideal) d u w = y
  pointwise [k0_pay15, hu]

theorem k_ea (d : FVec Ideal S128x128 .f32) (u : FVec Ideal S128x128 .bf16) (w : FVec Ideal S128x128 .bf16) (i hd : Fin 128) :
    k0_pay16 d u w (ix2 i hd) = Ideal.exp (k0_pay12 d u w (ix2 i hd)) := by
  generalize hu : k0_pay12 (F := Ideal) d u w = y
  pointwise [k0_pay16, hu]

theorem k_cd (d : FVec Ideal S128x128 .f32) (u : FVec Ideal S128x128 .bf16) (w : FVec Ideal S128x128 .bf16) (hd : Fin 128) :
    k0_pay17 d u w (ix2 hd 0) = Ideal.exp (k0_pay12 d u w (ix2 127 hd)) := by
  rw [← k_acT]
  generalize hu : k0_pay13 (F := Ideal) d u w = y
  pointwise [k0_pay17, hu]

/-- The chunk's activations, from the four rows of inputs the convolution reads. -/
def actOf (cw : Vec Ideal S4x3072 .f32) (cb : Vec Ideal S1x3072 .f32) (e5 e6 e7 e8 : FVec Ideal S128x3072 .f32) : FVec Ideal S128x3072 .f32 :=
  k0_pay6 (k0_pay4 cb
    (View.ld cw (Rect.unit ![0, 0] ![1, 3072] inb_S4x3072_S1x3072_0_0)) e5
    (View.ld cw (Rect.unit ![1, 0] ![1, 3072] inb_S4x3072_S1x3072_1_0)) e6
    (View.ld cw (Rect.unit ![2, 0] ![1, 3072] inb_S4x3072_S1x3072_2_0)) e7
    (View.ld cw (Rect.unit ![3, 0] ![1, 3072] inb_S4x3072_S1x3072_3_0)) e8)

theorem actOf_eq (cw : Vec Ideal S4x3072 .f32) (cb : Vec Ideal S1x3072 .f32) (e5 e6 e7 e8 : FVec Ideal S128x3072 .f32) :
  k0_pay6 (k0_pay4 cb
    (View.ld cw (Rect.unit ![0, 0] ![1, 3072] inb_S4x3072_S1x3072_0_0)) e5
    (View.ld cw (Rect.unit ![1, 0] ![1, 3072] inb_S4x3072_S1x3072_1_0)) e6
    (View.ld cw (Rect.unit ![2, 0] ![1, 3072] inb_S4x3072_S1x3072_2_0)) e7
    (View.ld cw (Rect.unit ![3, 0] ![1, 3072] inb_S4x3072_S1x3072_3_0)) e8) = actOf cw cb e5 e6 e7 e8 := rfl

theorem k_act (cw : Vec Ideal S4x3072 .f32) (cb : Vec Ideal S1x3072 .f32) (e5 e6 e7 e8 : FVec Ideal S128x3072 .f32) (i : Fin 128) (col : Fin 3072) (z : EReal)
    (hz : z = cw (ix2 0 col) * e5 (ix2 i col) + cw (ix2 1 col) * e6 (ix2 i col) + cw (ix2 2 col) * e7 (ix2 i col) + cw (ix2 3 col) * e8 (ix2 i col) + cb (ix2 0 col)) :
    actOf cw cb e5 e6 e7 e8 (ix2 i col) = z * Ideal.logistic z := by
  have h : cb (ix2 0 col) + cw (ix2 0 col) * e5 (ix2 i col) + cw (ix2 1 col) * e6 (ix2 i col) + cw (ix2 2 col) * e7 (ix2 i col) + cw (ix2 3 col) * e8 (ix2 i col) = z := by
    rw [hz]
    ac_rfl
  rw [← h]
  pointwise [actOf, k0_pay6, k0_pay4]

end Cert.Layer.Ssd
end
end
-- ==== Proof.Layer.SsdReads.lean ====
/- What the kernel's windows hold, element by element. -/
module

public import proofs.«01_k».proof.Proof.Gen.SsdIdeal.Frame
public import Idealize.ShloMosaic.Lib.Pipeline.ValueKit
public import Idealize.ShloMosaic.Lib.Pipeline.ReadBack
public import Idealize.ShloMosaic.Lib.WordCmp
public import proofs.«01_k».proof.Proof.Layer.SsdFacts
public import Idealize.ShloMosaic.Lib.WritesUnit
public import Idealize.ShloMosaic.Lib.KernelVsHost

@[expose] public section

set_option maxRecDepth 16384

noncomputable section

open Idealize.ShloMosaic Idealize.ShloMosaic.TcCoe Idealize.SL.Sem
open Idealize.ShloMosaic.Pipeline (Dat)

namespace Cert.Layer.Ssd
open Cert.SsdIdeal Cert.SsdIdeal.Gen

variable (m : (ℓ : Loc nD τ sig) → Buf (Elt Ideal) ℓ)

/-- Which blocks each grid point works on. -/
theorem idx : ∀ t : Fin cfg0.N, win0_0.index t = ![t.val, 0] ∧ win0_1.index t = ![t.val, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![t.val / 16, 0, 0]
    ∧ win0_9.index t = ![t.val / 16, 0, 0] ∧ win0_10.index t = ![t.val, 0] ∧ win0_11.index t = ![t.val / 16, 0, 0] ∧ t.val < 64 :=
  (by decide +kernel : ∀ t : Fin grid0.N, _)

theorem t_lt (t : Fin cfg0.N) : t.val < 64 := (idx t).2.2.2.2.2.2.2.2.2.2.2.2

theorem x_at (c : Dev nD) (t : Fin cfg0.N) (i : Fin 128) (j : Fin 5120) : X0_0 m c t (ix2 i j)
    = m ((c : Thread nD τ).loc main_arg0) (ix2 ⟨128 * t.val + i.val, by have := t_lt t; omega⟩ j) := by
  rw [X0_0, Pipeline.Window.fill, dif_pos (moved0_0 t _)]
  blk_ext [iblk, V, idx t]

theorem dtr_at (c : Dev nD) (t : Fin cfg0.N) (i j : Fin 128) : X0_1 m c t (ix2 i j)
    = m ((c : Thread nD τ).loc main_arg1) (ix2 ⟨128 * t.val + i.val, by have := t_lt t; omega⟩ j) := by
  rw [X0_1, Pipeline.Window.fill, dif_pos (moved0_1 t _)]
  blk_ext [iblk, V, idx t]

theorem cw_at (c : Dev nD) (t : Fin cfg0.N) (k : Fin 4) (j : Fin 3072) : iblk m c 2 t (ix2 k j) = m ((c : Thread nD τ).loc main_arg2) (ix2 k j) := by
  blk_ext [iblk, V, idx t]

theorem cb_host (c : Dev nD) (j : S1x3072.Idx) : V m c main_v0 j = m ((c : Thread nD τ).loc main_arg3) (ix1 (j 1)) := by
  simp only [V, hostOps0, hostOps0_1, hostOps0_2, hostOps0_3, hostOps0_4, List.flatten_cons, List.flatten_nil, List.append_nil, List.cons_append, List.nil_append]
  entry_read
  pointwise
  blk_ext

theorem cb_at (c : Dev nD) (t : Fin cfg0.N) (j : Fin 3072) : iblk m c 3 t (ix2 0 j) = m ((c : Thread nD τ).loc main_arg3) (ix1 j) := by
  refine Eq.trans ?_ (cb_host m c (ix2 0 j))
  blk_ext [iblk, idx t]

theorem nw_host (c : Dev nD) (j : S1x2048.Idx) : V m c main_v8 j = m ((c : Thread nD τ).loc main_arg7) (ix1 (j 1)) := by
  simp only [V, hostOps0, hostOps0_1, hostOps0_2, hostOps0_3, hostOps0_4, List.flatten_cons, List.flatten_nil, List.append_nil, List.cons_append, List.nil_append]
  entry_read
  pointwise
  blk_ext

theorem nw_at (c : Dev nD) (t : Fin cfg0.N) (j : Fin 2048) : iblk m c 7 t (ix2 0 j) = m ((c : Thread nD τ).loc main_arg7) (ix1 j) := by
  refine Eq.trans ?_ (nw_host m c (ix2 0 j))
  blk_ext [iblk, idx t]

theorem bias_host (c : Dev nD) (hd : Fin 32) : V m c main_v2 (ix2 0 ⟨hd.val, by omega⟩) = m ((c : Thread nD τ).loc main_arg4) (ix1 hd) := by
  simp only [V, hostOps0, hostOps0_1, hostOps0_2, hostOps0_3, hostOps0_4, List.flatten_cons, List.flatten_nil, List.append_nil, List.cons_append, List.nil_append]
  entry_read
  pointwise
  show pad S128 ![0] ![96] ![0] (m ((c : Thread nD τ).loc main_arg4) : S32.Idx → EReal) (sitofp (F := Ideal) .f32 (constantI S_ 32 0#32) : S_.Idx → EReal) pads_S32_S128_0960 h_S_ (ix1 ⟨hd.val, by omega⟩) = _
  refine pad_apply_of_inside _ _ _ _ _ _ _ _ (ix1 hd) fun a => ?_
  match a with
  | ⟨0, _⟩ => show hd.val = 0 + hd.val * (0 + 1); omega

theorem bias_at (c : Dev nD) (t : Fin cfg0.N) (hd : Fin 32) : iblk m c 4 t (ix2 0 ⟨hd.val, by omega⟩) = m ((c : Thread nD τ).loc main_arg4) (ix1 hd) := by
  refine Eq.trans ?_ (bias_host m c hd)
  blk_ext [iblk, idx t]

theorem alog_host (c : Dev nD) (hd : Fin 32) : V m c main_v4 (ix2 0 ⟨hd.val, by omega⟩) = m ((c : Thread nD τ).loc main_arg5) (ix1 hd) := by
  simp only [V, hostOps0, hostOps0_1, hostOps0_2, hostOps0_3, hostOps0_4, List.flatten_cons, List.flatten_nil, List.append_nil, List.cons_append, List.nil_append]
  entry_read
  pointwise
  show pad S128 ![0] ![96] ![0] (m ((c : Thread nD τ).loc main_arg5) : S32.Idx → EReal) (sitofp (F := Ideal) .f32 (constantI S_ 32 0#32) : S_.Idx → EReal) pads_S32_S128_0960 h_S_ (ix1 ⟨hd.val, by omega⟩) = _
  refine pad_apply_of_inside _ _ _ _ _ _ _ _ (ix1 hd) fun a => ?_
  match a with
  | ⟨0, _⟩ => show hd.val = 0 + hd.val * (0 + 1); omega

theorem alog_at (c : Dev nD) (t : Fin cfg0.N) (hd : Fin 32) : iblk m c 5 t (ix2 0 ⟨hd.val, by omega⟩) = m ((c : Thread nD τ).loc main_arg5) (ix1 hd) := by
  refine Eq.trans ?_ (alog_host m c hd)
  blk_ext [iblk, idx t]

theorem skip_host (c : Dev nD) (j : S1x2048.Idx) : V m c main_v7 j = m ((c : Thread nD τ).loc main_arg6) (ix1 ⟨(j 1).val / 64, by have : (j 1).val < 2048 := (j 1).isLt; omega⟩) := by
  simp only [V, hostOps0, hostOps0_1, hostOps0_2, hostOps0_3, hostOps0_4, List.flatten_cons, List.flatten_nil, List.append_nil, List.cons_append, List.nil_append]
  entry_read
  pointwise
  blk_ext

theorem skip_at (c : Dev nD) (t : Fin cfg0.N) (j : Fin 2048) : iblk m c 6 t (ix2 0 j) = m ((c : Thread nD τ).loc main_arg6) (ix1 ⟨j.val / 64, by omega⟩) := by
  refine Eq.trans ?_ (skip_host m c (ix2 0 j))
  blk_ext [iblk, idx t]

theorem buf_at (c : Dev nD) (t : Fin cfg0.N) (w : S1x8x3072.Idx) : iblk m c 8 t w = (0 : EReal) := by
  have h : ∀ j : S4x8x3072.Idx, V m c main_v9 j = (0 : EReal) := fun j => by
    simp only [V, hostOps0, hostOps0_1, hostOps0_2, hostOps0_3, hostOps0_4, List.flatten_cons, List.flatten_nil, List.append_nil, List.cons_append, List.nil_append]
    entry_read
    pointwise
  exact h _

theorem h0_at (c : Dev nD) (t : Fin cfg0.N) (w : S1x2048x128.Idx) : k0_pay1 (iblk m c 9 t) w = (0 : EReal) := by
  have h : ∀ j : S4x2048x128.Idx, V m c main_v10 j = (0 : EReal) := fun j => by
    simp only [V, hostOps0, hostOps0_1, hostOps0_2, hostOps0_3, hostOps0_4, List.flatten_cons, List.flatten_nil, List.append_nil, List.cons_append, List.nil_append]
    entry_read
    pointwise
  have h' : ∀ j, iblk m c 9 t j = (0 : EReal) := fun j => h _
  pointwise [k0_pay1]
  exact h' _

end Cert.Layer.Ssd
end
end
-- ==== Proof.Layer.SsdTail.lean ====
/- The rows a chunk keeps for the next one, and the convolved rows of every chunk. -/
module

public import proofs.«01_k».proof.Proof.Gen.SsdIdeal.Frame
public import Idealize.ShloMosaic.Lib.Pipeline.ValueKit
public import Idealize.ShloMosaic.Lib.Pipeline.ReadBack
public import Idealize.ShloMosaic.Lib.WordCmp
public import proofs.«01_k».proof.Proof.Layer.SsdReads
public import Idealize.ShloMosaic.Lib.WritesUnit

@[expose] public section

set_option maxRecDepth 16384

noncomputable section

open Idealize.ShloMosaic Idealize.ShloMosaic.TcCoe Idealize.SL.Sem
open Idealize.ShloMosaic.Pipeline (Dat)

namespace Cert.Layer.Ssd
open Cert.SsdIdeal Cert.SsdIdeal.Gen

variable (m : (ℓ : Loc nD τ sig) → Buf (Elt Ideal) ℓ)

/-- The rows of the convolution's input a chunk sees: three of the chunk before (zeros at a sequence's start), then its own. -/
def extK (c : Dev nD) (t : Fin cfg0.N) (u : Fin 131) (col : Fin 3072) : EReal :=
  if t.val % 16 = 0 ∧ u.val < 3 then 0
  else m ((c : Thread nD τ).loc main_arg0) (ix2 ⟨128 * t.val + u.val - 3, by have := t_lt t; omega⟩ ⟨2048 + col.val, by omega⟩)

/-- The chunk's rows of the convolution's input, as stored. -/
def own (c : Dev nD) (t : Fin cfg0.N) : FVec Ideal S128x3072 .f32 :=
  k0_pay3 (View.ld (X0_0 m c t) (Rect.unit ![0, 2048] ![128, 3072] inb_S128x5120_S128x3072_0_2048))

theorem own_at (c : Dev nD) (t : Fin cfg0.N) (i : Fin 128) (col : Fin 3072) : own m c t (ix2 i col)
    = m ((c : Thread nD τ).loc main_arg0) (ix2 ⟨128 * t.val + i.val, by have := t_lt t; omega⟩ ⟨2048 + col.val, by omega⟩) := by
  rw [← x_at m c t i ⟨2048 + col.val, by omega⟩]
  pointwise [own, k0_pay3]

/-- A stored row past the eighth, whatever was there before. -/
theorem row_own (f : (View.whole cc0_scratch0).ty.Contents (Elt Ideal)) (p : FVec Ideal S128x3072 .f32) (L : List (View.Piece (Elt Ideal) S136x3072 .f32))
    (y : S136x3072.Idx) (i : Fin 128) (col : Fin 3072) (h0 : (y 0).val = 8 + i.val) (h1 : (y 1).val = col.val) :
    (View.whole cc0_scratch0).read (Elt Ideal) ((View.whole cc0_scratch0).writes (Elt Ideal) f (⟨Rect.unit ![8, 0] ![128, 3072] inb_S136x3072_S128x3072_8_0, p⟩ :: L)) y
    = p (ix2 i col) :=
  View.read_writes_cons_rows_of_mem (View.whole cc0_scratch0) f inb_S136x3072_S128x3072_8_0 p L y (ix2 i col) rfl h0 h1

theorem row_old (f : (View.whole cc0_scratch0).ty.Contents (Elt Ideal)) (p : FVec Ideal S128x3072 .f32) (L : List (View.Piece (Elt Ideal) S136x3072 .f32))
    (y : S136x3072.Idx) (h0 : (y 0).val < 8) :
    (View.whole cc0_scratch0).read (Elt Ideal) ((View.whole cc0_scratch0).writes (Elt Ideal) f (⟨Rect.unit ![8, 0] ![128, 3072] inb_S136x3072_S128x3072_8_0, p⟩ :: L)) y
    = (View.whole cc0_scratch0).read (Elt Ideal) ((View.whole cc0_scratch0).writes (Elt Ideal) f L) y :=
  View.read_writes_cons_rows_of_not_mem (W := 128) (View.whole cc0_scratch0) f inb_S136x3072_S128x3072_8_0 p L y rfl rfl (Or.inl h0)

theorem row_buf (f : (View.whole cc0_scratch0).ty.Contents (Elt Ideal)) (q : FVec Ideal S8x3072 .f32) (L : List (View.Piece (Elt Ideal) S136x3072 .f32))
    (y : S136x3072.Idx) (u : Fin 8) (col : Fin 3072) (h0 : (y 0).val = 0 + u.val) (h1 : (y 1).val = col.val) :
    (View.whole cc0_scratch0).read (Elt Ideal) ((View.whole cc0_scratch0).writes (Elt Ideal) f (⟨Rect.unit ![0, 0] ![8, 3072] inb_S136x3072_S8x3072_0_0, q⟩ :: L)) y
    = q (ix2 u col) :=
  View.read_writes_cons_rows_of_mem (View.whole cc0_scratch0) f inb_S136x3072_S8x3072_0_0 q L y (ix2 u col) rfl h0 h1

theorem pay2_zero (c : Dev nD) (t : Fin cfg0.N) (u : Fin 8) (col : Fin 3072) : k0_pay2 (iblk m c 8 t) (ix2 u col) = (0 : EReal) := by
  pointwise [k0_pay2]
  exact buf_at m c t _

/-- The first eight rows as last stored. -/
theorem first8 (q : FVec Ideal S8x3072 .f32) (L : List (View.Piece (Elt Ideal) S136x3072 .f32)) (y : S136x3072.Idx) (u : Fin 8) (col : Fin 3072)
    (h0 : (y 0).val = u.val) (h1 : (y 1).val = col.val) :
    View.canon (Val := Elt Ideal) (⟨Rect.unit ![0, 0] ![8, 3072] inb_S136x3072_S8x3072_0_0, q⟩ :: L) y = q (ix2 u col) := by
  rw [show y = (Rect.unit (s := S136x3072) ![0, 0] ![8, 3072] inb_S136x3072_S8x3072_0_0).emb (ix2 u col) from funext fun a => Fin.ext (by
    match a with
    | ⟨0, _⟩ => refine h0.trans ?_; show u.val = 0 + 1 * u.val; omega
    | ⟨1, _⟩ => refine h1.trans ?_; show col.val = 0 + 1 * col.val; omega)]
  exact View.canon_cons_emb _ _ _ _

theorem pay5_eq (v : FVec Ideal S8x3072 .f32) (u : Fin 8) (col : Fin 3072) : k0_pay5 v (ix2 u col) = v (ix2 u col) := by
  pointwise [k0_pay5]

abbrev rows8 : Rect S136x3072 := Rect.unit ![128, 0] ![8, 3072] inb_S136x3072_S8x3072_128_0
abbrev rowsAt (r : ℕ) (inb : ∀ a : Fin 2, (![r, 0] : Fin 2 → ℕ) a + (![128, 3072] : Fin 2 → ℕ) a ≤ S136x3072.size a) : Rect S136x3072 := Rect.unit ![r, 0] ![128, 3072] inb

theorem cov_read (L : List (View.Piece (Elt Ideal) S136x3072 .f32)) (B : LoadRect S136x3072) (j : B.shape.Idx) :
    (View.whole cc0_scratch0).readCov (Val := Elt Ideal) L B j
    = (View.whole cc0_scratch0).read (Elt Ideal) ((View.whole cc0_scratch0).writes (Elt Ideal) (View.whole cc0_scratch0).junk L) (B.idx j) := rfl

/-- Rows 128 to 135 after the chunk's own rows have been stored. -/
theorem cov8 (p : FVec Ideal S128x3072 .f32) (L : List (View.Piece (Elt Ideal) S136x3072 .f32)) (u : Fin 8) (col : Fin 3072) :
    (View.whole cc0_scratch0).readCov (Val := Elt Ideal) (⟨Rect.unit ![8, 0] ![128, 3072] inb_S136x3072_S128x3072_8_0, p⟩ :: L) rows8.toLoadRect (ix2 u col) = p (ix2 ⟨120 + u.val, by omega⟩ col) := by
  refine (cov_read _ rows8.toLoadRect _).trans ?_
  refine row_own _ _ _ _ ⟨120 + u.val, by omega⟩ col ?_ ?_
  · show 128 + 1 * u.val = 8 + (120 + u.val); omega
  · show 0 + 1 * col.val = col.val; omega

theorem tail_eq (p : FVec Ideal S128x3072 .f32) (L : List (View.Piece (Elt Ideal) S136x3072 .f32)) (L' : List (View.Piece (Elt Ideal) S136x3072 .f32))
    (y : S136x3072.Idx) (u : Fin 8) (col : Fin 3072) (h0 : (y 0).val = u.val) (h1 : (y 1).val = col.val) :
    View.canon (Val := Elt Ideal) (⟨Rect.unit ![0, 0] ![8, 3072] inb_S136x3072_S8x3072_0_0, k0_pay5 ((View.whole cc0_scratch0).readCov (Val := Elt Ideal) (⟨Rect.unit ![8, 0] ![128, 3072] inb_S136x3072_S128x3072_8_0, p⟩ :: L)
      rows8.toLoadRect)⟩ :: L') y = p (ix2 ⟨120 + u.val, by omega⟩ col) :=
  (first8 _ _ y u col h0 h1).trans ((pay5_eq _ u col).trans (cov8 p L u col))
set_option maxHeartbeats 1000000 in
/-- What a chunk leaves for the next one: its last eight rows first. -/
theorem tail_at (c : Dev nD) (t : Fin cfg0.N) (y : S136x3072.Idx) (u : Fin 8) (col : Fin 3072) (h0 : (y 0).val = u.val) (h1 : (y 1).val = col.val) :
    (outsAt0 m c t.val t.isLt).2.2 y = own m c t (ix2 ⟨120 + u.val, by omega⟩ col) := by
  by_cases h : t.val % 16 = 0
  · rw [outsAt0_A m c t h]
    frame_open
    simp (disch := decide) only [↓ View.readCov_skip, ↓ View.readCov_cons_toLoadRect, ↓ View.readCov_fill]
    frame_out
    exact tail_eq _ _ _ y u col h0 h1
  · rw [outsAt0_B m c t h]
    frame_open
    simp (disch := decide) only [↓ View.readCov_skip, ↓ View.readCov_cons_toLoadRect, ↓ View.readCov_fill]
    frame_out
    exact tail_eq _ _ _ y u col h0 h1

theorem ext_own (c : Dev nD) (t : Fin cfg0.N) (u : Fin 131) (col : Fin 3072) (i : Fin 128) (h : u.val = i.val + 3) :
    extK m c t u col = own m c t (ix2 i col) := by
  rw [own_at, extK, if_neg (by omega)]
  exact congrArg (m _) (congrArg (fun r => ix2 r _) (Fin.ext (by dsimp only; omega)))

/-- Rows read by the convolution inside a sequence. -/
theorem e_B (c : Dev nD) (t : Fin cfg0.N) (h : ¬ t.val % 16 = 0) (r : ℕ) (hr : 5 ≤ r ∧ r ≤ 7) (inb) (i : Fin 128) (col : Fin 3072) (hlt) (f) (hf : f = (View.whole cc0_scratch0).read (Elt Ideal) ((View.whole cc0_scratch0).writes (Elt Ideal) ((Memref.isWhole_whole cc0_scratch0).unread (outsAt0 m c (t.val - 1) hlt).2.2) [⟨Rect.unit ![8, 0] ![128, 3072] inb_S136x3072_S128x3072_8_0, own m c t⟩])) :
    View.ld f (Rect.unit ![r, 0] ![128, 3072] inb) (ix2 i col) = extK m c t ⟨i.val + r - 5, by omega⟩ col := by
  have ht := t_lt t
  subst hf
  by_cases hi : 8 ≤ r + i.val
  · rw [ext_own m c t _ col ⟨r + i.val - 8, by omega⟩ (by dsimp only; omega)]
    refine row_own _ _ _ _ ⟨r + i.val - 8, by omega⟩ col ?_ ?_
    · show r + 1 * i.val = 8 + (r + i.val - 8); omega
    · show 0 + 1 * col.val = col.val; omega
  · refine (row_old _ _ _ _ ?_).trans ?_
    · show r + 1 * i.val < 8; omega
    refine (congrFun ((Memref.isWhole_whole cc0_scratch0).read_unread _) _).trans ?_
    refine (tail_at m c ⟨t.val - 1, hlt⟩ _ ⟨r + i.val, by omega⟩ col ?_ ?_).trans ?_
    · show r + 1 * i.val = r + i.val; omega
    · show 0 + 1 * col.val = col.val; omega
    · rw [own_at, extK, if_neg (fun hh => h hh.1)]
      exact congrArg (m _) (congrArg (fun r => ix2 r _) (Fin.ext (by dsimp only; omega)))

/-- Rows read by the convolution at a sequence's start. -/
theorem e_A (c : Dev nD) (t : Fin cfg0.N) (h : t.val % 16 = 0) (r : ℕ) (hr : 5 ≤ r ∧ r ≤ 7) (inb) (i : Fin 128) (col : Fin 3072) :
    (View.whole cc0_scratch0).readCov (Val := Elt Ideal) [⟨Rect.unit ![8, 0] ![128, 3072] inb_S136x3072_S128x3072_8_0, own m c t⟩,
      ⟨Rect.unit ![0, 0] ![8, 3072] inb_S136x3072_S8x3072_0_0, k0_pay2 (iblk m c 8 t)⟩] (rowsAt r inb).toLoadRect (ix2 i col)
    = extK m c t ⟨i.val + r - 5, by omega⟩ col := by
  by_cases hi : 8 ≤ r + i.val
  · rw [ext_own m c t _ col ⟨r + i.val - 8, by omega⟩ (by dsimp only; omega)]
    refine (cov_read _ (rowsAt r inb).toLoadRect _).trans ?_
    refine row_own _ _ _ _ ⟨r + i.val - 8, by omega⟩ col ?_ ?_
    · show r + 1 * i.val = 8 + (r + i.val - 8); omega
    · show 0 + 1 * col.val = col.val; omega
  · refine (cov_read _ (rowsAt r inb).toLoadRect _).trans ?_
    refine (row_old _ _ _ _ ?_).trans ?_
    · show r + 1 * i.val < 8; omega
    refine (row_buf _ _ _ _ ⟨r + i.val, by omega⟩ col ?_ ?_).trans ?_
    · show r + 1 * i.val = 0 + (r + i.val); omega
    · show 0 + 1 * col.val = col.val; omega
    · rw [extK, if_pos ⟨h, by dsimp only; omega⟩]
      exact pay2_zero m c t _ _

/-- The convolution at one row and column of the chunk, and what it becomes. -/
def zOf (cw : S4x3072.Idx → EReal) (cb : S3072.Idx → EReal) (e : Fin 131 → Fin 3072 → EReal) (i : Fin 128) (col : Fin 3072) : EReal :=
  cw (ix2 0 col) * e ⟨i.val, by omega⟩ col + cw (ix2 1 col) * e ⟨i.val + 1, by omega⟩ col
    + cw (ix2 2 col) * e ⟨i.val + 2, by omega⟩ col + cw (ix2 3 col) * e ⟨i.val + 3, by omega⟩ col + cb (ix1 col)

def zK (c : Dev nD) (t : Fin cfg0.N) (i : Fin 128) (col : Fin 3072) : EReal :=
  zOf (m ((c : Thread nD τ).loc main_arg2)) (m ((c : Thread nD τ).loc main_arg3)) (extK m c t) i col

def actK (c : Dev nD) (t : Fin cfg0.N) : FVec Ideal S128x3072 .f32 :=
  fun w : S128x3072.Idx => zK m c t (w 0) (w 1) * Ideal.logistic (zK m c t (w 0) (w 1))

theorem act_of (c : Dev nD) (t : Fin cfg0.N) (e5 e6 e7 : FVec Ideal S128x3072 .f32)
    (h5 : ∀ i col, e5 (ix2 i col) = extK m c t ⟨i.val + 5 - 5, by omega⟩ col) (h6 : ∀ i col, e6 (ix2 i col) = extK m c t ⟨i.val + 6 - 5, by omega⟩ col)
    (h7 : ∀ i col, e7 (ix2 i col) = extK m c t ⟨i.val + 7 - 5, by omega⟩ col) :
    actOf (iblk m c 2 t) (iblk m c 3 t) e5 e6 e7 (own m c t) = actK m c t := by
  funext w
  obtain ⟨i, col, rfl⟩ : ∃ (i : Fin 128) (col : Fin 3072), w = ix2 i col := ⟨w 0, w 1, funext fun a => by match a with | ⟨0, _⟩ => rfl | ⟨1, _⟩ => rfl⟩
  refine k_act _ _ _ _ _ _ i col (zK m c t i col) ?_
  rw [cw_at, cw_at, cw_at, cw_at, cb_at, h5, h6, h7, ← ext_own m c t ⟨i.val + 3, by omega⟩ col i rfl]
  rfl

/-- The state a chunk starts from: zeros at a sequence's start, else what the chunk before left. -/
def HK (c : Dev nD) (t : Fin cfg0.N) : Vec Ideal S1x2048x128 .f32 :=
  if h : t.val % 16 = 0 then k0_pay1 (iblk m c 9 t) else (outsAt0 m c (t.val - 1) (Nat.lt_of_le_of_lt (Nat.sub_le _ _) t.isLt)).2.1

def dtK (c : Dev nD) (t : Fin cfg0.N) : FVec Ideal S128x128 .f32 := k0_pay7 (X0_1 m c t) (iblk m c 4 t)
def dK (c : Dev nD) (t : Fin cfg0.N) : FVec Ideal S128x128 .f32 := k0_pay8 (X0_1 m c t) (iblk m c 4 t) (iblk m c 5 t)
def acK (c : Dev nD) (t : Fin cfg0.N) : FVec Ideal S128x128 .f32 := k0_pay12 (dK m c t) k0_pay10 (k0_pay11 (X0_1 m c t) (iblk m c 4 t) (iblk m c 5 t))
def acTK (c : Dev nD) (t : Fin cfg0.N) : FVec Ideal S128x128 .f32 := k0_pay13 (dK m c t) k0_pay10 (k0_pay11 (X0_1 m c t) (iblk m c 4 t) (iblk m c 5 t))
def dtTK (c : Dev nD) (t : Fin cfg0.N) : FVec Ideal S128x128 .f32 := k0_pay14 (dtK m c t)
def teK (c : Dev nD) (t : Fin cfg0.N) : FVec Ideal S128x128 .f32 := k0_pay15 (dtK m c t) (dK m c t) k0_pay10 (k0_pay11 (X0_1 m c t) (iblk m c 4 t) (iblk m c 5 t))
def eaK (c : Dev nD) (t : Fin cfg0.N) : FVec Ideal S128x128 .f32 := k0_pay16 (dK m c t) k0_pay10 (k0_pay11 (X0_1 m c t) (iblk m c 4 t) (iblk m c 5 t))
def cdK (c : Dev nD) (t : Fin cfg0.N) : FVec Ideal S128x1 .f32 := k0_pay17 (dK m c t) k0_pay10 (k0_pay11 (X0_1 m c t) (iblk m c 4 t) (iblk m c 5 t))

end Cert.Layer.Ssd
end
end
-- ==== Proof.Layer.SsdState.lean ====
/- The reference's states: the recursion from one chunk to the next. -/
module

public import proofs.«01_k».proof.Proof.Gen.SsdRefIdeal.Read
public import Idealize.ShloMosaic.Lib.Pipeline.ValueKit

@[expose] public section

set_option maxRecDepth 16384

noncomputable section

open Idealize.ShloMosaic Idealize.ShloMosaic.TcCoe Idealize.SL.Sem

namespace Cert.Layer.SsdRef

open Cert.SsdRefIdeal Cert.SsdRefIdeal.Read

variable (x0 : (⟨S8256x5120, .f32⟩ : BufTy).Contents (Elt Ideal)) (x1 : (⟨S8256x128, .f32⟩ : BufTy).Contents (Elt Ideal))
  (x2 : (⟨S4x3072, .f32⟩ : BufTy).Contents (Elt Ideal)) (x3 : (⟨S3072, .f32⟩ : BufTy).Contents (Elt Ideal))
  (x4 x5 : (⟨S32, .f32⟩ : BufTy).Contents (Elt Ideal))

/-- The states before the first chunk, before the second, … and after the last. -/
def hs : Fin 17 → (⟨S4x32x64x128, .f32⟩ : BufTy).Contents (Elt Ideal) :=
  ![val_main_v92, val_main_v100 x0 x1 x2 x3 x4 x5, val_main_v108 x0 x1 x2 x3 x4 x5, val_main_v116 x0 x1 x2 x3 x4 x5,
    val_main_v124 x0 x1 x2 x3 x4 x5, val_main_v132 x0 x1 x2 x3 x4 x5, val_main_v140 x0 x1 x2 x3 x4 x5, val_main_v148 x0 x1 x2 x3 x4 x5,
    val_main_v156 x0 x1 x2 x3 x4 x5, val_main_v164 x0 x1 x2 x3 x4 x5, val_main_v172 x0 x1 x2 x3 x4 x5, val_main_v180 x0 x1 x2 x3 x4 x5,
    val_main_v188 x0 x1 x2 x3 x4 x5, val_main_v196 x0 x1 x2 x3 x4 x5, val_main_v204 x0 x1 x2 x3 x4 x5, val_main_v212 x0 x1 x2 x3 x4 x5,
    val_main_v220 x0 x1 x2 x3 x4 x5]

theorem hs_zero (w : S4x32x64x128.Idx) : hs x0 x1 x2 x3 x4 x5 0 w = (0 : EReal) := by
  show val_main_v92 (F := Ideal) w = 0
  simp only [val_main_v92_apply, val_main_cst_1_apply]
  exact Ideal.ofBits_zero_f32

set_option maxHeartbeats 1000000 in
theorem hs_succ (c : Fin 16) (b : Fin 4) (hd : Fin 32) (p : Fin 64) (n : Fin 128) :
    hs x0 x1 x2 x3 x4 x5 c.succ (ix4 b hd p n)
    = hs x0 x1 x2 x3 x4 x5 c.castSucc (ix4 b hd p n) * val_main_v91 x1 x4 x5 (ix3 b c hd) + val_main_v88 x0 x1 x2 x3 x4 x5 (ix5 b c hd p n) := by
  have e1 : c.succ = Fin.ofNat 17 (c.val + 1) := Fin.ext (by have := c.isLt; simp; omega)
  have e2 : c.castSucc = Fin.ofNat 17 c.val := Fin.ext (by have := c.isLt; simp)
  rw [e1, e2]
  fin_vals c with hc
  all_goals
    rw [hc]
    simp only [hs, Nat.reduceAdd, Fin.reduceOfNat, Fin.isValue, Matrix.cons_val]
    first | rw [val_main_v220_apply] | rw [val_main_v212_apply] | rw [val_main_v204_apply] | rw [val_main_v196_apply] | rw [val_main_v188_apply] | rw [val_main_v180_apply] | rw [val_main_v172_apply] | rw [val_main_v164_apply] | rw [val_main_v156_apply] | rw [val_main_v148_apply] | rw [val_main_v140_apply] | rw [val_main_v132_apply] | rw [val_main_v124_apply] | rw [val_main_v116_apply] | rw [val_main_v108_apply] | rw [val_main_v100_apply]
    first | rw [val_main_v217_apply] | rw [val_main_v209_apply] | rw [val_main_v201_apply] | rw [val_main_v193_apply] | rw [val_main_v185_apply] | rw [val_main_v177_apply] | rw [val_main_v169_apply] | rw [val_main_v161_apply] | rw [val_main_v153_apply] | rw [val_main_v145_apply] | rw [val_main_v137_apply] | rw [val_main_v129_apply] | rw [val_main_v121_apply] | rw [val_main_v113_apply] | rw [val_main_v105_apply] | rw [val_main_v97_apply]
    simp only [val_main_v96_apply, val_main_v104_apply, val_main_v112_apply, val_main_v120_apply, val_main_v128_apply, val_main_v136_apply, val_main_v144_apply, val_main_v152_apply, val_main_v160_apply, val_main_v168_apply, val_main_v176_apply, val_main_v184_apply, val_main_v192_apply, val_main_v200_apply, val_main_v208_apply, val_main_v216_apply,
      val_main_v95_apply, val_main_v103_apply, val_main_v111_apply, val_main_v119_apply, val_main_v127_apply, val_main_v135_apply, val_main_v143_apply, val_main_v151_apply, val_main_v159_apply, val_main_v167_apply, val_main_v175_apply, val_main_v183_apply, val_main_v191_apply, val_main_v199_apply, val_main_v207_apply, val_main_v215_apply,
      val_main_v94_apply, val_main_v102_apply, val_main_v110_apply, val_main_v118_apply, val_main_v126_apply, val_main_v134_apply, val_main_v142_apply, val_main_v150_apply, val_main_v158_apply, val_main_v166_apply, val_main_v174_apply, val_main_v182_apply, val_main_v190_apply, val_main_v198_apply, val_main_v206_apply, val_main_v214_apply,
      val_main_v93_apply, val_main_v101_apply, val_main_v109_apply, val_main_v117_apply, val_main_v125_apply, val_main_v133_apply, val_main_v141_apply, val_main_v149_apply, val_main_v157_apply, val_main_v165_apply, val_main_v173_apply, val_main_v181_apply, val_main_v189_apply, val_main_v197_apply, val_main_v205_apply, val_main_v213_apply,
      val_main_v98_apply, val_main_v106_apply, val_main_v114_apply, val_main_v122_apply, val_main_v130_apply, val_main_v138_apply, val_main_v146_apply, val_main_v154_apply, val_main_v162_apply, val_main_v170_apply, val_main_v178_apply, val_main_v186_apply, val_main_v194_apply, val_main_v202_apply, val_main_v210_apply, val_main_v218_apply,
      val_main_v99_apply, val_main_v107_apply, val_main_v115_apply, val_main_v123_apply, val_main_v131_apply, val_main_v139_apply, val_main_v147_apply, val_main_v155_apply, val_main_v163_apply, val_main_v171_apply, val_main_v179_apply, val_main_v187_apply, val_main_v195_apply, val_main_v203_apply, val_main_v211_apply, val_main_v219_apply]
    refine congrArg₂ (fun a b : EReal => a + b) (congrArg₂ (fun a b : EReal => a * b) rfl ?_) ?_
    · blk_ext [hc]
    · blk_ext [hc]

theorem eq_ix4 {a : S4x32x64x128.Idx} {b : Fin 4} {hd : Fin 32} {p : Fin 64} {n : Fin 128} (h0 : a 0 = b) (h1 : a 1 = hd) (h2 : a 2 = p) (h3 : a 3 = n) :
    a = ix4 b hd p n := by
  subst h0 h1 h2 h3
  funext k
  match k with
  | ⟨0, _⟩ => rfl
  | ⟨1, _⟩ => rfl
  | ⟨2, _⟩ => rfl
  | ⟨3, _⟩ => rfl

set_option maxHeartbeats 1000000 in
theorem stack_apply (b : Fin 4) (c : Fin 16) (hd : Fin 32) (p : Fin 64) (n : Fin 128) :
    val_main_v237 x0 x1 x2 x3 x4 x5 (ix5 b c hd p n) = hs x0 x1 x2 x3 x4 x5 c.castSucc (ix4 b hd p n) := by
  rw [val_main_v237]
  have hc : c.castSucc = Fin.ofNat 17 c.val := Fin.ext (by have := c.isLt; simp)
  concat_tiles z h
  all_goals
    change c.val = _ at h
    simp only [val_main_v221_apply, val_main_v222_apply, val_main_v223_apply, val_main_v224_apply, val_main_v225_apply, val_main_v226_apply, val_main_v227_apply, val_main_v228_apply, val_main_v229_apply, val_main_v230_apply, val_main_v231_apply, val_main_v232_apply, val_main_v233_apply, val_main_v234_apply, val_main_v235_apply, val_main_v236_apply]
    rw [hc, h]
    simp only [hs, Fin.reduceOfNat, Fin.isValue, Matrix.cons_val]
    refine congrArg _ ?_
    exact eq_ix4 (Fin.ext h0) (Fin.ext h2) (Fin.ext h3) (Fin.ext h4)

end Cert.Layer.SsdRef
end
end
-- ==== Proof.Layer.SsdParts.lean ====
/- The reference's chunk terms, element by element. -/
module

public import proofs.«01_k».proof.Proof.Gen.SsdRefIdeal.Read
public import proofs.«01_k».proof.Proof.Layer.SsdBase
public import Idealize.ShloMosaic.Lib.Pipeline.ValueKit
public import Idealize.ShloMosaic.Lib.Pipeline.ReadBack
public import Idealize.ShloMosaic.Lib.WordCmp

@[expose] public section

set_option maxRecDepth 16384

noncomputable section

open Idealize.ShloMosaic Idealize.ShloMosaic.TcCoe Idealize.SL.Sem

namespace Cert.Layer.SsdRef

open Cert.SsdRefIdeal Cert.SsdRefIdeal.Read

variable (x0 : (⟨S8256x5120, .f32⟩ : BufTy).Contents (Elt Ideal)) (x1 : (⟨S8256x128, .f32⟩ : BufTy).Contents (Elt Ideal))
  (x2 : (⟨S4x3072, .f32⟩ : BufTy).Contents (Elt Ideal)) (x3 : (⟨S3072, .f32⟩ : BufTy).Contents (Elt Ideal))
  (x4 x5 x6 : (⟨S32, .f32⟩ : BufTy).Contents (Elt Ideal))

theorem decay_at (b : Fin 4) (c : Fin 16) (hd : Fin 32) :
    val_main_v91 x1 x4 x5 (ix3 b c hd) = Ideal.exp (val_main_v61 x1 x4 x5 (ix4 b c 127 hd)) := by
  simp only [val_main_v91_apply, val_main_v90_apply, val_main_v89_apply]
  refine congrArg Ideal.exp ?_
  blk_ext []

theorem bmat_at (b : Fin 4) (c : Fin 16) (s : Fin 128) (hd : Fin 32) (n : Fin 128) :
    val_main_v45 x0 x2 x3 (ix5 b c s hd n)
    = val_main_v38 x0 x2 x3 (ix3 b ⟨128 * c.val + s.val, by omega⟩ ⟨2048 + 128 * (hd.val / 8) + n.val, by omega⟩) := by
  have h : val_main_v45 x0 x2 x3 (ix5 b c s hd n) = val_main_v44 x0 x2 x3 (ix4 b ⟨128 * c.val + s.val, by omega⟩ hd n) := by
    rw [val_main_v45_apply]
    blk_ext []
  rw [h]
  generalize (⟨128 * c.val + s.val, _⟩ : Fin 2048) = r
  have h2 : val_main_v44 x0 x2 x3 (ix4 b r hd n) = val_main_v42 x0 x2 x3 (ix4 b r ⟨hd.val / 8, by omega⟩ n) := by
    rw [val_main_v44_apply, val_main_v43_apply]
    blk_ext []
  rw [h2, val_main_v42_apply, val_main_v41_apply]
  blk_ext []

theorem cmat_at (b : Fin 4) (c : Fin 16) (s : Fin 128) (hd : Fin 32) (n : Fin 128) :
    val_main_v50 x0 x2 x3 (ix5 b c s hd n)
    = val_main_v38 x0 x2 x3 (ix3 b ⟨128 * c.val + s.val, by omega⟩ ⟨2560 + 128 * (hd.val / 8) + n.val, by omega⟩) := by
  have h : val_main_v50 x0 x2 x3 (ix5 b c s hd n) = val_main_v49 x0 x2 x3 (ix4 b ⟨128 * c.val + s.val, by omega⟩ hd n) := by
    rw [val_main_v50_apply]
    blk_ext []
  rw [h]
  generalize (⟨128 * c.val + s.val, _⟩ : Fin 2048) = r
  have h2 : val_main_v49 x0 x2 x3 (ix4 b r hd n) = val_main_v47 x0 x2 x3 (ix4 b r ⟨hd.val / 8, by omega⟩ n) := by
    rw [val_main_v49_apply, val_main_v48_apply]
    blk_ext []
  rw [h2, val_main_v47_apply, val_main_v46_apply]
  blk_ext []

theorem states_at (b : Fin 4) (c : Fin 16) (hd : Fin 32) (p : Fin 64) (n : Fin 128) :
    val_main_v88 x0 x1 x2 x3 x4 x5 (ix5 b c hd p n)
    = ∑ s : Fin 128, Ideal.exp (val_main_v61 x1 x4 x5 (ix4 b c 127 hd) - val_main_v61 x1 x4 x5 (ix4 b c s hd))
        * val_main_v54 x1 x4 (ix3 b ⟨128 * c.val + s.val, by omega⟩ hd)
        * val_main_v38 x0 x2 x3 (ix3 b ⟨128 * c.val + s.val, by omega⟩ ⟨64 * hd.val + p.val, by omega⟩)
        * val_main_v38 x0 x2 x3 (ix3 b ⟨128 * c.val + s.val, by omega⟩ ⟨2048 + 128 * (hd.val / 8) + n.val, by omega⟩) := by
  rw [val_main_v88_apply]
  refine Finset.sum_congr rfl fun s _ => ?_
  simp only [val_main_v87_apply, val_main_v86_apply, val_main_v85_apply, val_main_v84_apply, val_main_v83_apply, val_main_v82_apply, val_main_v81_apply,
    val_main_v80_apply, val_main_v57_apply, val_main_v40_apply, val_main_v39_apply, ← bmat_at x0 x2 x3 b c, ← cmat_at x0 x2 x3 b c]
  refine congrArg₂ (fun a b : EReal => a * b) (congrArg₂ (fun a b : EReal => a * b) (congrArg₂ (fun a b : EReal => a * b) ?_ ?_) ?_) ?_
  · refine congrArg Ideal.exp (congrArg₂ (fun a b : EReal => a - b) ?_ ?_)
    · blk_ext []
    · blk_ext []
  · blk_ext []
  · blk_ext []
  · blk_ext []

theorem mask_at (i s : Fin 128) (b : Fin 4) (c : Fin 16) (hd : Fin 32) :
    val_main_v71 x1 x4 x5 (ix5 b c i s hd) = if s.val ≤ i.val then Ideal.exp (val_main_v61 x1 x4 x5 (ix4 b c i hd) - val_main_v61 x1 x4 x5 (ix4 b c s hd)) else (0 : EReal) := by
  simp only [val_main_v71_apply, val_main_v70_apply, val_main_call4_v1_apply, val_main_v69_apply, val_main_v68_apply, val_main_call3_v4_apply, val_main_call3_v2_apply,
    val_main_call3_v0_apply, val_main_call3_v1_apply, val_main_call3_v3_apply, val_main_call3_c_apply, val_main_v67_apply, val_main_c_apply, val_main_call3_v5_apply, val_main_call3_c_0_apply,
    val_main_call4_v2_apply, val_main_call4_v0_apply, val_main_cst_0_apply, val_main_v66_apply, val_main_v64_apply, val_main_v65_apply, val_main_v62_apply, val_main_v63_apply]
  rw [show IntOp.addi (BitVec.ofNat 32 (ix5 b c i s hd 2).val) 0#32 = BitVec.ofNat 32 i.val from BitVec.add_zero _,
    show (ix5 b c i s hd 3).val = s.val from rfl]
  have hi := i.isLt
  have hs := s.isLt
  have hb : Ideal.ofBits FTy.f32 4286578688#32 = (⊥ : EReal) := by
    simp [Ideal.ofBits, Ideal.ieee]
  word_cmp
  rw [show (FloatOps.ofBits FTy.f32 4286578688#32 : Ideal FTy.f32) = (⊥ : EReal) from hb]
  by_cases h : s.val ≤ i.val
  · simp only [h, if_true]
    refine congrArg Ideal.exp (congrArg₂ (fun a b : EReal => a - b) ?_ ?_)
    · blk_ext []
    · blk_ext []
  · simp only [h, if_false]
    exact Ideal.exp_bot

theorem diag_at (b : Fin 4) (c : Fin 16) (i : Fin 128) (hd : Fin 32) (p : Fin 64) :
    val_main_v79 x0 x1 x2 x3 x4 x5 (ix5 b c i hd p)
    = ∑ s : Fin 128, val_main_v38 x0 x2 x3 (ix3 b ⟨128 * c.val + s.val, by omega⟩ ⟨64 * hd.val + p.val, by omega⟩)
        * ((∑ n : Fin 128, val_main_v38 x0 x2 x3 (ix3 b ⟨128 * c.val + s.val, by omega⟩ ⟨2048 + 128 * (hd.val / 8) + n.val, by omega⟩)
              * val_main_v38 x0 x2 x3 (ix3 b ⟨128 * c.val + i.val, by omega⟩ ⟨2560 + 128 * (hd.val / 8) + n.val, by omega⟩))
            * val_main_v71 x1 x4 x5 (ix5 b c i s hd) * val_main_v54 x1 x4 (ix3 b ⟨128 * c.val + s.val, by omega⟩ hd)) := by
  rw [val_main_v79_apply, val_main_v78_apply]
  refine Finset.sum_congr rfl fun s _ => ?_
  simp only [val_main_v77_apply, val_main_v76_apply, val_main_v75_apply, val_main_v74_apply, val_main_v73_apply, val_main_v72_apply,
    val_main_v57_apply, val_main_v40_apply, val_main_v39_apply, ← bmat_at x0 x2 x3 b c, ← cmat_at x0 x2 x3 b c]
  refine congrArg₂ (fun a b : EReal => a * b) ?_ (congrArg₂ (fun a b : EReal => a * b) (congrArg₂ (fun a b : EReal => a * b)
    (Finset.sum_congr rfl fun n _ => congrArg₂ (fun a b : EReal => a * b) ?_ ?_) ?_) ?_)
  all_goals blk_ext []

theorem off_at (b : Fin 4) (c : Fin 16) (i : Fin 128) (hd : Fin 32) (p : Fin 64) :
    val_main_v243 x0 x1 x2 x3 x4 x5 (ix5 b c i hd p)
    = (∑ n : Fin 128, val_main_v237 x0 x1 x2 x3 x4 x5 (ix5 b c hd p n)
        * val_main_v38 x0 x2 x3 (ix3 b ⟨128 * c.val + i.val, by omega⟩ ⟨2560 + 128 * (hd.val / 8) + n.val, by omega⟩))
      * Ideal.exp (val_main_v61 x1 x4 x5 (ix4 b c i hd)) := by
  simp only [val_main_v243_apply, val_main_v239_apply, val_main_v238_apply, val_main_v242_apply, val_main_v241_apply, val_main_v240_apply, ← cmat_at x0 x2 x3 b c]
  refine congrArg₂ (fun a b : EReal => a * b) (Finset.sum_congr rfl fun n _ => congrArg₂ (fun a b : EReal => a * b) ?_ ?_) (congrArg Ideal.exp ?_)
  all_goals blk_ext []

/-- The gated row before the normalisation. -/
theorem gated_at (b : Fin 4) (c : Fin 16) (i : Fin 128) (r : Fin 2048) (hr : r.val = 128 * c.val + i.val) (hd : Fin 32) (p : Fin 64) (j : Fin 2048) (hj : j.val = 64 * hd.val + p.val) :
    val_main_v255 x0 x1 x2 x3 x4 x5 x6 (ix3 b r j)
    = (val_main_v79 x0 x1 x2 x3 x4 x5 (ix5 b c i hd p) + val_main_v243 x0 x1 x2 x3 x4 x5 (ix5 b c i hd p)
        + x6 (ix1 hd) * val_main_v38 x0 x2 x3 (ix3 b r ⟨j.val, by omega⟩))
      * (x0 (ix2 ⟨2048 * b.val + r.val, by omega⟩ ⟨j.val, by omega⟩) * Ideal.logistic (x0 (ix2 ⟨2048 * b.val + r.val, by omega⟩ ⟨j.val, by omega⟩))) := by
  simp only [val_main_v255_apply, val_main_v254_apply, val_main_v253_apply, val_main_v252_apply, val_main_v251_apply, val_main_v250_apply, val_main_v249_apply,
    val_main_v248_apply, val_main_v247_apply, val_main_v246_apply, val_main_v245_apply, val_main_v244_apply, val_main_v2_apply, val_main_v1_apply, val_main_v0_apply,
    val_main_call5_v5_apply, val_main_call5_v4_apply, val_main_call5_v3_apply, val_main_call5_v2_apply, val_main_call5_v1_apply, val_main_call5_v0_apply,
    val_main_call5_cst_apply, val_main_call5_cst_0_apply]
  refine congrArg₂ (fun a b : EReal => a * b) (congrArg₂ (fun a b : EReal => a + b) (congrArg₂ (fun a b : EReal => a + b) ?_ ?_)
    (congrArg₂ (fun a b : EReal => a * b) ?_ ?_)) (congrArg₂ (fun a b : EReal => a * b) ?_ ((logistic_at _).trans (congrArg Ideal.logistic ?_)))
  all_goals blk_ext []

end Cert.Layer.SsdRef
end
end
-- ==== Proof.Layer.SsdRows.lean ====
/- The reference's convolved rows, step sizes, norm and last state, element by element. -/
module

public import proofs.«01_k».proof.Proof.Gen.SsdRefIdeal.Read
public import proofs.«01_k».proof.Proof.Layer.SsdBase
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.Layer.SsdRef

open Cert.SsdRefIdeal Cert.SsdRefIdeal.Read

variable (x0 : (⟨S8256x5120, .f32⟩ : BufTy).Contents (Elt Ideal)) (x1 : (⟨S8256x128, .f32⟩ : BufTy).Contents (Elt Ideal))
  (x2 : (⟨S4x3072, .f32⟩ : BufTy).Contents (Elt Ideal)) (x3 : (⟨S3072, .f32⟩ : BufTy).Contents (Elt Ideal))
  (x4 x5 x6 : (⟨S32, .f32⟩ : BufTy).Contents (Elt Ideal)) (x7 : (⟨S2048, .f32⟩ : BufTy).Contents (Elt Ideal))

theorem ext_low (b : Fin 4) (u : Fin 2051) (col : Fin 3072) (h : u.val < 3) : val_main_v7 x0 (ix3 b u col) = (0 : EReal) := by
  rw [val_main_v7]
  refine (concatenate_pair_apply_left (t := S4x2051x3072) (s₁ := S4x3x3072) (s₂ := S4x2048x3072) 1 (val_main_v6 (F := Ideal)) (val_main_v3 (F := Ideal) x0) _ (ix3 b u col) rfl (ix3 b ⟨u.val, h⟩ col) (fun a => ?_)).trans ?_
  · match a with
    | ⟨0, _⟩ => rfl
    | ⟨1, _⟩ => rfl
    | ⟨2, _⟩ => rfl
  · simp only [val_main_v6_apply, val_main_cst_apply]
    exact Ideal.ofBits_zero_f32

theorem ext_high (b : Fin 4) (u : Fin 2051) (col : Fin 3072) (r : Fin 2048) (h : u.val = r.val + 3) :
    val_main_v7 x0 (ix3 b u col) = x0 (ix2 ⟨2048 * b.val + r.val, by omega⟩ ⟨2048 + col.val, by omega⟩) := by
  rw [val_main_v7]
  refine (concatenate_pair_apply_right (t := S4x2051x3072) (s₁ := S4x3x3072) (s₂ := S4x2048x3072) 1 (val_main_v6 (F := Ideal)) (val_main_v3 (F := Ideal) x0) _ (ix3 b u col) rfl rfl (ix3 b r col) (fun a ha => ?_) ?_).trans ?_
  · match a, ha with
    | ⟨0, _⟩, _ => rfl
    | ⟨1, _⟩, ha => exact absurd rfl ha
    | ⟨2, _⟩, _ => rfl
  · show r.val + 3 = u.val
    exact h.symm
  · simp only [val_main_v3_apply, val_main_v2_apply, val_main_v1_apply, val_main_v0_apply]
    blk_ext []

theorem conv_at (b : Fin 4) (r : Fin 2048) (col : Fin 3072) :
    val_main_v37 x0 x2 x3 (ix3 b r col)
    = x2 (ix2 0 col) * val_main_v7 x0 (ix3 b ⟨r.val, by omega⟩ col) + x2 (ix2 1 col) * val_main_v7 x0 (ix3 b ⟨1 + r.val, by omega⟩ col)
      + x2 (ix2 2 col) * val_main_v7 x0 (ix3 b ⟨2 + r.val, by omega⟩ col) + x2 (ix2 3 col) * val_main_v7 x0 (ix3 b ⟨3 + r.val, by omega⟩ col) + x3 (ix1 col) := by
  simp only [val_main_v37_apply, val_main_v36_apply, val_main_v35_apply, val_main_v34_apply, val_main_v33_apply, val_main_v32_apply, val_main_v31_apply, val_main_v30_apply, val_main_v29_apply, val_main_v28_apply, val_main_v27_apply, val_main_v26_apply, val_main_v25_apply, val_main_v24_apply, val_main_v23_apply, val_main_v22_apply, val_main_v21_apply, val_main_v20_apply, val_main_v19_apply, val_main_v18_apply, val_main_v17_apply, val_main_v16_apply, val_main_v15_apply, val_main_v14_apply, val_main_v13_apply, val_main_v12_apply, val_main_v11_apply, val_main_v10_apply, val_main_v9_apply, val_main_v8_apply]
  refine congrArg₂ (fun a b : EReal => a + b) (congrArg₂ (fun a b : EReal => a + b) (congrArg₂ (fun a b : EReal => a + b) (congrArg₂ (fun a b : EReal => a + b) ?_ ?_) ?_) ?_) ?_
  rotate_right
  · blk_ext []
  all_goals refine congrArg₂ (fun a b : EReal => a * b) ?_ ?_
  all_goals blk_ext []

theorem act_at (w : S4x2048x3072.Idx) :
    val_main_v38 x0 x2 x3 w = val_main_v37 x0 x2 x3 w * Ideal.logistic (val_main_v37 x0 x2 x3 w) := by
  simp only [val_main_v38_apply, val_main_call0_v5_apply, val_main_call0_v4_apply, val_main_call0_v3_apply, val_main_call0_v2_apply, val_main_call0_v1_apply, val_main_call0_v0_apply,
    val_main_call0_cst_apply, val_main_call0_cst_0_apply]
  exact congrArg₂ (fun a b : EReal => a * b) rfl (logistic_at _)

theorem dt_at (b : Fin 4) (r : Fin 2048) (hd : Fin 32) :
    val_main_v54 x1 x4 (ix3 b r hd) = sp (x1 (ix2 ⟨2048 * b.val + r.val, by omega⟩ ⟨hd.val, by omega⟩) + x4 (ix1 hd)) := by
  have h : val_main_v53 x1 x4 (ix3 b r hd) = x1 (ix2 ⟨2048 * b.val + r.val, by omega⟩ ⟨hd.val, by omega⟩) + x4 (ix1 hd) := by
    simp only [val_main_v53_apply, val_main_v52_apply, val_main_v51_apply, val_main_v5_apply, val_main_v4_apply]
    refine congrArg₂ (fun a b : EReal => a + b) ?_ ?_
    all_goals blk_ext []
  simp only [val_main_v54_apply, val_main_call1_v11_apply, val_main_call1_v10_apply, val_main_call1_v9_apply, val_main_call1_v8_apply, val_main_call1_v7_apply, val_main_call1_v6_apply,
    val_main_call1_v5_apply, val_main_call1_v4_apply, val_main_call1_v3_apply, val_main_call1_v2_apply, val_main_call1_v1_apply, val_main_call1_v0_apply, val_main_call1_cst_apply, h]
  generalize (x1 _ + x4 _ : EReal) = x
  pointwise [sp]
  rw [if_neg (fun h => h rfl)]

theorem norm_at (b : Fin 4) (r : Fin 2048) (j : Fin 2048) (w : S8192x2048.Idx) (h0 : (w 0).val = 2048 * b.val + r.val) (h1 : (w 1).val = j.val) :
    val_main_v272 x0 x1 x2 x3 x4 x5 x6 x7 w
    = val_main_v255 x0 x1 x2 x3 x4 x5 x6 (ix3 b r j)
      * Ideal.rsqrt (Ideal.div (∑ k : Fin 512, val_main_v255 x0 x1 x2 x3 x4 x5 x6 (ix3 b r ⟨512 * (j.val / 512) + k.val, by omega⟩)
          * val_main_v255 x0 x1 x2 x3 x4 x5 x6 (ix3 b r ⟨512 * (j.val / 512) + k.val, by omega⟩)) (Ideal.ofBits FTy.f32 1140850688#32)
        + Ideal.ofBits FTy.f32 897988541#32) * x7 (ix1 j) := by
  have hw : val_main_v272 x0 x1 x2 x3 x4 x5 x6 x7 w = val_main_v270 x0 x1 x2 x3 x4 x5 x6 x7 (ix3 b r j) := by
    rw [val_main_v272_apply, val_main_v271_apply]
    refine congrArg (val_main_v270 x0 x1 x2 x3 x4 x5 x6 x7) ?_
    have hj := j.isLt
    have hr := r.isLt
    funext a
    match a with
    | ⟨0, _⟩ => exact Fin.ext (by show ((w 0).val * 2048 + (w 1).val) / 4194304 = b.val; omega)
    | ⟨1, _⟩ => exact Fin.ext (by show ((w 0).val * 2048 + (w 1).val) / 2048 % 2048 = r.val; omega)
    | ⟨2, _⟩ => exact Fin.ext (by show ((w 0).val * 2048 + (w 1).val) % 2048 = j.val; omega)
  rw [hw]
  simp only [val_main_v270_apply, val_main_v269_apply, val_main_v268_apply, val_main_v267_apply, val_main_v266_apply, val_main_v265_apply, val_main_v264_apply, val_main_v263_apply,
    val_main_v262_apply, val_main_v261_apply, val_main_v260_apply, val_main_v259_apply, val_main_v258_apply, val_main_v257_apply, val_main_v256_apply, val_main_cst_2_apply, val_main_cst_3_apply, val_main_cst_4_apply]
  refine congrArg₂ (fun a b : EReal => a * b) (congrArg₂ (fun a b : EReal => a * b) ?_ (congrArg Ideal.rsqrt
    (congrArg (fun a : EReal => Ideal.div a (Ideal.ofBits FTy.f32 1140850688#32) + Ideal.ofBits FTy.f32 897988541#32) ?_))) ?_
  · blk_ext []
  · refine (congrArg₂ (fun a b : EReal => a + b) Ideal.ofBits_zero_f32 rfl).trans ((zero_add _).trans ?_)
    refine Finset.sum_congr rfl fun k _ => congrArg (fun a : EReal => a * a) ?_
    blk_ext []
  · blk_ext []

theorem final_at (b : Fin 4) (j : Fin 2048) (n : Fin 128) :
    val_main_v273 x0 x1 x2 x3 x4 x5 (ix3 b j n) = val_main_v220 x0 x1 x2 x3 x4 x5 (ix4 b ⟨j.val / 64, by omega⟩ ⟨j.val % 64, by omega⟩ n) := by
  rw [val_main_v273_apply]
  blk_ext []

end Cert.Layer.SsdRef
end
end
-- ==== Proof.Layer.SsdCum.lean ====
/- The reference's running sum of the decays as a finite sum. -/
module

public import proofs.«01_k».proof.Proof.Gen.SsdRefIdeal.Read
public import proofs.«01_k».proof.Proof.Layer.SsdBase
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.Layer.SsdRef

open Cert.SsdRefIdeal Cert.SsdRefIdeal.Read

variable (x0 : (⟨S8256x5120, .f32⟩ : BufTy).Contents (Elt Ideal)) (x1 : (⟨S8256x128, .f32⟩ : BufTy).Contents (Elt Ideal))
  (x2 : (⟨S4x3072, .f32⟩ : BufTy).Contents (Elt Ideal)) (x3 : (⟨S3072, .f32⟩ : BufTy).Contents (Elt Ideal))
  (x4 x5 x6 : (⟨S32, .f32⟩ : BufTy).Contents (Elt Ideal)) (x7 : (⟨S2048, .f32⟩ : BufTy).Contents (Elt Ideal))

theorem step_at (b : Fin 4) (c : Fin 16) (s : Fin 128) (hd : Fin 32) :
    val_main_v60 x1 x4 x5 (ix4 b c s hd) = val_main_v54 x1 x4 (ix3 b ⟨128 * c.val + s.val, by omega⟩ hd) * -Ideal.exp (x5 (ix1 hd)) := by
  simp only [val_main_v60_apply, val_main_v59_apply, val_main_v58_apply, val_main_v57_apply, val_main_v56_apply, val_main_v55_apply]
  refine congrArg₂ (fun a b : EReal => a * b) ?_ (congrArg (fun a : EReal => -Ideal.exp a) ?_)
  all_goals blk_ext []

theorem foldl_window (N : ℕ) (g : EReal → Fin N → EReal) (h : ℕ → EReal) (hN : N = 128) (hg : ∀ r n, g r n = r + h n.val) :
    List.foldl g 0 (List.finRange N) = ∑ n : Fin 128, h n.val := by
  subst hN
  rw [show g = fun r n => r + h n.val from funext fun r => funext fun n => hg r n, foldl_sum, zero_add, ← Fin.sum_univ_def]

/-- One entry of a running sum's window: a position of the chunk, or nothing before its start. -/
theorem window_term (x : S4x16x128x32.Idx → EReal) (b : Fin 4) (c : Fin 16) (i : Fin 128) (hd : Fin 32) (k : (⟨4, ![1, 1, 128, 1]⟩ : Shape).Idx) (n : ℕ) (hn : n < 128)
    (h0 : (k 0).val = 0) (h1 : (k 1).val = 0) (h2 : (k 2).val = n) (h3 : (k 3).val = 0) (P : Fin 4 → ℕ)
    (inst : Decidable (∀ a : Fin 4, (![0, 0, 127, 0] : Fin 4 → ℕ) a ≤ P a ∧ P a - (![0, 0, 127, 0] : Fin 4 → ℕ) a < S4x16x128x32.size a)) (hP : P = fun a => ((ix4 b c i hd : S4x16x128x32.Idx) a).val * (![1, 1, 1, 1] : Fin 4 → ℕ) a + (k a).val) :
    @dite EReal (∀ a : Fin 4, (![0, 0, 127, 0] : Fin 4 → ℕ) a ≤ P a ∧ P a - (![0, 0, 127, 0] : Fin 4 → ℕ) a < S4x16x128x32.size a) inst
      (fun hin => x (fun a => ⟨P a - (![0, 0, 127, 0] : Fin 4 → ℕ) a, (hin a).2⟩)) (fun _ => (0 : EReal))
    = if 127 ≤ i.val + n then (fun s : ℕ => if h : s < 128 then x (ix4 b c ⟨s, h⟩ hd) else 0) (i.val + n - 127) else 0 := by
  have hi := i.isLt
  have p0 : P 0 = b.val := by rw [hP]; show b.val * 1 + (k 0).val = _; omega
  have p1 : P 1 = c.val := by rw [hP]; show c.val * 1 + (k 1).val = _; omega
  have p2 : P 2 = i.val + n := by rw [hP]; show i.val * 1 + (k 2).val = _; omega
  have p3 : P 3 = hd.val := by rw [hP]; show hd.val * 1 + (k 3).val = _; omega
  clear hP h0 h1 h2 h3
  by_cases hle : 127 ≤ i.val + n
  · have hin : ∀ a : Fin 4, (![0, 0, 127, 0] : Fin 4 → ℕ) a ≤ P a ∧ P a - (![0, 0, 127, 0] : Fin 4 → ℕ) a < S4x16x128x32.size a := by
      intro a
      match a with
      | ⟨0, _⟩ => show 0 ≤ P 0 ∧ P 0 - 0 < 4; omega
      | ⟨1, _⟩ => show 0 ≤ P 1 ∧ P 1 - 0 < 16; omega
      | ⟨2, _⟩ => show 127 ≤ P 2 ∧ P 2 - 127 < 128; omega
      | ⟨3, _⟩ => show 0 ≤ P 3 ∧ P 3 - 0 < 32; omega
    rw [if_pos hle, dif_pos hin]
    refine Eq.trans ?_ (dif_pos (show i.val + n - 127 < 128 by omega)).symm
    refine congrArg x (funext fun a => Fin.ext ?_)
    match a with
    | ⟨0, _⟩ => show P 0 - 0 = b.val; omega
    | ⟨1, _⟩ => show P 1 - 0 = c.val; omega
    | ⟨2, _⟩ => show P 2 - 127 = i.val + n - 127; omega
    | ⟨3, _⟩ => show P 3 - 0 = hd.val; omega
  · rw [if_neg hle, dif_neg]
    intro hin
    have h2 : 127 ≤ P 2 := (hin 2).1
    omega

theorem digits : ∀ n : Fin (⟨4, ![1, 1, 128, 1]⟩ : Shape).numel, ((⟨4, ![1, 1, 128, 1]⟩ : Shape).rowMajor.symm n 0).val = 0 ∧ ((⟨4, ![1, 1, 128, 1]⟩ : Shape).rowMajor.symm n 1).val = 0
    ∧ ((⟨4, ![1, 1, 128, 1]⟩ : Shape).rowMajor.symm n 2).val = n.val ∧ ((⟨4, ![1, 1, 128, 1]⟩ : Shape).rowMajor.symm n 3).val = 0 := by decide +kernel

theorem numel_eq : (⟨4, ![1, 1, 128, 1]⟩ : Shape).numel = 128 := by decide +kernel

theorem cum_at (b : Fin 4) (c : Fin 16) (i : Fin 128) (hd : Fin 32) :
    val_main_v61 x1 x4 x5 (ix4 b c i hd) = ∑ s : Fin 128, if s.val ≤ i.val then val_main_v60 x1 x4 x5 (ix4 b c s hd) else 0 := by
  rw [val_main_v61]
  have hz : (val_main_call2_call0_v0 (F := Ideal)) (Shape.Idx.first Gen.h_S_) = (0 : EReal) := by
    rw [val_main_call2_call0_v0_apply, val_main_call2_call0_cst_apply]
    exact Ideal.ofBits_zero_f32
  refine (congrArg (fun z : EReal => Ideal.hostReduceWindowAdd ![1, 1, 128, 1] ![1, 1, 1, 1] ![0, 0, 127, 0] ![0, 0, 0, 0]
    Gen.reduceWindows_S4x16x128x32_S4x16x128x32_w1s1p0_0_w1s1p0_0_w128s1p127_0_w1s1p0_0 (val_main_v60 (F := Ideal) x1 x4 x5) z (ix4 b c i hd)) hz).trans ?_
  unfold Ideal.hostReduceWindowAdd
  generalize val_main_v60 (F := Ideal) x1 x4 x5 = x
  unfold Host.reduceWindow
  refine (foldl_window _ _ (fun n => if 127 ≤ i.val + n then (fun s : ℕ => if h : s < 128 then x (ix4 b c ⟨s, h⟩ hd) else 0) (i.val + n - 127) else 0) numel_eq (fun r n => ?_)).trans ?_
  · obtain ⟨d0, d1, d2, d3⟩ := digits n
    exact congrArg (r + ·) (window_term x b c i hd _ n.val (Nat.lt_of_lt_of_eq n.isLt numel_eq) d0 d1 d2 d3 _ _ rfl)
  refine (window_sum (fun s : ℕ => if h : s < 128 then x (ix4 b c ⟨s, h⟩ hd) else 0) i).trans (Finset.sum_congr rfl fun s _ => ?_)
  refine congrArg (fun z : EReal => if s.val ≤ i.val then z else 0) (dif_pos s.isLt)

end Cert.Layer.SsdRef
end
end
-- ==== Proof.Layer.SsdNames.lean ====
/- The kernel's chunk quantities are the reference's. -/
module

public import proofs.«01_k».proof.Proof.Layer.SsdTail
public import proofs.«01_k».proof.Proof.Layer.SsdState
public import proofs.«01_k».proof.Proof.Layer.SsdParts
public import proofs.«01_k».proof.Proof.Layer.SsdRows
public import proofs.«01_k».proof.Proof.Layer.SsdCum

@[expose] public section

set_option maxRecDepth 16384

noncomputable section

open Idealize.ShloMosaic Idealize.ShloMosaic.TcCoe Idealize.SL.Sem

namespace Cert.Layer.Ssd
open Cert.SsdIdeal Cert.SsdIdeal.Gen Cert.SsdRefIdeal.Read

variable (m : (ℓ : Loc nD τ sig) → Buf (Elt Ideal) ℓ)

abbrev A0 (c : Dev nD) : S8256x5120.Idx → EReal := m ((c : Thread nD τ).loc main_arg0)
abbrev A1 (c : Dev nD) : S8256x128.Idx → EReal := m ((c : Thread nD τ).loc main_arg1)
abbrev A2 (c : Dev nD) : S4x3072.Idx → EReal := m ((c : Thread nD τ).loc main_arg2)
abbrev A3 (c : Dev nD) : S3072.Idx → EReal := m ((c : Thread nD τ).loc main_arg3)
abbrev A4 (c : Dev nD) : S32.Idx → EReal := m ((c : Thread nD τ).loc main_arg4)
abbrev A5 (c : Dev nD) : S32.Idx → EReal := m ((c : Thread nD τ).loc main_arg5)
abbrev A6 (c : Dev nD) : S32.Idx → EReal := m ((c : Thread nD τ).loc main_arg6)
abbrev A7 (c : Dev nD) : S2048.Idx → EReal := m ((c : Thread nD τ).loc main_arg7)

theorem ext_join (c : Dev nD) (t : Fin cfg0.N) (b : Fin 4) (k : Fin 16) (ht : t.val = 16 * b.val + k.val) (u : Fin 131) (col : Fin 3072) (v : Fin 2051) (hv : v.val = 128 * k.val + u.val) :
    extK m c t u col = val_main_v7 (F := Ideal) (A0 m c) (ix3 b v col) := by
  rw [extK]
  by_cases h : t.val % 16 = 0 ∧ u.val < 3
  · rw [if_pos h, SsdRef.ext_low _ b v col (by omega)]
  · rw [if_neg h, SsdRef.ext_high _ b v col ⟨128 * k.val + u.val - 3, by omega⟩ (by dsimp only; omega)]
    exact congrArg (A0 m c) (congrArg (fun r => ix2 r _) (Fin.ext (by dsimp only; omega)))

theorem act_join (c : Dev nD) (t : Fin cfg0.N) (b : Fin 4) (k : Fin 16) (ht : t.val = 16 * b.val + k.val) (i : Fin 128) (col : Fin 3072) :
    actK m c t (ix2 i col) = val_main_v38 (F := Ideal) (A0 m c) (A2 m c) (A3 m c) (ix3 b ⟨128 * k.val + i.val, by omega⟩ col) := by
  have hz : zK m c t i col = val_main_v37 (F := Ideal) (A0 m c) (A2 m c) (A3 m c) (ix3 b ⟨128 * k.val + i.val, by omega⟩ col) := by
    rw [SsdRef.conv_at, zK, zOf, ext_join m c t b k ht _ col ⟨128 * k.val + i.val, by omega⟩ rfl,
      ext_join m c t b k ht _ col ⟨1 + (128 * k.val + i.val), by omega⟩ (by dsimp only; omega),
      ext_join m c t b k ht _ col ⟨2 + (128 * k.val + i.val), by omega⟩ (by dsimp only; omega),
      ext_join m c t b k ht _ col ⟨3 + (128 * k.val + i.val), by omega⟩ (by dsimp only; omega)]
  rw [SsdRef.act_at, ← hz]
  rfl

theorem dt_join (c : Dev nD) (t : Fin cfg0.N) (b : Fin 4) (k : Fin 16) (ht : t.val = 16 * b.val + k.val) (i : Fin 128) (hd : Fin 32) :
    dtK m c t (ix2 i ⟨hd.val, by omega⟩) = val_main_v54 (F := Ideal) (A1 m c) (A4 m c) (ix3 b ⟨128 * k.val + i.val, by omega⟩ hd) := by
  rw [dtK, k_dt, dtr_at, bias_at, SsdRef.dt_at]
  refine congrArg (fun r => sp (A1 m c (ix2 r _) + A4 m c (ix1 hd))) (Fin.ext ?_)
  dsimp only; omega

theorem d_join (c : Dev nD) (t : Fin cfg0.N) (b : Fin 4) (k : Fin 16) (ht : t.val = 16 * b.val + k.val) (i : Fin 128) (hd : Fin 32) :
    dK m c t (ix2 i ⟨hd.val, by omega⟩) = val_main_v60 (F := Ideal) (A1 m c) (A4 m c) (A5 m c) (ix4 b k i hd) := by
  rw [SsdRef.step_at, ← dt_join m c t b k ht, dK, k_da, dtK, k_dt, alog_at]

theorem ac_join (c : Dev nD) (t : Fin cfg0.N) (b : Fin 4) (k : Fin 16) (ht : t.val = 16 * b.val + k.val) (i : Fin 128) (hd : Fin 32) :
    acK m c t (ix2 i ⟨hd.val, by omega⟩) = val_main_v61 (F := Ideal) (A1 m c) (A4 m c) (A5 m c) (ix4 b k i hd) := by
  rw [SsdRef.cum_at]
  refine (k_ac _ _ _ i ⟨hd.val, by omega⟩).trans (Finset.sum_congr rfl fun s _ => ?_)
  rw [← d_join m c t b k ht]
  rfl

theorem acT_join (c : Dev nD) (t : Fin cfg0.N) (b : Fin 4) (k : Fin 16) (ht : t.val = 16 * b.val + k.val) (i : Fin 128) (hd : Fin 32) :
    acTK m c t (ix2 ⟨hd.val, by omega⟩ i) = val_main_v61 (F := Ideal) (A1 m c) (A4 m c) (A5 m c) (ix4 b k i hd) :=
  (k_acT _ _ _ i ⟨hd.val, by omega⟩).trans (ac_join m c t b k ht i hd)

theorem dtT_join (c : Dev nD) (t : Fin cfg0.N) (b : Fin 4) (k : Fin 16) (ht : t.val = 16 * b.val + k.val) (i : Fin 128) (hd : Fin 32) :
    dtTK m c t (ix2 ⟨hd.val, by omega⟩ i) = val_main_v54 (F := Ideal) (A1 m c) (A4 m c) (ix3 b ⟨128 * k.val + i.val, by omega⟩ hd) :=
  (k_dtT _ i ⟨hd.val, by omega⟩).trans (dt_join m c t b k ht i hd)

theorem te_join (c : Dev nD) (t : Fin cfg0.N) (b : Fin 4) (k : Fin 16) (ht : t.val = 16 * b.val + k.val) (i : Fin 128) (hd : Fin 32) :
    teK m c t (ix2 i ⟨hd.val, by omega⟩) = Ideal.exp (val_main_v61 (F := Ideal) (A1 m c) (A4 m c) (A5 m c) (ix4 b k 127 hd) - val_main_v61 (F := Ideal) (A1 m c) (A4 m c) (A5 m c) (ix4 b k i hd))
      * val_main_v54 (F := Ideal) (A1 m c) (A4 m c) (ix3 b ⟨128 * k.val + i.val, by omega⟩ hd) := by
  refine (k_te _ _ _ _ i ⟨hd.val, by omega⟩).trans ?_
  rw [← dt_join m c t b k ht, ← ac_join m c t b k ht, ← ac_join m c t b k ht]
  rfl

theorem ea_join (c : Dev nD) (t : Fin cfg0.N) (b : Fin 4) (k : Fin 16) (ht : t.val = 16 * b.val + k.val) (i : Fin 128) (hd : Fin 32) :
    eaK m c t (ix2 i ⟨hd.val, by omega⟩) = Ideal.exp (val_main_v61 (F := Ideal) (A1 m c) (A4 m c) (A5 m c) (ix4 b k i hd)) :=
  (k_ea _ _ _ i ⟨hd.val, by omega⟩).trans (congrArg Ideal.exp (ac_join m c t b k ht i hd))

theorem cd_join (c : Dev nD) (t : Fin cfg0.N) (b : Fin 4) (k : Fin 16) (ht : t.val = 16 * b.val + k.val) (hd : Fin 32) :
    cdK m c t (ix2 ⟨hd.val, by omega⟩ 0) = Ideal.exp (val_main_v61 (F := Ideal) (A1 m c) (A4 m c) (A5 m c) (ix4 b k 127 hd)) :=
  (k_cd _ _ _ ⟨hd.val, by omega⟩).trans (congrArg Ideal.exp (ac_join m c t b k ht 127 hd))

theorem sel_at (i s : Fin 128) (x : EReal) : Scalar.select (k0_pay9 (ix2 i s)) x 0 = if s.val ≤ i.val then x else 0 := by
  have hi := i.isLt
  have hs := s.isLt
  pointwise [k0_pay9]
  word_cmp

end Cert.Layer.Ssd
end
end
-- ==== Proof.Layer.SsdChunk.lean ====
/- The state a chunk leaves, at the first chunk of a sequence and at the others. -/
module

public import proofs.«01_k».proof.Proof.Gen.SsdIdeal.Frame
public import Idealize.ShloMosaic.Lib.Pipeline.ValueKit
public import Idealize.ShloMosaic.Lib.Pipeline.ReadBack
public import Idealize.ShloMosaic.Lib.WordCmp
public import proofs.«01_k».proof.Proof.Layer.SsdTail
public import Idealize.ShloMosaic.Lib.WritesUnit

@[expose] public section

set_option maxRecDepth 16384

noncomputable section

open Idealize.ShloMosaic Idealize.ShloMosaic.TcCoe Idealize.SL.Sem
open Idealize.ShloMosaic.Pipeline (Dat)

namespace Cert.Layer.Ssd
open Cert.SsdIdeal Cert.SsdIdeal.Gen

variable (m : (ℓ : Loc nD τ sig) → Buf (Elt Ideal) ℓ)

def hcol (act : FVec Ideal S128x3072 .f32) (H : Vec Ideal S1x2048x128 .f32) (te : FVec Ideal S128x128 .f32) (cd : FVec Ideal S128x1 .f32) (j : Fin 2048) (n : Fin 128) : EReal :=
  H (ix3 0 j n) * cd (ix2 ⟨j.val / 64, by omega⟩ 0)
    + ∑ s : Fin 128, act (ix2 s ⟨j.val, by omega⟩) * (act (ix2 s ⟨2048 + 128 * (j.val / 512) + n.val, by omega⟩) * te (ix2 s ⟨j.val / 64, by omega⟩))

/-- A row of the new state as the kernel writes it, two heads in one product and the head selected by the row. -/
theorem hcol_of (act : FVec Ideal S128x3072 .f32) (H : Vec Ideal S1x2048x128 .f32) (te : FVec Ideal S128x128 .f32) (cd : FVec Ideal S128x1 .f32)
    (j : Fin 2048) (n : Fin 128) (q x : ℕ) (a : Fin 2048) (n' : Fin 128) (a' b' : Fin 3072) (k1 k2 : Fin 128)
    (hx : x < 128) (ha : a.val = 128 * q + x) (ha' : a'.val = 128 * q + x) (hj : j.val = 128 * q + x)
    (hb : b'.val = 2048 + 128 * (q / 4) + n.val) (hn : n' = n)
    (h1 : k1.val = 2 * q) (h2 : k2.val = 2 * q + 1) :
    H (ix3 0 a n') * Scalar.select (IntOp.cmpi CmpIPredicate.slt (BitVec.ofNat 32 x) 64#32) (cd (ix2 k1 0)) (cd (ix2 k2 0))
      + Scalar.select (IntOp.cmpi CmpIPredicate.slt (BitVec.ofNat 32 x) 64#32)
        (∑ s, act (ix2 s a') * (act (ix2 s b') * te (ix2 s k1)) : EReal)
        (∑ s, act (ix2 s a') * (act (ix2 s b') * te (ix2 s k2)))
    = hcol act H te cd j n := by
  rw [show a = j from Fin.ext (by omega), hn, show a' = ⟨j.val, by omega⟩ from Fin.ext (by dsimp only; omega),
    show b' = ⟨2048 + 128 * (j.val / 512) + n.val, by omega⟩ from Fin.ext (by dsimp only; omega)]
  word_cmp
  rw [hcol]
  by_cases hlt : x < 64
  · rw [show k1 = ⟨j.val / 64, by omega⟩ from Fin.ext (by dsimp only; omega)]
    simp only [hlt, if_true]
  · rw [show k2 = ⟨j.val / 64, by omega⟩ from Fin.ext (by dsimp only; omega)]
    simp only [hlt, if_false]

theorem canon_front {S : Shape} {e : EltTy} (T : List (View.Piece (Elt Ideal) S e)) (y : S.Idx) :
    ∀ L : List (View.Piece (Elt Ideal) S e), (∃ p ∈ L, y ∈ p.1.set) → View.canon (Val := Elt Ideal) (L ++ T) y = View.canon (Val := Elt Ideal) L y := by
  intro L
  induction L with
  | nil => exact fun ⟨_, h, _⟩ => absurd h List.not_mem_nil
  | cons p L ih =>
    intro ⟨q, hq, hy⟩
    obtain ⟨r, v⟩ := p
    rw [List.cons_append]
    by_cases h : y ∈ r.set
    · obtain ⟨x, rfl⟩ : ∃ x, r.emb x = y := r.exists_idx_of_mem h
      rw [View.canon_cons_emb, View.canon_cons_emb]
    · rw [View.canon_cons_of_not_mem _ _ h, View.canon_cons_of_not_mem _ _ h]
      refine ih ?_
      rcases List.mem_cons.mp hq with rfl | hm
      · exact absurd hy h
      · exact ⟨q, hm, hy⟩

/-- Stores an earlier one of which is overwritten by the later ones read as the later ones. -/
theorem canon_take {S : Shape} {e : EltTy} (L : List (View.Piece (Elt Ideal) S e)) (n : ℕ) (y : S.Idx) (h : ∃ p ∈ L.take n, y ∈ p.1.set) :
    View.canon (Val := Elt Ideal) L y = View.canon (Val := Elt Ideal) (L.take n) y := by
  have e := canon_front (L.drop n) y (L.take n) h
  rwa [List.take_append_drop] at e

set_option maxHeartbeats 4000000 in
theorem state_A (c : Dev nD) (t : Fin cfg0.N) (h : t.val % 16 = 0) :
    (outsAt0 m c t.val t.isLt).2.1 = fun w : S1x2048x128.Idx => hcol (actK m c t) (HK m c t) (teK m c t) (cdK m c t) (w 1) (w 2) := by
  rw [outsAt0_A m c t h]
  frame_open
  simp (disch := decide) only [↓ View.readCov_skip, ↓ View.readCov_cons_toLoadRect, ↓ View.readCov_fill]
  frame_out
  simp only [actOf_eq, k0_pay25]
  generalize hact : actOf _ _ _ _ _ _ = act
  generalize hte : k0_pay15 (F := Ideal) _ _ _ _ = te
  generalize hcd : k0_pay17 (F := Ideal) _ _ _ = cd
  generalize hH : k0_pay1 (F := Ideal) _ = H
  rw [show HK m c t = H from (dif_pos h).trans hH]
  have ha : actK m c t = act := by
    refine Eq.trans (Eq.symm (act_of m c t _ _ _ ?_ ?_ ?_)) hact
    · intro i col; exact e_A m c t h 5 (by omega) _ i col
    · intro i col; exact e_A m c t h 6 (by omega) _ i col
    · intro i col; exact e_A m c t h 7 (by omega) _ i col
  rw [ha]
  rw [show teK m c t = te from hte, show cdK m c t = cd from hcd]
  clear * -
  funext w
  have hw := (w 1).isLt
  obtain ⟨q, hq⟩ : ∃ q, q = (w 1).val / 128 := ⟨_, rfl⟩
  show _ = hcol act H te cd (w 1) (w 2)
  refine (canon_take _ 16 w (View.cover_of_tiledL (s := S1x2048x128) _ S1x128x128.size ?_ w)).trans ?_
  · sl_kernel_rfl
  simp only [List.take_succ_cons, List.take_zero]
  canon_tiles w h
  all_goals pointwise [k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155]
  all_goals
    refine hcol_of act H te cd _ _ q _ _ _ _ _ _ _ w1_lt ?_ ?_ ?_ ?_ ?_ ?_ ?_
    · dsimp only; omega
    · dsimp only; omega
    · omega
    · dsimp only; omega
    · exact Fin.ext h2.symm
    · first | omega | (simp; omega)
    · first | omega | (simp; omega)

set_option maxHeartbeats 4000000 in
theorem state_B (c : Dev nD) (t : Fin cfg0.N) (h : ¬ t.val % 16 = 0) :
    (outsAt0 m c t.val t.isLt).2.1 = fun w : S1x2048x128.Idx => hcol (actK m c t) (HK m c t) (teK m c t) (cdK m c t) (w 1) (w 2) := by
  rw [outsAt0_B m c t h]
  frame_open
  simp (disch := decide) only [↓ View.readCov_skip, ↓ View.readCov_cons_toLoadRect, ↓ View.readCov_fill]
  frame_out
  simp only [actOf_eq, k0_pay25]
  generalize hact : actOf _ _ _ _ _ _ = act
  generalize hte : k0_pay15 (F := Ideal) _ _ _ _ = te
  generalize hcd : k0_pay17 (F := Ideal) _ _ _ = cd
  generalize hH : (outsAt0 m c (t.val - 1) _).2.1 = H
  rw [show HK m c t = H from (dif_neg h).trans hH]
  have ha : actK m c t = act := by
    refine Eq.trans (Eq.symm (act_of m c t _ _ _ ?_ ?_ ?_)) hact
    · intro i col; exact e_B m c t h 5 (by omega) _ i col _ _ rfl
    · intro i col; exact e_B m c t h 6 (by omega) _ i col _ _ rfl
    · intro i col; exact e_B m c t h 7 (by omega) _ i col _ _ rfl
  rw [ha]
  rw [show teK m c t = te from hte, show cdK m c t = cd from hcd]
  clear * -
  funext w
  have hw := (w 1).isLt
  obtain ⟨q, hq⟩ : ∃ q, q = (w 1).val / 128 := ⟨_, rfl⟩
  show _ = hcol act H te cd (w 1) (w 2)
  canon_tiles w h
  all_goals pointwise [k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155]
  all_goals
    refine hcol_of act H te cd _ _ q _ _ _ _ _ _ _ w1_lt ?_ ?_ ?_ ?_ ?_ ?_ ?_
    · dsimp only; omega
    · dsimp only; omega
    · omega
    · dsimp only; omega
    · exact Fin.ext h2.symm
    · first | omega | (simp; omega)
    · first | omega | (simp; omega)

theorem state_at (c : Dev nD) (t : Fin cfg0.N) :
    (outsAt0 m c t.val t.isLt).2.1 = fun w : S1x2048x128.Idx => hcol (actK m c t) (HK m c t) (teK m c t) (cdK m c t) (w 1) (w 2) := by
  by_cases h : t.val % 16 = 0
  · exact state_A m c t h
  · exact state_B m c t h

end Cert.Layer.Ssd
end
end
-- ==== Proof.Layer.SsdOut.lean ====
/- The output rows of a chunk, at the first chunk of a sequence and at the others. -/
module

public import proofs.«01_k».proof.Proof.Gen.SsdIdeal.Frame
public import Idealize.ShloMosaic.Lib.Pipeline.ValueKit
public import Idealize.ShloMosaic.Lib.Pipeline.ReadBack
public import Idealize.ShloMosaic.Lib.WordCmp
public import proofs.«01_k».proof.Proof.Layer.SsdTail
public import Idealize.ShloMosaic.Lib.WritesUnit

@[expose] public section

set_option maxRecDepth 16384

noncomputable section

open Idealize.ShloMosaic Idealize.ShloMosaic.TcCoe Idealize.SL.Sem
open Idealize.ShloMosaic.Pipeline (Dat)

namespace Cert.Layer.Ssd
open Cert.SsdIdeal Cert.SsdIdeal.Gen

variable (m : (ℓ : Loc nD τ sig) → Buf (Elt Ideal) ℓ)

/-- What position `s` of the chunk adds to position `i`, head `hd`, column `j`. -/
def yterm (act : FVec Ideal S128x3072 .f32) (ac acT dtT : FVec Ideal S128x128 .f32) (i hd : Fin 128) (j : Fin 2048) (s : Fin 128) : EReal :=
  Scalar.select (k0_pay9 (ix2 i s))
    (Ideal.exp (ac (ix2 i hd) - acT (ix2 hd s))
      * (∑ n : Fin 128, act (ix2 i ⟨2560 + 128 * (j.val / 512) + n.val, by omega⟩) * act (ix2 s ⟨2048 + 128 * (j.val / 512) + n.val, by omega⟩))
      * dtT (ix2 hd s) * act (ix2 s ⟨j.val, by omega⟩)) 0

/-- One column of the chunk's output before the gate: the sum over the chunk's earlier rows and the part of the state. -/
def ypr (act : FVec Ideal S128x3072 .f32) (H : Vec Ideal S1x2048x128 .f32) (ac acT dtT ea : FVec Ideal S128x128 .f32) (i : Fin 128) (j : Fin 2048) : EReal :=
  (∑ s : Fin 128, yterm act ac acT dtT i ⟨j.val / 64, by omega⟩ j s)
    + (∑ n : Fin 128, act (ix2 i ⟨2560 + 128 * (j.val / 512) + n.val, by omega⟩) * H (ix3 0 j n)) * ea (ix2 i ⟨j.val / 64, by omega⟩)

def yraw (act : FVec Ideal S128x3072 .f32) (H : Vec Ideal S1x2048x128 .f32) (ac acT dtT ea : FVec Ideal S128x128 .f32)
    (X0 : FVec Ideal S128x5120 .f32) (x6 : FVec Ideal S1x2048 .f32) (i : Fin 128) (j : Fin 2048) : EReal :=
  (ypr act H ac acT dtT ea i j + x6 (ix2 0 j) * act (ix2 i ⟨j.val, by omega⟩))
    * (X0 (ix2 i ⟨j.val, by omega⟩) * Ideal.logistic (X0 (ix2 i ⟨j.val, by omega⟩)))

def yout (act : FVec Ideal S128x3072 .f32) (H : Vec Ideal S1x2048x128 .f32) (ac acT dtT ea : FVec Ideal S128x128 .f32)
    (X0 : FVec Ideal S128x5120 .f32) (x6 x7 : FVec Ideal S1x2048 .f32) (i : Fin 128) (j : Fin 2048) : EReal :=
  yraw act H ac acT dtT ea X0 x6 i j
    * Ideal.rsqrt (Ideal.div (∑ k : Fin 512, yraw act H ac acT dtT ea X0 x6 i ⟨512 * (j.val / 512) + k.val, by omega⟩
        * yraw act H ac acT dtT ea X0 x6 i ⟨512 * (j.val / 512) + k.val, by omega⟩) (Ideal.ofBits FTy.f32 1140850688#32)
      + Ideal.ofBits FTy.f32 897988541#32) * x7 (ix2 0 j)

theorem yout_of (act : FVec Ideal S128x3072 .f32) (H : Vec Ideal S1x2048x128 .f32) (ac acT dtT ea : FVec Ideal S128x128 .f32)
    (X0 : FVec Ideal S128x5120 .f32) (x6 x7 : FVec Ideal S1x2048 .f32) (i i' : Fin 128) (hi : i' = i) (j j' : Fin 2048) (g : ℕ) (hg : g < 4) (x : Fin 512)
    (f : Fin 512 → EReal) (v : EReal) (hv : v = f x) (hf : ∀ k : Fin 512, f k = yraw act H ac acT dtT ea X0 x6 i ⟨512 * g + k.val, by omega⟩)
    (hj : j.val = 512 * g + x.val) (hj' : j' = j) :
    v * Ideal.rsqrt (Ideal.div (∑ k : Fin 512, f k * f k) (Ideal.ofBits FTy.f32 1140850688#32)
      + Ideal.ofBits FTy.f32 897988541#32) * x7 (ix2 0 j') = yout act H ac acT dtT ea X0 x6 x7 i' j := by
  subst hj' hi
  obtain rfl : g = j'.val / 512 := by omega
  rw [yout, hv, hf x, show (⟨512 * (j'.val / 512) + x.val, by omega⟩ : Fin 2048) = j' from Fin.ext (by dsimp only; omega)]
  simp only [hf]

/-- The four columns of heads a group is put together from, two heads each. -/
theorem ypr_of (act : FVec Ideal S128x3072 .f32) (H : Vec Ideal S1x2048x128 .f32) (ac acT dtT ea : FVec Ideal S128x128 .f32)
    (i : Fin 128) (j : Fin 2048) (q : ℕ) (x : Fin 128) (hj : j.val = 128 * q + x.val)
    (D1 D2 P : Fin 128 → EReal) (e1 e2 : EReal) (hq : q < 16)
    (hD1 : ∀ s, D1 s = yterm act ac acT dtT i ⟨2 * q, by omega⟩ j s)
    (hD2 : ∀ s, D2 s = yterm act ac acT dtT i ⟨2 * q + 1, by omega⟩ j s)
    (hP : ∀ n : Fin 128, P n = act (ix2 i ⟨2560 + 128 * (j.val / 512) + n.val, by omega⟩) * H (ix3 0 j n))
    (h1 : e1 = ea (ix2 i ⟨2 * q, by omega⟩)) (h2 : e2 = ea (ix2 i ⟨2 * q + 1, by omega⟩)) :
    Scalar.select (k0_pay18 (ix2 i x)) (∑ s, D1 s : EReal) (∑ s, D2 s) + (∑ n, P n) * Scalar.select (k0_pay18 (ix2 i x)) e1 e2
    = ypr act H ac acT dtT ea i j := by
  rw [show k0_pay18 (ix2 i x) = IntOp.cmpi CmpIPredicate.slt (BitVec.ofNat 32 x.val) 64#32 by pointwise [k0_pay18]]
  have hx := x.isLt
  word_cmp
  subst h1 h2
  simp only [hD1, hD2, hP]
  rw [ypr]
  by_cases hlt : x.val < 64
  · rw [show (⟨2 * q, by omega⟩ : Fin 128) = ⟨j.val / 64, by omega⟩ from Fin.ext (by dsimp only; omega)]
    simp only [hlt, if_true]
  · rw [show (⟨2 * q + 1, by omega⟩ : Fin 128) = ⟨j.val / 64, by omega⟩ from Fin.ext (by dsimp only; omega)]
    simp only [hlt, if_false]

theorem yterm_of (act : FVec Ideal S128x3072 .f32) (ac acT dtT : FVec Ideal S128x128 .f32) (i hd : Fin 128) (j : Fin 2048) (s : Fin 128)
    (g1 g2 : Fin 128 → EReal) (E d b z : EReal) (hE : E = Ideal.exp (ac (ix2 i hd) - acT (ix2 hd s)))
    (hg1 : ∀ n : Fin 128, g1 n = act (ix2 i ⟨2560 + 128 * (j.val / 512) + n.val, by omega⟩))
    (hg2 : ∀ n : Fin 128, g2 n = act (ix2 s ⟨2048 + 128 * (j.val / 512) + n.val, by omega⟩))
    (hd' : d = dtT (ix2 hd s)) (hb : b = act (ix2 s ⟨j.val, by omega⟩)) (hz : z = 0) :
    Scalar.select (k0_pay9 (ix2 i s)) (E * (∑ n, g1 n * g2 n) * d * b) z = yterm act ac acT dtT i hd j s := by
  subst hE hd' hb hz
  simp only [hg1, hg2]
  rfl

theorem act_at (act : FVec Ideal S128x3072 .f32) (i : Fin 128) (a b : Fin 3072) (h : a.val = b.val) :
    act (ix2 i a) = act (ix2 i b) := by rw [Fin.ext h]

theorem dt_at (dtT : FVec Ideal S128x128 .f32) (a b s : Fin 128) (h : a.val = b.val) :
    dtT (ix2 a s) = dtT (ix2 b s) := by rw [Fin.ext h]

theorem ea_at (ea : FVec Ideal S128x128 .f32) (i a b : Fin 128) (h : a.val = b.val) :
    ea (ix2 i a) = ea (ix2 i b) := by rw [Fin.ext h]

theorem exp_at (ac acT : FVec Ideal S128x128 .f32) (i s a b : Fin 128) (h : a.val = b.val) :
    Ideal.exp (ac (ix2 i a) - acT (ix2 a s)) = Ideal.exp (ac (ix2 i b) - acT (ix2 b s)) := by rw [Fin.ext h]

theorem actH_at (act : FVec Ideal S128x3072 .f32) (H : Vec Ideal S1x2048x128 .f32) (i n : Fin 128) (a b : Fin 3072) (j j' : Fin 2048)
    (h : a.val = b.val) (h' : j.val = j'.val) : act (ix2 i a) * H (ix3 0 j n) = act (ix2 i b) * H (ix3 0 j' n) := by
  rw [Fin.ext h, Fin.ext h']

theorem yraw_of (act : FVec Ideal S128x3072 .f32) (H : Vec Ideal S1x2048x128 .f32) (ac acT dtT ea : FVec Ideal S128x128 .f32)
    (X0 : FVec Ideal S128x5120 .f32) (x6 : FVec Ideal S1x2048 .f32) (i : Fin 128) (j j' : Fin 2048) (a : Fin 3072) (b : Fin 5120) (u : EReal)
    (hu : u = ypr act H ac acT dtT ea i j) (hj : j'.val = j.val) (ha : a.val = j.val) (hb : b.val = j.val) :
    (u + x6 (ix2 0 j') * act (ix2 i a)) * (X0 (ix2 i b) * Ideal.logistic (X0 (ix2 i b))) = yraw act H ac acT dtT ea X0 x6 i j := by
  rw [hu, show j' = j from Fin.ext hj, show a = ⟨j.val, Nat.lt_of_lt_of_le j.isLt (by decide)⟩ from Fin.ext ha, show b = ⟨j.val, Nat.lt_of_lt_of_le j.isLt (by decide)⟩ from Fin.ext hb]
  rfl

set_option maxHeartbeats 4000000 in
theorem out_A (c : Dev nD) (t : Fin cfg0.N) (h : t.val % 16 = 0) :
    (outsAt0 m c t.val t.isLt).1 = fun w : S128x2048.Idx => yout (actK m c t) (HK m c t) (acK m c t) (acTK m c t) (dtTK m c t) (eaK m c t) (X0_0 m c t) (iblk m c 6 t) (iblk m c 7 t) (w 0) (w 1) := by
  rw [outsAt0_A m c t h]
  frame_open
  simp (disch := decide) only [↓ View.readCov_skip, ↓ View.readCov_cons_toLoadRect, ↓ View.readCov_fill]
  frame_out
  simp only [actOf_eq, k0_pay25]
  generalize hact : actOf _ _ _ _ _ _ = act
  generalize hac : k0_pay12 (F := Ideal) _ _ _ = ac
  generalize hacT : k0_pay13 (F := Ideal) _ _ _ = acT
  generalize hdtT : k0_pay14 (F := Ideal) _ = dtT
  generalize hea : k0_pay16 (F := Ideal) _ _ _ = ea
  generalize hH : k0_pay1 (F := Ideal) _ = H
  rw [show HK m c t = H from (dif_pos h).trans hH]
  have ha : actK m c t = act := by
    refine Eq.trans (Eq.symm (act_of m c t _ _ _ ?_ ?_ ?_)) hact
    · intro i col; exact e_A m c t h 5 (by omega) _ i col
    · intro i col; exact e_A m c t h 6 (by omega) _ i col
    · intro i col; exact e_A m c t h 7 (by omega) _ i col
  rw [ha]
  rw [show acK m c t = ac from hac, show acTK m c t = acT from hacT, show dtTK m c t = dtT from hdtT, show eaK m c t = ea from hea]
  generalize k0_pay8 (F := Ideal) _ _ _ = v64
  generalize k0_pay11 (F := Ideal) _ _ _ = v72
  generalize k0_pay10 (F := Ideal) = v71
  generalize X0_0 m c t = X0
  generalize iblk m c 6 t = x6
  generalize iblk m c 7 t = x7
  clear * -
  funext w
  have hw := (w 1).isLt
  obtain ⟨g, hg⟩ : ∃ g, g = (w 1).val / 512 := ⟨_, rfl⟩
  show _ = yout act H ac acT dtT ea X0 x6 x7 (w 0) (w 1)
  canon_tiles w h
  all_goals pointwise [k0_pay52, k0_pay85, k0_pay86, k0_pay87, k0_pay121, k0_pay122, k0_pay156, k0_pay157, k0_pay158]
  all_goals
    refine yout_of act H ac acT dtT ea X0 x6 x7 _ _ (Fin.ext h0) _ _ g ?_ ⟨(w 1).val, w1_lt⟩ _ _ ?_ (fun k => ?_) ?_ ?_
    · omega
    · rfl
    rotate_left
    · dsimp only; omega
    · exact Fin.ext (by dsimp only; omega)
    have hk := k.isLt
    obtain ⟨q, hq⟩ : ∃ q, q = (512 * g + k.val) / 128 := ⟨_, rfl⟩
    refine yraw_of act H ac acT dtT ea X0 x6 _ _ _ _ _ _ ?_ ?_ ?_ ?_
    rotate_left
    · dsimp only; omega
    · dsimp only; omega
    · dsimp only; omega
    repeat' (split)
    all_goals pointwise [k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155]
    all_goals
      refine ypr_of act H ac acT dtT ea _ _ q _ ?_ _ _ _ _ _ ?_ (fun s => ?_) (fun s => ?_) (fun n => ?_) ?_ ?_
      rotate_left
      · omega
      · refine yterm_of act ac acT dtT _ _ _ _ _ _ _ _ _ _ ?_ (fun n => ?_) (fun n => ?_) ?_ ?_ ?_
        · exact exp_at ac acT _ _ _ _ (by dsimp only; omega)
        · exact act_at act _ _ _ (by dsimp only; omega)
        · exact act_at act _ _ _ (by dsimp only; omega)
        · exact dt_at dtT _ _ _ (by dsimp only; omega)
        · exact act_at act _ _ _ (by dsimp only; omega)
        · rfl
      · refine yterm_of act ac acT dtT _ _ _ _ _ _ _ _ _ _ ?_ (fun n => ?_) (fun n => ?_) ?_ ?_ ?_
        · exact exp_at ac acT _ _ _ _ (by dsimp only; omega)
        · exact act_at act _ _ _ (by dsimp only; omega)
        · exact act_at act _ _ _ (by dsimp only; omega)
        · exact dt_at dtT _ _ _ (by dsimp only; omega)
        · exact act_at act _ _ _ (by dsimp only; omega)
        · rfl
      · exact actH_at act H _ _ _ _ _ _ (by dsimp only; omega) (by dsimp only; omega)
      · exact ea_at ea _ _ _ (by dsimp only; omega)
      · exact ea_at ea _ _ _ (by dsimp only; omega)
      · dsimp only; omega

set_option maxHeartbeats 4000000 in
theorem out_B (c : Dev nD) (t : Fin cfg0.N) (h : ¬ t.val % 16 = 0) :
    (outsAt0 m c t.val t.isLt).1 = fun w : S128x2048.Idx => yout (actK m c t) (HK m c t) (acK m c t) (acTK m c t) (dtTK m c t) (eaK m c t) (X0_0 m c t) (iblk m c 6 t) (iblk m c 7 t) (w 0) (w 1) := by
  rw [outsAt0_B m c t h]
  frame_open
  simp (disch := decide) only [↓ View.readCov_skip, ↓ View.readCov_cons_toLoadRect, ↓ View.readCov_fill]
  frame_out
  simp only [actOf_eq, k0_pay25]
  generalize hact : actOf _ _ _ _ _ _ = act
  generalize hac : k0_pay12 (F := Ideal) _ _ _ = ac
  generalize hacT : k0_pay13 (F := Ideal) _ _ _ = acT
  generalize hdtT : k0_pay14 (F := Ideal) _ = dtT
  generalize hea : k0_pay16 (F := Ideal) _ _ _ = ea
  generalize hH : (outsAt0 m c (t.val - 1) _).2.1 = H
  rw [show HK m c t = H from (dif_neg h).trans hH]
  have ha : actK m c t = act := by
    refine Eq.trans (Eq.symm (act_of m c t _ _ _ ?_ ?_ ?_)) hact
    · intro i col; exact e_B m c t h 5 (by omega) _ i col _ _ rfl
    · intro i col; exact e_B m c t h 6 (by omega) _ i col _ _ rfl
    · intro i col; exact e_B m c t h 7 (by omega) _ i col _ _ rfl
  rw [ha]
  rw [show acK m c t = ac from hac, show acTK m c t = acT from hacT, show dtTK m c t = dtT from hdtT, show eaK m c t = ea from hea]
  generalize k0_pay8 (F := Ideal) _ _ _ = v64
  generalize k0_pay11 (F := Ideal) _ _ _ = v72
  generalize k0_pay10 (F := Ideal) = v71
  generalize X0_0 m c t = X0
  generalize iblk m c 6 t = x6
  generalize iblk m c 7 t = x7
  clear * -
  funext w
  have hw := (w 1).isLt
  obtain ⟨g, hg⟩ : ∃ g, g = (w 1).val / 512 := ⟨_, rfl⟩
  show _ = yout act H ac acT dtT ea X0 x6 x7 (w 0) (w 1)
  canon_tiles w h
  all_goals pointwise [k0_pay52, k0_pay85, k0_pay86, k0_pay87, k0_pay121, k0_pay122, k0_pay156, k0_pay157, k0_pay158]
  all_goals
    refine yout_of act H ac acT dtT ea X0 x6 x7 _ _ (Fin.ext h0) _ _ g ?_ ⟨(w 1).val, w1_lt⟩ _ _ ?_ (fun k => ?_) ?_ ?_
    · omega
    · rfl
    rotate_left
    · dsimp only; omega
    · exact Fin.ext (by dsimp only; omega)
    have hk := k.isLt
    obtain ⟨q, hq⟩ : ∃ q, q = (512 * g + k.val) / 128 := ⟨_, rfl⟩
    refine yraw_of act H ac acT dtT ea X0 x6 _ _ _ _ _ _ ?_ ?_ ?_ ?_
    rotate_left
    · dsimp only; omega
    · dsimp only; omega
    · dsimp only; omega
    repeat' (split)
    all_goals pointwise [k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155]
    all_goals
      refine ypr_of act H ac acT dtT ea _ _ q _ ?_ _ _ _ _ _ ?_ (fun s => ?_) (fun s => ?_) (fun n => ?_) ?_ ?_
      rotate_left
      · omega
      · refine yterm_of act ac acT dtT _ _ _ _ _ _ _ _ _ _ ?_ (fun n => ?_) (fun n => ?_) ?_ ?_ ?_
        · exact exp_at ac acT _ _ _ _ (by dsimp only; omega)
        · exact act_at act _ _ _ (by dsimp only; omega)
        · exact act_at act _ _ _ (by dsimp only; omega)
        · exact dt_at dtT _ _ _ (by dsimp only; omega)
        · exact act_at act _ _ _ (by dsimp only; omega)
        · rfl
      · refine yterm_of act ac acT dtT _ _ _ _ _ _ _ _ _ _ ?_ (fun n => ?_) (fun n => ?_) ?_ ?_ ?_
        · exact exp_at ac acT _ _ _ _ (by dsimp only; omega)
        · exact act_at act _ _ _ (by dsimp only; omega)
        · exact act_at act _ _ _ (by dsimp only; omega)
        · exact dt_at dtT _ _ _ (by dsimp only; omega)
        · exact act_at act _ _ _ (by dsimp only; omega)
        · rfl
      · exact actH_at act H _ _ _ _ _ _ (by dsimp only; omega) (by dsimp only; omega)
      · exact ea_at ea _ _ _ (by dsimp only; omega)
      · exact ea_at ea _ _ _ (by dsimp only; omega)
      · dsimp only; omega

theorem out_at (c : Dev nD) (t : Fin cfg0.N) :
    (outsAt0 m c t.val t.isLt).1 = fun w : S128x2048.Idx => yout (actK m c t) (HK m c t) (acK m c t) (acTK m c t) (dtTK m c t) (eaK m c t) (X0_0 m c t) (iblk m c 6 t) (iblk m c 7 t) (w 0) (w 1) := by
  by_cases h : t.val % 16 = 0
  · exact out_A m c t h
  · exact out_B m c t h

end Cert.Layer.Ssd
end
end
-- ==== Proof.Layer.SsdValue.lean ====
/- The recurrence: both arrays the kernel leaves are the reference's. -/
module

public import proofs.«01_k».proof.Proof.Layer.SsdNames
public import proofs.«01_k».proof.Proof.Layer.SsdChunk
public import proofs.«01_k».proof.Proof.Layer.SsdOut

@[expose] public section

set_option maxRecDepth 16384

noncomputable section

open Idealize.ShloMosaic Idealize.ShloMosaic.TcCoe Idealize.SL.Sem

namespace Cert.Layer.Ssd
open Cert.SsdIdeal Cert.SsdIdeal.Gen Cert.SsdRefIdeal.Read

variable (m : (ℓ : Loc nD τ sig) → Buf (Elt Ideal) ℓ)

/-- The reference's states on this memory's arguments. -/
abbrev hsK (c : Dev nD) (k : Fin 17) (b : Fin 4) (j : Fin 2048) (n : Fin 128) : EReal :=
  SsdRef.hs (A0 m c) (A1 m c) (A2 m c) (A3 m c) (A4 m c) (A5 m c) k (ix4 b ⟨j.val / 64, by omega⟩ ⟨j.val % 64, by omega⟩ n)

/-- One chunk takes the reference's state before it to the one after it. -/
theorem state_step (c : Dev nD) (t : Fin cfg0.N) (b : Fin 4) (k : Fin 16) (ht : t.val = 16 * b.val + k.val) (j : Fin 2048) (n : Fin 128)
    (hH : HK m c t (ix3 0 j n) = hsK m c k.castSucc b j n) :
    hcol (actK m c t) (HK m c t) (teK m c t) (cdK m c t) j n = hsK m c k.succ b j n := by
  have e1 := cd_join m c t b k ht ⟨j.val / 64, by omega⟩
  have e2 := fun s => te_join m c t b k ht s ⟨j.val / 64, by omega⟩
  dsimp only at e1 e2
  rw [hcol, hsK, SsdRef.hs_succ, SsdRef.decay_at, SsdRef.states_at, hH, e1]
  refine congrArg₂ (fun a b : EReal => a + b) rfl (Finset.sum_congr rfl fun s _ => ?_)
  rw [e2 s, act_join m c t b k ht, act_join m c t b k ht,
    show (⟨j.val, by omega⟩ : Fin 3072) = ⟨64 * (j.val / 64) + j.val % 64, by omega⟩ from Fin.ext (by dsimp only; omega),
    show (⟨2048 + 128 * (j.val / 512) + n.val, by omega⟩ : Fin 3072) = ⟨2048 + 128 * (j.val / 64 / 8) + n.val, by omega⟩ from Fin.ext (by dsimp only; omega)]
  dsimp only
  ac_rfl

/-- The state a chunk starts from is the reference's state before it. -/
theorem H_join (c : Dev nD) (b : Fin 4) (k : ℕ) (hk : k < 16) (t : Fin cfg0.N) (ht : t.val = 16 * b.val + k) (j : Fin 2048) (n : Fin 128) :
    HK m c t (ix3 0 j n) = hsK m c (Fin.castSucc ⟨k, hk⟩) b j n := by
  induction k generalizing t j n with
  | zero =>
    rw [HK, dif_pos (by omega)]
    exact (h0_at m c t _).trans (SsdRef.hs_zero _ _ _ _ _ _ _).symm
  | succ k ih =>
    have hlt : t.val - 1 < cfg0.N := Nat.lt_of_le_of_lt (Nat.sub_le _ _) t.isLt
    rw [HK, dif_neg (by omega)]
    refine (congrFun (state_at m c ⟨t.val - 1, hlt⟩) (ix3 0 j n)).trans ?_
    have ht' : (⟨t.val - 1, hlt⟩ : Fin cfg0.N).val = 16 * b.val + k := by dsimp only; omega
    exact state_step m c ⟨t.val - 1, hlt⟩ b ⟨k, by omega⟩ ht' j n (ih (by omega) ⟨t.val - 1, hlt⟩ ht' j n)

/-- What the last chunk of a sequence leaves is the reference's last state. -/
theorem last_join (c : Dev nD) (t : Fin cfg0.N) (b : Fin 4) (ht : t.val = 16 * b.val + 15) (j : Fin 2048) (n : Fin 128) :
    hcol (actK m c t) (HK m c t) (teK m c t) (cdK m c t) j n
    = val_main_v220 (F := Ideal) (A0 m c) (A1 m c) (A2 m c) (A3 m c) (A4 m c) (A5 m c) (ix4 b ⟨j.val / 64, by omega⟩ ⟨j.val % 64, by omega⟩ n) :=
  state_step m c t b 15 ht j n (H_join m c b 15 (by omega) t ht j n)

/-- The gated output of a chunk, row by row, is the reference's. -/
theorem raw_join (c : Dev nD) (t : Fin cfg0.N) (b : Fin 4) (k : Fin 16) (ht : t.val = 16 * b.val + k.val) (i : Fin 128) (j : Fin 2048) :
    yraw (actK m c t) (HK m c t) (acK m c t) (acTK m c t) (dtTK m c t) (eaK m c t) (X0_0 m c t) (iblk m c 6 t) i j
    = val_main_v255 (F := Ideal) (A0 m c) (A1 m c) (A2 m c) (A3 m c) (A4 m c) (A5 m c) (A6 m c) (ix3 b ⟨128 * k.val + i.val, by omega⟩ j) := by
  have eac := ac_join m c t b k ht i ⟨j.val / 64, by omega⟩
  have eacT := fun s => acT_join m c t b k ht s ⟨j.val / 64, by omega⟩
  have edt := fun s => dtT_join m c t b k ht s ⟨j.val / 64, by omega⟩
  have eea := ea_join m c t b k ht i ⟨j.val / 64, by omega⟩
  dsimp only at eac eacT edt eea
  have ej : (⟨j.val, by omega⟩ : Fin 3072) = ⟨64 * (j.val / 64) + j.val % 64, by omega⟩ := Fin.ext (by dsimp only; omega)
  rw [SsdRef.gated_at (hr := rfl) (hd := ⟨j.val / 64, by omega⟩) (p := ⟨j.val % 64, by omega⟩) (hj := by dsimp only; omega), yraw, ypr, x_at, skip_at,
    act_join m c t b k ht, SsdRef.diag_at, SsdRef.off_at, eea]
  refine congrArg₂ (fun a b : EReal => a * b) (congrArg₂ (fun a b : EReal => a + b) (congrArg₂ (fun a b : EReal => a + b)
    (Finset.sum_congr rfl fun s _ => ?_) (congrArg₂ (fun a b : EReal => a * b) (Finset.sum_congr rfl fun n _ => ?_) rfl)) rfl) ?_
  · rw [yterm, sel_at, SsdRef.mask_at, eac, eacT s, edt s, act_join m c t b k ht, ej]
    have eg : (∑ n : Fin 128, actK m c t (ix2 i ⟨2560 + 128 * (j.val / 512) + n.val, by omega⟩) * actK m c t (ix2 s ⟨2048 + 128 * (j.val / 512) + n.val, by omega⟩) : EReal)
        = ∑ n : Fin 128, val_main_v38 (F := Ideal) (A0 m c) (A2 m c) (A3 m c) (ix3 b ⟨128 * k.val + s.val, by omega⟩ ⟨2048 + 128 * (j.val / 64 / 8) + n.val, by omega⟩)
              * val_main_v38 (F := Ideal) (A0 m c) (A2 m c) (A3 m c) (ix3 b ⟨128 * k.val + i.val, by omega⟩ ⟨2560 + 128 * (j.val / 64 / 8) + n.val, by omega⟩) :=
      Finset.sum_congr rfl fun n _ => by
        rw [act_join m c t b k ht, act_join m c t b k ht, mul_comm]
        refine congrArg₂ (fun u v : Fin 3072 => val_main_v38 (F := Ideal) (A0 m c) (A2 m c) (A3 m c) (ix3 b _ u) * val_main_v38 (F := Ideal) (A0 m c) (A2 m c) (A3 m c) (ix3 b _ v)) (Fin.ext ?_) (Fin.ext ?_)
        all_goals dsimp only; omega
    rw [eg]
    by_cases h : s.val ≤ i.val
    · simp only [h, if_true]
      ac_rfl
    · simp only [h, if_false, mul_zero, zero_mul]
  · rw [act_join m c t b k ht, SsdRef.stack_apply, H_join m c b k.val k.isLt t ht j n,
      show (⟨2560 + 128 * (j.val / 512) + n.val, by omega⟩ : Fin 3072) = ⟨2560 + 128 * (j.val / 64 / 8) + n.val, by omega⟩ from Fin.ext (by dsimp only; omega)]
    exact mul_comm _ _
  · refine congrArg (fun r => A0 m c (ix2 r _) * Ideal.logistic (A0 m c (ix2 r _))) (Fin.ext ?_)
    dsimp only; omega

theorem out_join (c : Dev nD) (t : Fin cfg0.N) (b : Fin 4) (k : Fin 16) (ht : t.val = 16 * b.val + k.val) (i : Fin 128) (j : Fin 2048)
    (w : Cert.SsdRefIdeal.S8192x2048.Idx) (h0 : (w 0).val = 128 * t.val + i.val) (h1 : (w 1).val = j.val) :
    yout (actK m c t) (HK m c t) (acK m c t) (acTK m c t) (dtTK m c t) (eaK m c t) (X0_0 m c t) (iblk m c 6 t) (iblk m c 7 t) i j
    = val_main_v272 (F := Ideal) (A0 m c) (A1 m c) (A2 m c) (A3 m c) (A4 m c) (A5 m c) (A6 m c) (A7 m c) w := by
  rw [SsdRef.norm_at (A0 m c) (A1 m c) (A2 m c) (A3 m c) (A4 m c) (A5 m c) (A6 m c) (A7 m c) b ⟨128 * k.val + i.val, by omega⟩ j w (by rw [h0]; dsimp only; omega) h1, yout, nw_at]
  simp only [raw_join m c t b k ht]

theorem value_y (c : Dev nD) : (dats m 0 c).arrAt 10 (cfgs 0).N
    = val_main_v272 (F := Ideal) (A0 m c) (A1 m c) (A2 m c) (A3 m c) (A4 m c) (A5 m c) (A6 m c) (A7 m c) := by
  refine (dats m 0 c).arrAt_eq_of_covers 10 _ (by decide +kernel) fun t hf y => ?_
  have htl := t_lt t
  blk_simp
  rw [after0_10, out_at]
  have e : (win0_10.blk t).view.emb y = ix2 ⟨128 * t.val + (y 0).val, by have := (y 0).isLt; change _ < 128 at this; omega⟩ ⟨(y 1).val, (y 1).isLt⟩ := by
    blk_ext [idx t]
  exact out_join m c t ⟨t.val / 16, by omega⟩ ⟨t.val % 16, by omega⟩ (by dsimp only; omega) (y 0) (y 1) _ (congrArg (fun z => (z 0).val) e) (congrArg (fun z => (z 1).val) e)

theorem value_state (c : Dev nD) : (dats m 0 c).arrAt 11 (cfgs 0).N
    = val_main_v273 (F := Ideal) (A0 m c) (A1 m c) (A2 m c) (A3 m c) (A4 m c) (A5 m c) := by
  refine (dats m 0 c).arrAt_eq_of_covers 11 _ (by decide +kernel) fun t hf y => ?_
  have htl := t_lt t
  have h3 := (flush0_11 t).mp hf
  blk_simp
  rw [after0_11, state_at]
  refine (last_join m c t ⟨t.val / 16, by omega⟩ (by dsimp only; omega) (y 1) (y 2)).trans ?_
  refine (SsdRef.final_at _ _ _ _ _ _ ⟨t.val / 16, by omega⟩ (y 1) (y 2)).symm.trans ?_
  refine congrArg (val_main_v273 (F := Ideal) (A0 m c) (A1 m c) (A2 m c) (A3 m c) (A4 m c) (A5 m c)) ?_
  blk_ext [idx t]

end Cert.Layer.Ssd
end
end
-- ==== Proof.Layer.SsdClaim.lean ====
/- The claims about the state-space recurrence over the prompt, `Ssd`. -/
module

public import proofs.«01_k».proof.Defs
public import proofs.«01_k».proof.Proof.Gen.Ssd.Frame
public import proofs.«01_k».proof.Proof.Layer.SsdValue
public import Idealize.ShloMosaic.Lib.Claim

@[expose] public section

set_option maxRecDepth 16384

noncomputable section

open Idealize.ShloMosaic Idealize.ShloMosaic.TcCoe Idealize.SL.Sem

namespace Cert.Layer.Ssd
open Cert.SsdIdeal.Gen

theorem frame : Cert.quiescent_Ssd := fun m ρ _ => Cert.Ssd.Gen.frame m ρ

theorem frameI : Cert.quiescent_SsdIdeal := fun m ρ _ => Cert.SsdIdeal.Gen.frame m ρ

theorem frameR : Cert.quiescent_SsdRefIdeal := by
  intro m g _
  exact (θ_run _ _ _).mono (fun r h => ⟨fun c => (h c).2.2, sem_eq_zero_of_no_sems (by decide) r.2⟩) (Cert.SsdRefIdeal.Value.run m g)

/-- The reference's run, its results by the names of its last stages. -/
theorem ref_run (m : (ℓ : Loc Cert.SsdRefIdeal.nD Cert.SsdRefIdeal.τ Cert.SsdRefIdeal.sig) → Buf (Elt Ideal) ℓ) (g : Dev Cert.SsdRefIdeal.nD → PrngReg) :
    θ_run Cert.SsdRefIdeal.defs (onTc (τ := Cert.SsdRefIdeal.τ) (Cert.SsdRefIdeal.main (F := Ideal))) ⟨m, fun _ => 0, g⟩ fun r => ∀ c : Dev Cert.SsdRefIdeal.nD,
      r.2.mem ((c.tc : Thread _ _).loc Cert.SsdRefIdeal.main_v272) = Cert.SsdRefIdeal.Read.val_main_v272 (F := Ideal)
        (m ((c.tc : Thread _ _).loc Cert.SsdRefIdeal.main_arg0)) (m ((c.tc : Thread _ _).loc Cert.SsdRefIdeal.main_arg1))
        (m ((c.tc : Thread _ _).loc Cert.SsdRefIdeal.main_arg2)) (m ((c.tc : Thread _ _).loc Cert.SsdRefIdeal.main_arg3))
        (m ((c.tc : Thread _ _).loc Cert.SsdRefIdeal.main_arg4)) (m ((c.tc : Thread _ _).loc Cert.SsdRefIdeal.main_arg5))
        (m ((c.tc : Thread _ _).loc Cert.SsdRefIdeal.main_arg6)) (m ((c.tc : Thread _ _).loc Cert.SsdRefIdeal.main_arg7))
      ∧ r.2.mem ((c.tc : Thread _ _).loc Cert.SsdRefIdeal.main_v273) = Cert.SsdRefIdeal.Read.val_main_v273 (F := Ideal)
        (m ((c.tc : Thread _ _).loc Cert.SsdRefIdeal.main_arg0)) (m ((c.tc : Thread _ _).loc Cert.SsdRefIdeal.main_arg1))
        (m ((c.tc : Thread _ _).loc Cert.SsdRefIdeal.main_arg2)) (m ((c.tc : Thread _ _).loc Cert.SsdRefIdeal.main_arg3))
        (m ((c.tc : Thread _ _).loc Cert.SsdRefIdeal.main_arg4)) (m ((c.tc : Thread _ _).loc Cert.SsdRefIdeal.main_arg5))
      ∧ r.2.mem ((c.tc : Thread _ _).loc Cert.SsdRefIdeal.main_arg0) = m ((c.tc : Thread _ _).loc Cert.SsdRefIdeal.main_arg0)
      ∧ r.2.mem ((c.tc : Thread _ _).loc Cert.SsdRefIdeal.main_arg1) = m ((c.tc : Thread _ _).loc Cert.SsdRefIdeal.main_arg1)
      ∧ r.2.mem ((c.tc : Thread _ _).loc Cert.SsdRefIdeal.main_arg2) = m ((c.tc : Thread _ _).loc Cert.SsdRefIdeal.main_arg2)
      ∧ r.2.mem ((c.tc : Thread _ _).loc Cert.SsdRefIdeal.main_arg3) = m ((c.tc : Thread _ _).loc Cert.SsdRefIdeal.main_arg3)
      ∧ r.2.mem ((c.tc : Thread _ _).loc Cert.SsdRefIdeal.main_arg4) = m ((c.tc : Thread _ _).loc Cert.SsdRefIdeal.main_arg4)
      ∧ r.2.mem ((c.tc : Thread _ _).loc Cert.SsdRefIdeal.main_arg5) = m ((c.tc : Thread _ _).loc Cert.SsdRefIdeal.main_arg5)
      ∧ r.2.mem ((c.tc : Thread _ _).loc Cert.SsdRefIdeal.main_arg6) = m ((c.tc : Thread _ _).loc Cert.SsdRefIdeal.main_arg6)
      ∧ r.2.mem ((c.tc : Thread _ _).loc Cert.SsdRefIdeal.main_arg7) = m ((c.tc : Thread _ _).loc Cert.SsdRefIdeal.main_arg7) :=
  (θ_run _ _ _).mono (fun r h c => ⟨(h c).1.trans (Cert.SsdRefIdeal.Read.val_main_v272_eq _), (h c).2.1.trans (Cert.SsdRefIdeal.Read.val_main_v273_eq _), (h c).2.2⟩)
    (Cert.SsdRefIdeal.Value.run m g)

theorem algebraic : Cert.algebraic_SsdIdeal_SsdRefIdeal := by
  pair_intro
  · run_from Cert.SsdIdeal.Gen.run_main m g
    all_goals
      simp only [hostOps0, hostOps0_1, hostOps0_2, hostOps0_3, hostOps0_4, List.flatten_cons, List.flatten_nil, List.append_nil, List.cons_append, List.nil_append]
      entry_read
      rfl
  · run_from ref_run m' g'
    · exact (value_y m c).symm
    · exact (value_state m c).symm

end Cert.Layer.Ssd

end
-- ==== Proof.lean ====
module

public import proofs.«01_k».proof.Defs
public import proofs.«01_k».proof.Proof.Layer.UpClaim
public import proofs.«01_k».proof.Proof.Layer.DownClaim
public import proofs.«01_k».proof.Proof.Layer.WoClaim
public import proofs.«01_k».proof.Proof.Layer.GatesClaim
public import proofs.«01_k».proof.Proof.Layer.ZxClaim
public import proofs.«01_k».proof.Proof.Layer.DtrClaim
public import proofs.«01_k».proof.Proof.Layer.GluClaim
public import proofs.«01_k».proof.Proof.Layer.QkvClaim
public import proofs.«01_k».proof.Proof.Layer.MergeClaim
public import proofs.«01_k».proof.Proof.Layer.NormClaim
public import proofs.«01_k».proof.Proof.Layer.FinPClaim
public import proofs.«01_k».proof.Proof.Layer.FinSClaim
public import proofs.«01_k».proof.Proof.Layer.SsdClaim
public import Idealize.ShloMosaic.Adequacy
public import Idealize.ShloMosaic.Init

@[expose] public section

noncomputable section

namespace Cert.Proof

open Idealize.ShloMosaic Idealize.SL.Sem

theorem claim : Cert.Claim := ⟨
    Cert.Up.Gen.facts, Cert.UpIdeal.Gen.facts, Cert.UpRefIdeal.Gen.facts,
    Cert.Down.Gen.facts, Cert.DownIdeal.Gen.facts, Cert.DownRefIdeal.Gen.facts,
    Cert.Wo.Gen.facts, Cert.WoIdeal.Gen.facts, Cert.WoRefIdeal.Gen.facts,
    Cert.Gates.Gen.facts, Cert.GatesIdeal.Gen.facts, Cert.GatesRefIdeal.Gen.facts,
    Cert.Zx.Gen.facts, Cert.ZxIdeal.Gen.facts, Cert.ZxRefIdeal.Gen.facts,
    Cert.Dtr.Gen.facts, Cert.DtrIdeal.Gen.facts, Cert.DtrRefIdeal.Gen.facts,
    Cert.Glu.Gen.facts, Cert.GluIdeal.Gen.facts, Cert.GluRefIdeal.Gen.facts,
    Cert.Qkv.Gen.facts, Cert.QkvIdeal.Gen.facts, Cert.QkvRefIdeal.Gen.facts,
    Cert.Merge.Gen.facts, Cert.MergeIdeal.Gen.facts, Cert.MergeRefIdeal.Gen.facts,
    Cert.Norm.Gen.facts, Cert.NormIdeal.Gen.facts, Cert.NormRefIdeal.Gen.facts,
    Cert.FinP.Gen.facts, Cert.FinPIdeal.Gen.facts, Cert.FinPRefIdeal.Gen.facts,
    Cert.FinS.Gen.facts, Cert.FinSIdeal.Gen.facts, Cert.FinSRefIdeal.Gen.facts,
    Cert.Ssd.Gen.facts, Cert.SsdIdeal.Gen.facts, Cert.SsdRefIdeal.Gen.facts, by
  exact ⟨
    Layer.Up.frame, Layer.Up.frameI, Layer.Up.frameR,
    Layer.Down.frame, Layer.Down.frameI, Layer.Down.frameR,
    Layer.Wo.frame, Layer.Wo.frameI, Layer.Wo.frameR,
    Layer.Gates.frame, Layer.Gates.frameI, Layer.Gates.frameR,
    Layer.Zx.frame, Layer.Zx.frameI, Layer.Zx.frameR,
    Layer.Dtr.frame, Layer.Dtr.frameI, Layer.Dtr.frameR,
    Layer.Glu.frame, Layer.Glu.frameI, Layer.Glu.frameR,
    Layer.Qkv.frame, Layer.Qkv.frameI, Layer.Qkv.frameR,
    Layer.Merge.frame, Layer.Merge.frameI, Layer.Merge.frameR,
    Layer.Norm.frame, Layer.Norm.frameI, Layer.Norm.frameR,
    Layer.FinP.frame, Layer.FinP.frameI, Layer.FinP.frameR,
    Layer.FinS.frame, Layer.FinS.frameI, Layer.FinS.frameR,
    Layer.Ssd.frame, Layer.Ssd.frameI, Layer.Ssd.frameR,
    trivial, Layer.Up.algebraic,
    trivial, Layer.Down.algebraic,
    trivial, Layer.Wo.algebraic,
    trivial, Layer.Gates.algebraic,
    trivial, Layer.Zx.algebraic,
    trivial, Layer.Dtr.algebraic,
    trivial, Layer.Glu.algebraic,
    trivial, Layer.Qkv.algebraic,
    trivial, Layer.Merge.algebraic,
    trivial, Layer.Norm.algebraic,
    trivial, Layer.FinP.algebraic,
    trivial, Layer.FinS.algebraic,
    trivial, Layer.Ssd.algebraic⟩⟩

end Cert.Proof

end
